-- ==== Defs.lean ====
def Pre_Kernel [hPre_launched : Cert.Pre_launched.Facts] (m : (ℓ : Loc Cert.Kernel.nD Cert.Kernel.τ Cert.Kernel.sig) → Buf (Elt Bits) ℓ) : Prop :=
  ∀ c : Dev Cert.Kernel.nD,
    (Cert.Pre_launched.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_launched : Cert.Pre_launched.Facts] (m : (ℓ : Loc Cert.KernelIdeal.nD Cert.KernelIdeal.τ Cert.KernelIdeal.sig) → Buf (Elt Ideal) ℓ) : Prop :=
  ∀ c : Dev Cert.KernelIdeal.nD,
    (Cert.Pre_launched.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_launched : Cert.Pre_launched.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_launched.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Prep [hPre_ordered : Cert.Pre_ordered.Facts] (m : (ℓ : Loc Cert.Prep.nD Cert.Prep.τ Cert.Prep.sig) → Buf (Elt Bits) ℓ) : Prop :=
  ∀ c : Dev Cert.Prep.nD,
    (Cert.Pre_ordered.fn (F := Bits) (m ((c.tc : Thread Cert.Prep.nD Cert.Prep.τ).loc Cert.Prep.main_arg0)) (m ((c.tc : Thread Cert.Prep.nD Cert.Prep.τ).loc Cert.Prep.main_arg1)) (m ((c.tc : Thread Cert.Prep.nD Cert.Prep.τ).loc Cert.Prep.main_arg2)) (m ((c.tc : Thread Cert.Prep.nD Cert.Prep.τ).loc Cert.Prep.main_arg3)) (m ((c.tc : Thread Cert.Prep.nD Cert.Prep.τ).loc Cert.Prep.main_arg4))) = (fun _ => 1#1)

def Pre_PrepIdeal [hPre_ordered : Cert.Pre_ordered.Facts] (m : (ℓ : Loc Cert.PrepIdeal.nD Cert.PrepIdeal.τ Cert.PrepIdeal.sig) → Buf (Elt Ideal) ℓ) : Prop :=
  ∀ c : Dev Cert.PrepIdeal.nD,
    (Cert.Pre_ordered.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))) = (fun _ => 1#1)

def Pre_RowsIdeal [hPre_ordered : Cert.Pre_ordered.Facts] (m : (ℓ : Loc Cert.RowsIdeal.nD Cert.RowsIdeal.τ Cert.RowsIdeal.sig) → Buf (Elt Ideal) ℓ) : Prop :=
  ∀ c : Dev Cert.RowsIdeal.nD,
    (Cert.Pre_ordered.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2)) (m ((c.tc : Thread Cert.RowsIdeal.nD Cert.RowsIdeal.τ).loc Cert.RowsIdeal.main_arg3)) (m ((c.tc : Thread Cert.RowsIdeal.nD Cert.RowsIdeal.τ).loc Cert.RowsIdeal.main_arg4))) = (fun _ => 1#1)

def quiescent_Kernel [hKernel : Cert.Kernel.Facts] [hPre_launched : Cert.Pre_launched.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_launched : Cert.Pre_launched.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] [hPre_launched : Cert.Pre_launched.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Prep [hPrep : Cert.Prep.Facts] [hPre_ordered : Cert.Pre_ordered.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] [hPre_ordered : Cert.Pre_ordered.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_RowsIdeal [hRowsIdeal : Cert.RowsIdeal.Facts] [hPre_ordered : Cert.Pre_ordered.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "z_scale" .f32 0x3F38AA3B#32 (((2 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] [hPre_launched : Cert.Pre_launched.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_2)) (v1 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_2) = v0 c
          ∧ r.2.mem ((c.tc : Thread Cert.KernelIdeal.nD Cert.KernelIdeal.τ).loc Cert.KernelIdeal.main_v0_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Prep_PrepIdeal : Prop :=
  True

def algebraic_PrepIdeal_RowsIdeal [hPrepIdeal : Cert.PrepIdeal.Facts] [hRowsIdeal : Cert.RowsIdeal.Facts] [hPre_ordered : Cert.Pre_ordered.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.RowsIdeal.nD Cert.RowsIdeal.τ Cert.RowsIdeal.sig) → Buf (Elt Ideal) ℓ) (g' : Dev Cert.RowsIdeal.nD → PrngReg), Pre_PrepIdeal m →
    (∀ c : Dev Cert.PrepIdeal.nD,
      m' ((c.tc : Thread Cert.RowsIdeal.nD Cert.RowsIdeal.τ).loc Cert.RowsIdeal.main_arg0) = m ((c.tc : Thread Cert.PrepIdeal.nD Cert.PrepIdeal.τ).loc Cert.PrepIdeal.main_arg0)
      ∧ m' ((c.tc : Thread Cert.RowsIdeal.nD Cert.RowsIdeal.τ).loc Cert.RowsIdeal.main_arg1) = m ((c.tc : Thread Cert.PrepIdeal.nD Cert.PrepIdeal.τ).loc Cert.PrepIdeal.main_arg1)
      ∧ m' ((c.tc : Thread Cert.RowsIdeal.nD Cert.RowsIdeal.τ).loc Cert.RowsIdeal.main_arg2) = m ((c.tc : Thread Cert.PrepIdeal.nD Cert.PrepIdeal.τ).loc Cert.PrepIdeal.main_arg2)
      ∧ m' ((c.tc : Thread Cert.RowsIdeal.nD Cert.RowsIdeal.τ).loc Cert.RowsIdeal.main_arg3) = m ((c.tc : Thread Cert.PrepIdeal.nD Cert.PrepIdeal.τ).loc Cert.PrepIdeal.main_arg3)
      ∧ m' ((c.tc : Thread Cert.RowsIdeal.nD Cert.RowsIdeal.τ).loc Cert.RowsIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v2_1)) (v2 : (c : Dev Cert.PrepIdeal.nD) → Buf (Elt Ideal) ((c.tc : Thread Cert.PrepIdeal.nD Cert.PrepIdeal.τ).loc Cert.PrepIdeal.main_v2_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2_0) = v0 c
          ∧ r.2.mem ((c.tc : Thread Cert.PrepIdeal.nD Cert.PrepIdeal.τ).loc Cert.PrepIdeal.main_v2_1) = v1 c
          ∧ r.2.mem ((c.tc : Thread Cert.PrepIdeal.nD Cert.PrepIdeal.τ).loc Cert.PrepIdeal.main_v2_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.RowsIdeal.defs (F := Ideal)) (onTc (τ := Cert.RowsIdeal.τ) (Cert.RowsIdeal.main (F := Ideal))) ⟨m', fun _ => 0, g'⟩ (fun r => ∀ c : Dev Cert.RowsIdeal.nD,
          r.2.mem ((c.tc : Thread Cert.RowsIdeal.nD Cert.RowsIdeal.τ).loc Cert.RowsIdeal.main_v10_0) = v0 c
          ∧ r.2.mem ((c.tc : Thread Cert.RowsIdeal.nD Cert.RowsIdeal.τ).loc Cert.RowsIdeal.main_v10_1) = v1 c
          ∧ r.2.mem ((c.tc : Thread Cert.RowsIdeal.nD Cert.RowsIdeal.τ).loc Cert.RowsIdeal.main_v10_2) = v2 c
          ∧ r.2.mem ((c.tc : Thread Cert.RowsIdeal.nD Cert.RowsIdeal.τ).loc Cert.RowsIdeal.main_arg0) = m' ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m' ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m' ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m' ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m' ((c.tc : Thread Cert.RowsIdeal.nD Cert.RowsIdeal.τ).loc Cert.RowsIdeal.main_arg4))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hRowsIdeal : Cert.RowsIdeal.Facts) (hPre_launched : Cert.Pre_launched.Facts) (hPre_ordered : Cert.Pre_ordered.Facts),
    quiescent_Kernel (hKernel := hKernel) (hPre_launched := hPre_launched)
    ∧ quiescent_KernelIdeal (hKernelIdeal := hKernelIdeal) (hPre_launched := hPre_launched)
    ∧ quiescent_ReferenceIdeal (hReferenceIdeal := hReferenceIdeal) (hPre_launched := hPre_launched)
    ∧ quiescent_Prep (hPrep := hPrep) (hPre_ordered := hPre_ordered)
    ∧ quiescent_PrepIdeal (hPrepIdeal := hPrepIdeal) (hPre_ordered := hPre_ordered)
    ∧ quiescent_RowsIdeal (hRowsIdeal := hRowsIdeal) (hPre_ordered := hPre_ordered)
    ∧ preserves_Kernel_KernelIdeal
    ∧ algebraic_KernelIdeal_ReferenceIdeal (hKernelIdeal := hKernelIdeal) (hReferenceIdeal := hReferenceIdeal) (hPre_launched := hPre_launched)
    ∧ preserves_Prep_PrepIdeal
    ∧ algebraic_PrepIdeal_RowsIdeal (hPrepIdeal := hPrepIdeal) (hRowsIdeal := hRowsIdeal) (hPre_ordered := hPre_ordered)
-- ==== Pre_launched.lean ====
abbrev S7680x2560 : Shape := ⟨2, ![7680, 2560]⟩
abbrev S7680x1024 : Shape := ⟨2, ![7680, 1024]⟩
abbrev S7680x128 : Shape := ⟨2, ![7680, 128]⟩
abbrev S1280x151936 : Shape := ⟨2, ![1280, 151936]⟩
abbrev S20x151936 : Shape := ⟨2, ![20, 151936]⟩
abbrev S151936x1024 : Shape := ⟨2, ![151936, 1024]⟩
abbrev S1x151936 : Shape := ⟨2, ![1, 151936]⟩
abbrev S151936x128 : Shape := ⟨2, ![151936, 128]⟩
abbrev S5 : Shape := ⟨1, ![5]⟩
abbrev S_ : Shape := ⟨0, ![]⟩
abbrev S1 : Shape := ⟨1, ![1]⟩

class Facts : Prop where
  slices_S5_S1_2 : S5.Slices ![2] S1
  shapeCasts_S1_S_ : S1.ShapeCasts S_
  slices_S5_S1_1 : S5.Slices ![1] S1
  slices_S5_S1_0 : S5.Slices ![0] S1

variable [Facts]

def fn_part1 {F : FTy → Type} [FloatOps F] (main_arg9 : IVec S5 32) (main_v15 : IVec S_ 1) (main_v18 : IVec S_ 1) : IVec S_ 1 :=
  let main_v19 : IVec S_ 1 := andi main_v15 main_v18
  let main_v20 : IVec S1 32 := (extractStridedSlice S1 ![0] · slices_S5_S1_0) main_arg9
  let main_v21 : IVec S_ 32 := shapeCast S_ main_v20 shapeCasts_S1_S_
  let main_v22 : IVec S1 32 := (extractStridedSlice S1 ![2] · slices_S5_S1_2) main_arg9
  let main_v23 : IVec S_ 32 := shapeCast S_ main_v22 shapeCasts_S1_S_
  let main_c_4 : IVec S_ 32 := constantI S_ 32 1024#32
  let main_v24 : IVec S_ 32 := muli main_v23 main_c_4
  let main_v25 : IVec S_ 1 := cmpi .sle main_v21 main_v24
  let main_v26 : IVec S_ 1 := andi main_v19 main_v25
  main_v26

def fn {F : FTy → Type} [FloatOps F] (main_arg0 : FVec F S7680x2560 .bf16) (main_arg1 : FVec F S7680x1024 .fp8e4m3) (main_arg2 : FVec F S7680x128 .f32) (main_arg3 : IVec S1280x151936 8) (main_arg4 : FVec F S20x151936 .f32) (main_arg5 : FVec F S20x151936 .f32) (main_arg6 : FVec F S151936x1024 .fp8e4m3) (main_arg7 : FVec F S1x151936 .f32) (main_arg8 : FVec F S151936x128 .f32) (main_arg9 : IVec S5 32) (main_arg10 : IVec S_ 32) : IVec S_ 1 :=
  let main_v0 : IVec S1 32 := (extractStridedSlice S1 ![2] · slices_S5_S1_2) main_arg9
  let main_v1 : IVec S_ 32 := shapeCast S_ main_v0 shapeCasts_S1_S_
  let main_c : IVec S_ 32 := constantI S_ 32 1#32
  let main_v2 : IVec S_ 1 := cmpi .sge main_v1 main_c
  let main_v3 : IVec S1 32 := (extractStridedSlice S1 ![2] · slices_S5_S1_2) main_arg9
  let main_v4 : IVec S_ 32 := shapeCast S_ main_v3 shapeCasts_S1_S_
  let main_c_0 : IVec S_ 32 := constantI S_ 32 149#32
  let main_v5 : IVec S_ 1 := cmpi .sle main_v4 main_c_0
  let main_v6 : IVec S_ 1 := andi main_v2 main_v5
  let main_v7 : IVec S1 32 := (extractStridedSlice S1 ![2] · slices_S5_S1_2) main_arg9
  let main_v8 : IVec S_ 32 := shapeCast S_ main_v7 shapeCasts_S1_S_
  let main_c_1 : IVec S_ 32 := constantI S_ 32 1#32
  let main_v9 : IVec S_ 32 := addi main_v8 main_c_1
  let main_v10 : IVec S_ 1 := cmpi .eq main_arg10 main_v9
  let main_v11 : IVec S_ 1 := andi main_v6 main_v10
  let main_v12 : IVec S1 32 := (extractStridedSlice S1 ![1] · slices_S5_S1_1) main_arg9
  let main_v13 : IVec S_ 32 := shapeCast S_ main_v12 shapeCasts_S1_S_
  let main_c_2 : IVec S_ 32 := constantI S_ 32 0#32
  let main_v14 : IVec S_ 1 := cmpi .sge main_v13 main_c_2
  let main_v15 : IVec S_ 1 := andi main_v11 main_v14
  let main_v16 : IVec S1 32 := (extractStridedSlice S1 ![0] · slices_S5_S1_0) main_arg9
  let main_v17 : IVec S_ 32 := shapeCast S_ main_v16 shapeCasts_S1_S_
  let main_c_3 : IVec S_ 32 := constantI S_ 32 151936#32
  let main_v18 : IVec S_ 1 := cmpi .sle main_v17 main_c_3
  fn_part1 (F := F) main_arg9 main_v15 main_v18
-- ==== Pre_ordered.lean ====
abbrev S7680x1024 : Shape := ⟨2, ![7680, 1024]⟩
abbrev S7680x2560 : Shape := ⟨2, ![7680, 2560]⟩
abbrev S1024 : Shape := ⟨1, ![1024]⟩
abbrev S2560 : Shape := ⟨1, ![2560]⟩
abbrev S480 : Shape := ⟨1, ![480]⟩
abbrev S_ : Shape := ⟨0, ![]⟩

class Facts : Prop where
  bcast_S_S480 : S_.BroadcastsInDim S480 (![] : Fin 0 → Fin S480.rank)
  reducesTo_S480_S_d0 : S480.ReducesTo [0] S_
  h_S_ : 0 < S_.numel

variable [Facts]

def fn {F : FTy → Type} [FloatOps F] (main_arg0 : FVec F S7680x1024 .bf16) (main_arg1 : FVec F S7680x2560 .bf16) (main_arg2 : FVec F S1024 .f32) (main_arg3 : FVec F S2560 .f32) (main_arg4 : IVec S480 32) : IVec S_ 1 :=
  let main_c : IVec S_ 32 := constantI S_ 32 0#32
  let main_v0 : IVec S480 32 := broadcastInDim S480 ![] bcast_S_S480 main_c
  let main_v1 : IVec S480 1 := cmpi .sge main_arg4 main_v0
  let main_c_0 : IVec S_ 32 := constantI S_ 32 480#32
  let main_v2 : IVec S480 32 := broadcastInDim S480 ![] bcast_S_S480 main_c_0
  let main_v3 : IVec S480 1 := cmpi .slt main_arg4 main_v2
  let main_v4 : IVec S480 1 := andi main_v1 main_v3
  let main_c_1 : IVec S_ 1 := constantI S_ 1 1#1
  let main_v5 : IVec S_ 1 := (fun x v => Host.reduce IntOp.andi x v reducesTo_S480_S_d0 h_S_) main_v4 main_c_1
  main_v5
-- ==== Kernel.lean ====
abbrev S7680x2560 : Shape := ⟨2, ![7680, 2560]⟩
abbrev S7680x1024 : Shape := ⟨2, ![7680, 1024]⟩
abbrev S7680x128 : Shape := ⟨2, ![7680, 128]⟩
abbrev S1280x151936 : Shape := ⟨2, ![1280, 151936]⟩
abbrev S20x151936 : Shape := ⟨2, ![20, 151936]⟩
abbrev S151936x1024 : Shape := ⟨2, ![151936, 1024]⟩
abbrev S1x151936 : Shape := ⟨2, ![1, 151936]⟩
abbrev S151936x128 : Shape := ⟨2, ![151936, 128]⟩
abbrev S5 : Shape := ⟨1, ![5]⟩
abbrev S_ : Shape := ⟨0, ![]⟩
abbrev S7680x152576 : Shape := ⟨2, ![7680, 152576]⟩
abbrev S152576x1024 : Shape := ⟨2, ![152576, 1024]⟩
abbrev S384x2560 : Shape := ⟨2, ![384, 2560]⟩
abbrev S384x1024 : Shape := ⟨2, ![384, 1024]⟩
abbrev S384x128 : Shape := ⟨2, ![384, 128]⟩
abbrev S64x1024 : Shape := ⟨2, ![64, 1024]⟩
abbrev S20x1024 : Shape := ⟨2, ![20, 1024]⟩
abbrev S1024x1024 : Shape := ⟨2, ![1024, 1024]⟩
abbrev S1x1024 : Shape := ⟨2, ![1, 1024]⟩
abbrev S1024x128 : Shape := ⟨2, ![1024, 128]⟩
abbrev S1 : Shape := ⟨1, ![1]⟩
abbrev S2x2560x1024 : Shape := ⟨3, ![2, 2560, 1024]⟩
abbrev S128x1024 : Shape := ⟨2, ![128, 1024]⟩
abbrev S1x128x1024 : Shape := ⟨3, ![1, 128, 1024]⟩
abbrev S1x2560x1024 : Shape := ⟨3, ![1, 2560, 1024]⟩
abbrev S2560x1024 : Shape := ⟨2, ![2560, 1024]⟩
abbrev S384x1 : Shape := ⟨2, ![384, 1]⟩
abbrev S64x1 : Shape := ⟨2, ![64, 1]⟩
abbrev S384 : Shape := ⟨1, ![384]⟩

abbrev nBuf : Space → Nat
  | .hbm => 14
  | .vmem => 33
  | .smem => 2
  | _ => 0

abbrev bufTy : (tb : Table) → Fin (tcTables nBuf tb) → BufTy
  | .hbm, ⟨0, _⟩ => ⟨S7680x2560, .bf16⟩
  | .hbm, ⟨1, _⟩ => ⟨S7680x1024, .fp8e4m3⟩
  | .hbm, ⟨2, _⟩ => ⟨S7680x128, .f32⟩
  | .hbm, ⟨3, _⟩ => ⟨S1280x151936, .i8⟩
  | .hbm, ⟨4, _⟩ => ⟨S20x151936, .f32⟩
  | .hbm, ⟨5, _⟩ => ⟨S20x151936, .f32⟩
  | .hbm, ⟨6, _⟩ => ⟨S151936x1024, .fp8e4m3⟩
  | .hbm, ⟨7, _⟩ => ⟨S1x151936, .f32⟩
  | .hbm, ⟨8, _⟩ => ⟨S151936x128, .f32⟩
  | .hbm, ⟨9, _⟩ => ⟨S7680x152576, .f32⟩
  | .hbm, ⟨10, _⟩ => ⟨S7680x152576, .f32⟩
  | .hbm, ⟨11, _⟩ => ⟨S7680x128, .f32⟩
  | .hbm, ⟨12, _⟩ => ⟨S7680x128, .f32⟩
  | .hbm, ⟨13, _⟩ => ⟨S152576x1024, .bf16⟩
  | .local _ .vmem, ⟨0, _⟩ => ⟨S384x2560, .bf16⟩
  | .local _ .vmem, ⟨1, _⟩ => ⟨S384x2560, .bf16⟩
  | .local _ .vmem, ⟨2, _⟩ => ⟨S384x1024, .fp8e4m3⟩
  | .local _ .vmem, ⟨3, _⟩ => ⟨S384x1024, .fp8e4m3⟩
  | .local _ .vmem, ⟨4, _⟩ => ⟨S384x128, .f32⟩
  | .local _ .vmem, ⟨5, _⟩ => ⟨S384x128, .f32⟩
  | .local _ .vmem, ⟨6, _⟩ => ⟨S64x1024, .i8⟩
  | .local _ .vmem, ⟨7, _⟩ => ⟨S64x1024, .i8⟩
  | .local _ .vmem, ⟨8, _⟩ => ⟨S20x1024, .f32⟩
  | .local _ .vmem, ⟨9, _⟩ => ⟨S20x1024, .f32⟩
  | .local _ .vmem, ⟨10, _⟩ => ⟨S20x1024, .f32⟩
  | .local _ .vmem, ⟨11, _⟩ => ⟨S20x1024, .f32⟩
  | .local _ .vmem, ⟨12, _⟩ => ⟨S1024x1024, .fp8e4m3⟩
  | .local _ .vmem, ⟨13, _⟩ => ⟨S1024x1024, .fp8e4m3⟩
  | .local _ .vmem, ⟨14, _⟩ => ⟨S1x1024, .f32⟩
  | .local _ .vmem, ⟨15, _⟩ => ⟨S1x1024, .f32⟩
  | .local _ .vmem, ⟨16, _⟩ => ⟨S1024x128, .f32⟩
  | .local _ .vmem, ⟨17, _⟩ => ⟨S1024x128, .f32⟩
  | .local _ .vmem, ⟨18, _⟩ => ⟨S384x1024, .f32⟩
  | .local _ .vmem, ⟨19, _⟩ => ⟨S384x1024, .f32⟩
  | .local _ .vmem, ⟨20, _⟩ => ⟨S384x1024, .f32⟩
  | .local _ .vmem, ⟨21, _⟩ => ⟨S384x1024, .f32⟩
  | .local _ .vmem, ⟨22, _⟩ => ⟨S384x128, .f32⟩
  | .local _ .vmem, ⟨23, _⟩ => ⟨S384x128, .f32⟩
  | .local _ .vmem, ⟨24, _⟩ => ⟨S384x128, .f32⟩
  | .local _ .vmem, ⟨25, _⟩ => ⟨S384x128, .f32⟩
  | .local _ .vmem, ⟨26, _⟩ => ⟨S1024x1024, .bf16⟩
  | .local _ .vmem, ⟨27, _⟩ => ⟨S1024x1024, .bf16⟩
  | .local _ .vmem, ⟨28, _⟩ => ⟨S2x2560x1024, .bf16⟩
  | .local _ .vmem, ⟨29, _⟩ => ⟨S7680x128, .f32⟩
  | .local _ .vmem, ⟨30, _⟩ => ⟨S7680x128, .f32⟩
  | .local _ .vmem, ⟨31, _⟩ => ⟨S7680x128, .f32⟩
  | .local _ .vmem, ⟨32, _⟩ => ⟨S7680x128, .f32⟩
  | .local _ .smem, ⟨0, _⟩ => ⟨S_, .i32⟩
  | .local _ .smem, ⟨1, _⟩ => ⟨S5, .i32⟩
  | _, _ => ⟨S7680x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg10 : Ref sig .tc := ⟨.smem, 0, rfl⟩
abbrev main_arg9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![0, 20], ![true, false]⟩

abbrev pre0 : Pipeline.Prefetch sig := ⟨2, ![main_arg10.idx, main_arg9.idx], fun | 0 => main_arg10.names | 1 => main_arg9.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat, 20]

def k0_off1 (i : grid0.Static) : Fin 2 → Nat :=
  let arg1 : BitVec 32 := BitVec.ofNat 32 (i 1).val
  let c19_i32 : BitVec 32 := 19#32
  let v27 : BitVec 32 := Scalar.minsi arg1 c19_i32
  let v28 : Index := Scalar.indexCast v27
  let c0_6 : Index := 0#32
  ![v28.toNat, 0]
def k0_mult1 (i : grid0.Static) : BitVec 32 :=
  let arg1 : BitVec 32 := BitVec.ofNat 32 (i 1).val
  let c19_i32 : BitVec 32 := 19#32
  let v27 : BitVec 32 := Scalar.minsi arg1 c19_i32
  let c128_i32 : BitVec 32 := 128#32
  let v39 : BitVec 32 := Scalar.muli v27 c128_i32
  v39
def k0_off2 (i : grid0.Static) (arg0 : BitVec 32) : Fin 3 → Nat :=
  let c1_i32_8 : BitVec 32 := 1#32
  let v38 : BitVec 32 := Scalar.andi arg0 c1_i32_8
  let v41 : Index := Scalar.indexCast v38
  let arg1 : BitVec 32 := BitVec.ofNat 32 (i 1).val
  let c19_i32 : BitVec 32 := 19#32
  let v27 : BitVec 32 := Scalar.minsi arg1 c19_i32
  let c128_i32 : BitVec 32 := 128#32
  let v39 : BitVec 32 := Scalar.muli v27 c128_i32
  let v40 : BitVec 32 := v39
  let v42 : Index := Scalar.indexCast v40
  let c0_9 : Index := 0#32
  ![v41.toNat, v42.toNat, 0]
def k0_cond1 (arg0 : BitVec 32) (v0 : BitVec 32) : BitVec 1 :=
  let c1_i32 : BitVec 32 := 1#32
  let v1 : BitVec 32 := Scalar.subi v0 c1_i32
  let v2 : BitVec 1 := Scalar.cmpi .slt arg0 v1
  let v3 : BitVec 32 := Scalar.extui v2
  let c0_i32 : BitVec 32 := 0#32
  let v4 : BitVec 1 := Scalar.cmpi .ne v3 c0_i32
  v4

def k0_chk1 (i : grid0.Static) (arg0 : BitVec 32) (v0 : BitVec 32) : Prop :=
  (∀ (k0_h1 : k0_cond1 arg0 v0 = 1#1), ∀ a, (k0_off2 i arg0) a + S1x128x1024.size a ≤ S2x2560x1024.size a) ∧
  (∀ (k0_h1 : k0_cond1 arg0 v0 = 1#1), ∀ (hinb : ∀ a, (k0_off2 i arg0) a + S1x128x1024.size a ≤ S2x2560x1024.size a), (Rect.unit (s := S2x2560x1024) (k0_off2 i arg0) S1x128x1024.size hinb).PackedRows (EltTy.packing .bf16))
theorem k0_off2_inb : ∀ (i : grid0.Static) (arg0 : BitVec 32) (v0 : BitVec 32) (k0_hw1 : k0_chk1 i arg0 v0), ∀ (k0_h1 : k0_cond1 arg0 v0 = 1#1), ∀ a, (k0_off2 i arg0) a + S1x128x1024.size a ≤ S2x2560x1024.size a := fun i arg0 v0 k0_hw1 k0_h1 => k0_hw1.1 k0_h1
theorem k0_off2_packedbf16 : ∀ (i : grid0.Static) (arg0 : BitVec 32) (v0 : BitVec 32) (k0_hw1 : k0_chk1 i arg0 v0), ∀ (k0_h1 : k0_cond1 arg0 v0 = 1#1), (Rect.unit (s := S2x2560x1024) (k0_off2 i arg0) S1x128x1024.size (k0_off2_inb i arg0 v0 k0_hw1 k0_h1)).PackedRows (EltTy.packing .bf16) := fun i arg0 v0 k0_hw1 k0_h1 => k0_hw1.2 k0_h1 (k0_off2_inb i arg0 v0 k0_hw1 k0_h1)

def k0_mult2 (i : grid0.Static) : BitVec 32 :=
  let arg1 : BitVec 32 := BitVec.ofNat 32 (i 1).val
  let c384_i32 : BitVec 32 := 384#32
  let v13 : BitVec 32 := Scalar.muli arg1 c384_i32
  v13
def k0_off3 (arg0 : BitVec 32) : Fin 3 → Nat :=
  let c1_i32_8 : BitVec 32 := 1#32
  let v24 : BitVec 32 := Scalar.subi arg0 c1_i32_8
  let c1_i32_9 : BitVec 32 := 1#32
  let v25 : BitVec 32 := Scalar.andi v24 c1_i32_9
  let v26 : Index := Scalar.indexCast v25
  let c0_10 : Index := 0#32
  let c0_11 : Index := 0#32
  ![v26.toNat, 0, 0]
def k0_cond3 (arg0 : BitVec 32) : BitVec 1 :=
  let c0_i32_3 : BitVec 32 := 0#32
  let v10 : BitVec 1 := Scalar.cmpi .sgt arg0 c0_i32_3
  let v11 : BitVec 32 := Scalar.extui v10
  let c0_i32_4 : BitVec 32 := 0#32
  let v12 : BitVec 1 := Scalar.cmpi .ne v11 c0_i32_4
  v12

def k0_chk2 (arg0 : BitVec 32) : Prop :=
  (∀ (k0_h3 : k0_cond3 arg0 = 1#1), ∀ a, (k0_off3 arg0) a + S1x2560x1024.size a ≤ S2x2560x1024.size a)
theorem k0_off3_inb : ∀ (arg0 : BitVec 32) (k0_hw2 : k0_chk2 arg0), ∀ (k0_h3 : k0_cond3 arg0 = 1#1), ∀ a, (k0_off3 arg0) a + S1x2560x1024.size a ≤ S2x2560x1024.size a := fun arg0 k0_hw2 k0_h3 => k0_hw2 k0_h3

def k0_off4 (i : grid0.Static) : Fin 2 → Nat :=
  let arg1 : BitVec 32 := BitVec.ofNat 32 (i 1).val
  let c384_i32 : BitVec 32 := 384#32
  let v13 : BitVec 32 := Scalar.muli arg1 c384_i32
  let v14 : BitVec 32 := v13
  let v61 : Index := Scalar.indexCast v14
  let c0_29 : Index := 0#32
  ![v61.toNat, 0]
def k0_mult3 (i : grid0.Static) : BitVec 32 :=
  let arg1 : BitVec 32 := BitVec.ofNat 32 (i 1).val
  let c15_i32 : BitVec 32 := 15#32
  let v163 : BitVec 32 := Scalar.minsi arg1 c15_i32
  let c64_i32 : BitVec 32 := 64#32
  let v164 : BitVec 32 := Scalar.muli v163 c64_i32
  v164
def k0_off5 (i : grid0.Static) : Fin 2 → Nat :=
  let arg1 : BitVec 32 := BitVec.ofNat 32 (i 1).val
  let c15_i32 : BitVec 32 := 15#32
  let v163 : BitVec 32 := Scalar.minsi arg1 c15_i32
  let c64_i32 : BitVec 32 := 64#32
  let v164 : BitVec 32 := Scalar.muli v163 c64_i32
  let v165 : BitVec 32 := v164
  let v170 : Index := Scalar.indexCast v165
  let c0_37 : Index := 0#32
  ![v170.toNat, 0]
def k0_off6 (i : grid0.Static) : Fin 2 → Nat :=
  let arg1 : BitVec 32 := BitVec.ofNat 32 (i 1).val
  let c15_i32 : BitVec 32 := 15#32
  let v163 : BitVec 32 := Scalar.minsi arg1 c15_i32
  let c64_i32 : BitVec 32 := 64#32
  let v164 : BitVec 32 := Scalar.muli v163 c64_i32
  let v165 : BitVec 32 := v164
  let v173 : Index := Scalar.indexCast v165
  let c0_38 : Index := 0#32
  ![v173.toNat, 0]
def k0_off7 (i : grid0.Static) : Fin 2 → Nat :=
  let arg1 : BitVec 32 := BitVec.ofNat 32 (i 1).val
  let c384_i32 : BitVec 32 := 384#32
  let v13 : BitVec 32 := Scalar.muli arg1 c384_i32
  let v14 : BitVec 32 := v13
  let v191 : Index := Scalar.indexCast v14
  let c0_44 : Index := 0#32
  ![v191.toNat, 0]
def k0_cond4 (arg0 : BitVec 32) (v0 : BitVec 32) : BitVec 1 :=
  let c1_i32_42 : BitVec 32 := 1#32
  let v187 : BitVec 32 := Scalar.subi v0 c1_i32_42
  let v188 : BitVec 1 := Scalar.cmpi .eq arg0 v187
  let v189 : BitVec 32 := Scalar.extui v188
  let c0_i32_43 : BitVec 32 := 0#32
  let v190 : BitVec 1 := Scalar.cmpi .ne v189 c0_i32_43
  v190

def cc0_transform_0 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_2 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (b : grid0.Bounds) (i : (grid0.at b).Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.minsi arg1 c19_i32
  let c148_i32 : BitVec 32 := 148#32
  let v1 : BitVec 32 := Scalar.minsi arg0 c148_i32
  let c0_i32 : BitVec 32 := 0#32
  ![v0.toNat, v1.toNat]

def cc0_transform_4 (b : grid0.Bounds) (i : (grid0.at b).Coords) : Fin 2 → Nat :=
  let arg0 : BitVec 32 := BitVec.ofNat 32 (i 0).val
  let arg1 : BitVec 32 := BitVec.ofNat 32 (i 1).val
  let c148_i32 : BitVec 32 := 148#32
  let v0 : BitVec 32 := Scalar.minsi arg0 c148_i32
  let c0_i32 : BitVec 32 := 0#32
  let c0_i32_0 : BitVec 32 := 0#32
  ![c0_i32.toNat, v0.toNat]

def cc0_transform_5 (b : grid0.Bounds) (i : (grid0.at b).Coords) : Fin 2 → Nat :=
  let arg0 : BitVec 32 := BitVec.ofNat 32 (i 0).val
  let arg1 : BitVec 32 := BitVec.ofNat 32 (i 1).val
  let c148_i32 : BitVec 32 := 148#32
  let v0 : BitVec 32 := Scalar.minsi arg0 c148_i32
  let c0_i32 : BitVec 32 := 0#32
  let c0_i32_0 : BitVec 32 := 0#32
  ![c0_i32.toNat, v0.toNat]

def cc0_transform_6 (b : grid0.Bounds) (i : (grid0.at b).Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (b : grid0.Bounds) (i : (grid0.at b).Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (b : grid0.Bounds) (i : (grid0.at b).Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (inb_S5_S1_1 : ∀ a, (![1] : Fin 1 → Nat) a + S1.size a ≤ S5.size a) (numel1_S1 : S1.numel = 1) (pf : pre0.Contents (Elt F)) (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1 : Index := 1#32
  let v1 : BitVec 32 := pf.at 1 (Rect.unit (s := S5) ![1] S1.size inb_S5_S1_1) numel1_S1
  let v2 : BitVec 32 := Scalar.subi arg1 v1
  let c0_i32_0 : BitVec 32 := 0#32
  let v3 : BitVec 32 := Scalar.maxsi v2 c0_i32_0
  let c0_i32_1 : BitVec 32 := 0#32
  let v4 : BitVec 32 := Scalar.select v0 c0_i32_1 v3
  let c1_i32 : BitVec 32 := 1#32
  let v5 : BitVec 32 := Scalar.subi arg0 c1_i32
  let c0_i32_2 : BitVec 32 := 0#32
  let v6 : BitVec 32 := Scalar.maxsi v5 c0_i32_2
  let c0_i32_3 : BitVec 32 := 0#32
  ![v4.toNat, v6.toNat]

def cc0_transform_10 (inb_S5_S1_1 : ∀ a, (![1] : Fin 1 → Nat) a + S1.size a ≤ S5.size a) (numel1_S1 : S1.numel = 1) (pf : pre0.Contents (Elt F)) (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1 : Index := 1#32
  let v1 : BitVec 32 := pf.at 1 (Rect.unit (s := S5) ![1] S1.size inb_S5_S1_1) numel1_S1
  let v2 : BitVec 32 := Scalar.subi arg1 v1
  let c0_i32_0 : BitVec 32 := 0#32
  let v3 : BitVec 32 := Scalar.maxsi v2 c0_i32_0
  let c0_i32_1 : BitVec 32 := 0#32
  let v4 : BitVec 32 := Scalar.select v0 c0_i32_1 v3
  let c1_i32 : BitVec 32 := 1#32
  let v5 : BitVec 32 := Scalar.subi arg0 c1_i32
  let c0_i32_2 : BitVec 32 := 0#32
  let v6 : BitVec 32 := Scalar.maxsi v5 c0_i32_2
  let c0_i32_3 : BitVec 32 := 0#32
  ![v4.toNat, v6.toNat]

def cc0_transform_11 (inb_S5_S1_2 : ∀ a, (![2] : Fin 1 → Nat) a + S1.size a ≤ S5.size a) (numel1_S1 : S1.numel = 1) (pf : pre0.Contents (Elt F)) (b : grid0.Bounds) (i : (grid0.at b).Coords) : Fin 2 → Nat :=
  let arg0 : BitVec 32 := BitVec.ofNat 32 (i 0).val
  let arg1 : BitVec 32 := BitVec.ofNat 32 (i 1).val
  let c2 : Index := 2#32
  let v0 : BitVec 32 := pf.at 1 (Rect.unit (s := S5) ![2] S1.size inb_S5_S1_2) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_12 (inb_S5_S1_2 : ∀ a, (![2] : Fin 1 → Nat) a + S1.size a ≤ S5.size a) (numel1_S1 : S1.numel = 1) (pf : pre0.Contents (Elt F)) (b : grid0.Bounds) (i : (grid0.at b).Coords) : Fin 2 → Nat :=
  let arg0 : BitVec 32 := BitVec.ofNat 32 (i 0).val
  let arg1 : BitVec 32 := BitVec.ofNat 32 (i 1).val
  let c2 : Index := 2#32
  let v0 : BitVec 32 := pf.at 1 (Rect.unit (s := S5) ![2] S1.size inb_S5_S1_2) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_13 (b : grid0.Bounds) (i : (grid0.at b).Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S384x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S20x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S20x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S384x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "log2e" => some (((Real.log 2)⁻¹ : ℝ) : EReal)
  | "masked" => some ⊥
  | "z_scale" => some (((2 * (Real.log 2))⁻¹ : ℝ) : EReal)
  | _ => none
-- ==== ReferenceIdeal.lean ====
abbrev S7680x2560 : Shape := ⟨2, ![7680, 2560]⟩
abbrev S7680x1024 : Shape := ⟨2, ![7680, 1024]⟩
abbrev S7680x128 : Shape := ⟨2, ![7680, 128]⟩
abbrev S1280x151936 : Shape := ⟨2, ![1280, 151936]⟩
abbrev S20x151936 : Shape := ⟨2, ![20, 151936]⟩
abbrev S151936x1024 : Shape := ⟨2, ![151936, 1024]⟩
abbrev S1x151936 : Shape := ⟨2, ![1, 151936]⟩
abbrev S151936x128 : Shape := ⟨2, ![151936, 128]⟩
abbrev S5 : Shape := ⟨1, ![5]⟩
abbrev S_ : Shape := ⟨0, ![]⟩
abbrev S1280x1x151936 : Shape := ⟨3, ![1280, 1, 151936]⟩
abbrev S1280x2x151936 : Shape := ⟨3, ![1280, 2, 151936]⟩
abbrev S20x128x151936 : Shape := ⟨3, ![20, 128, 151936]⟩
abbrev S20x1x151936 : Shape := ⟨3, ![20, 1, 151936]⟩
abbrev S2560x151936 : Shape := ⟨2, ![2560, 151936]⟩
abbrev S7680x151936 : Shape := ⟨2, ![7680, 151936]⟩
abbrev S151936 : Shape := ⟨1, ![151936]⟩
abbrev S1 : Shape := ⟨1, ![1]⟩
abbrev S7680 : Shape := ⟨1, ![7680]⟩
abbrev S7680x1 : Shape := ⟨2, ![7680, 1]⟩

abbrev nBuf : Space → Nat
  | .hbm => 65
  | .vmem => 5
  | .smem => 1
  | _ => 0

abbrev bufTy : (tb : Table) → Fin (tcTables nBuf tb) → BufTy
  | .hbm, ⟨0, _⟩ => ⟨S7680x2560, .bf16⟩
  | .hbm, ⟨1, _⟩ => ⟨S7680x1024, .fp8e4m3⟩
  | .hbm, ⟨2, _⟩ => ⟨S7680x128, .f32⟩
  | .hbm, ⟨3, _⟩ => ⟨S1280x151936, .i8⟩
  | .hbm, ⟨4, _⟩ => ⟨S20x151936, .f32⟩
  | .hbm, ⟨5, _⟩ => ⟨S20x151936, .f32⟩
  | .hbm, ⟨6, _⟩ => ⟨S151936x1024, .fp8e4m3⟩
  | .hbm, ⟨7, _⟩ => ⟨S1x151936, .f32⟩
  | .hbm, ⟨8, _⟩ => ⟨S151936x128, .f32⟩
  | .hbm, ⟨9, _⟩ => ⟨S5, .i32⟩
  | .hbm, ⟨10, _⟩ => ⟨S_, .i32⟩
  | .hbm, ⟨11, _⟩ => ⟨S1280x151936, .i32⟩
  | .hbm, ⟨12, _⟩ => ⟨S_, .i32⟩
  | .hbm, ⟨13, _⟩ => ⟨S1280x151936, .i32⟩
  | .hbm, ⟨14, _⟩ => ⟨S1280x151936, .i32⟩
  | .hbm, ⟨15, _⟩ => ⟨S_, .i32⟩
  | .hbm, ⟨16, _⟩ => ⟨S1280x151936, .i32⟩
  | .hbm, ⟨17, _⟩ => ⟨S1280x151936, .i32⟩
  | .hbm, ⟨18, _⟩ => ⟨S1280x1x151936, .i32⟩
  | .hbm, ⟨19, _⟩ => ⟨S1280x1x151936, .i32⟩
  | .hbm, ⟨20, _⟩ => ⟨S1280x2x151936, .i32⟩
  | .hbm, ⟨21, _⟩ => ⟨S20x128x151936, .i32⟩
  | .hbm, ⟨22, _⟩ => ⟨S20x128x151936, .bf16⟩
  | .hbm, ⟨23, _⟩ => ⟨S20x151936, .bf16⟩
  | .hbm, ⟨24, _⟩ => ⟨S20x151936, .bf16⟩
  | .hbm, ⟨25, _⟩ => ⟨S20x1x151936, .bf16⟩
  | .hbm, ⟨26, _⟩ => ⟨S20x128x151936, .bf16⟩
  | .hbm, ⟨27, _⟩ => ⟨S20x128x151936, .bf16⟩
  | .hbm, ⟨28, _⟩ => ⟨S20x1x151936, .bf16⟩
  | .hbm, ⟨29, _⟩ => ⟨S20x128x151936, .bf16⟩
  | .hbm, ⟨30, _⟩ => ⟨S20x128x151936, .bf16⟩
  | .hbm, ⟨31, _⟩ => ⟨S2560x151936, .bf16⟩
  | .hbm, ⟨32, _⟩ => ⟨S7680x151936, .f32⟩
  | .hbm, ⟨33, _⟩ => ⟨S151936, .i32⟩
  | .hbm, ⟨34, _⟩ => ⟨S1, .i32⟩
  | .hbm, ⟨35, _⟩ => ⟨S_, .i32⟩
  | .hbm, ⟨36, _⟩ => ⟨S151936, .i32⟩
  | .hbm, ⟨37, _⟩ => ⟨S151936, .i1⟩
  | .hbm, ⟨38, _⟩ => ⟨S1x151936, .i1⟩
  | .hbm, ⟨39, _⟩ => ⟨S_, .f32⟩
  | .hbm, ⟨40, _⟩ => ⟨S7680x151936, .f32⟩
  | .hbm, ⟨41, _⟩ => ⟨S7680x151936, .f32⟩
  | .hbm, ⟨42, _⟩ => ⟨S_, .f32⟩
  | .hbm, ⟨43, _⟩ => ⟨S_, .f32⟩
  | .hbm, ⟨44, _⟩ => ⟨S7680x151936, .i1⟩
  | .hbm, ⟨45, _⟩ => ⟨S7680x151936, .f32⟩
  | .hbm, ⟨46, _⟩ => ⟨S7680x151936, .f32⟩
  | .hbm, ⟨47, _⟩ => ⟨S_, .f32⟩
  | .hbm, ⟨48, _⟩ => ⟨S7680, .f32⟩
  | .hbm, ⟨49, _⟩ => ⟨S7680x1, .f32⟩
  | .hbm, ⟨50, _⟩ => ⟨S7680x151936, .f32⟩
  | .hbm, ⟨51, _⟩ => ⟨S7680x151936, .f32⟩
  | .hbm, ⟨52, _⟩ => ⟨S7680x151936, .f32⟩
  | .hbm, ⟨53, _⟩ => ⟨S_, .f32⟩
  | .hbm, ⟨54, _⟩ => ⟨S7680, .f32⟩
  | .hbm, ⟨55, _⟩ => ⟨S7680, .f32⟩
  | .hbm, ⟨56, _⟩ => ⟨S7680, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S7680, .f32⟩
  | .hbm, ⟨61, _⟩ => ⟨S7680, .f32⟩
  | .hbm, ⟨62, _⟩ => ⟨S7680x1, .f32⟩
  | .hbm, ⟨63, _⟩ => ⟨S7680x128, .f32⟩
  | .hbm, ⟨64, _⟩ => ⟨S7680x128, .f32⟩
  | .local _ .vmem, ⟨0, _⟩ => ⟨S7680x1024, .fp8e4m3⟩
  | .local _ .vmem, ⟨1, _⟩ => ⟨S7680x128, .f32⟩
  | .local _ .vmem, ⟨2, _⟩ => ⟨S151936x1024, .fp8e4m3⟩
  | .local _ .vmem, ⟨3, _⟩ => ⟨S1x151936, .f32⟩
  | .local _ .vmem, ⟨4, _⟩ => ⟨S7680x128, .f32⟩
  | .local _ .smem, ⟨0, _⟩ => ⟨S5, .i32⟩
  | _, _ => ⟨S7680x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S7680x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S151936x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x151936 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S5 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Prep.lean ====
abbrev S7680x1024 : Shape := ⟨2, ![7680, 1024]⟩
abbrev S7680x2560 : Shape := ⟨2, ![7680, 2560]⟩
abbrev S1024 : Shape := ⟨1, ![1024]⟩
abbrev S2560 : Shape := ⟨1, ![2560]⟩
abbrev S480 : Shape := ⟨1, ![480]⟩
abbrev S1x2560 : Shape := ⟨2, ![1, 2560]⟩
abbrev S1x1024 : Shape := ⟨2, ![1, 1024]⟩
abbrev S7680x128 : Shape := ⟨2, ![7680, 128]⟩
abbrev S16x2560 : Shape := ⟨2, ![16, 2560]⟩
abbrev S1 : Shape := ⟨1, ![1]⟩
abbrev S16x1024 : Shape := ⟨2, ![16, 1024]⟩
abbrev S256x2560 : Shape := ⟨2, ![256, 2560]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 72
  | .smem => 1
  | _ => 0

abbrev bufTy : (tb : Table) → Fin (tcTables nBuf tb) → BufTy
  | .hbm, ⟨0, _⟩ => ⟨S7680x1024, .bf16⟩
  | .hbm, ⟨1, _⟩ => ⟨S7680x2560, .bf16⟩
  | .hbm, ⟨2, _⟩ => ⟨S1024, .f32⟩
  | .hbm, ⟨3, _⟩ => ⟨S2560, .f32⟩
  | .hbm, ⟨4, _⟩ => ⟨S1x2560, .f32⟩
  | .hbm, ⟨5, _⟩ => ⟨S1x1024, .f32⟩
  | .hbm, ⟨6, _⟩ => ⟨S7680x2560, .bf16⟩
  | .hbm, ⟨7, _⟩ => ⟨S7680x1024, .fp8e4m3⟩
  | .hbm, ⟨8, _⟩ => ⟨S7680x128, .f32⟩
  | .local _ .vmem, ⟨0, _⟩ => ⟨S16x2560, .bf16⟩
  | .local _ .vmem, ⟨1, _⟩ => ⟨S16x2560, .bf16⟩
  | .local _ .vmem, ⟨2, _⟩ => ⟨S16x2560, .bf16⟩
  | .local _ .vmem, ⟨3, _⟩ => ⟨S16x2560, .bf16⟩
  | .local _ .vmem, ⟨4, _⟩ => ⟨S16x2560, .bf16⟩
  | .local _ .vmem, ⟨5, _⟩ => ⟨S16x2560, .bf16⟩
  | .local _ .vmem, ⟨6, _⟩ => ⟨S16x2560, .bf16⟩
  | .local _ .vmem, ⟨7, _⟩ => ⟨S16x2560, .bf16⟩
  | .local _ .vmem, ⟨8, _⟩ => ⟨S16x2560, .bf16⟩
  | .local _ .vmem, ⟨9, _⟩ => ⟨S16x2560, .bf16⟩
  | .local _ .vmem, ⟨10, _⟩ => ⟨S16x2560, .bf16⟩
  | .local _ .vmem, ⟨11, _⟩ => ⟨S16x2560, .bf16⟩
  | .local _ .vmem, ⟨12, _⟩ => ⟨S16x2560, .bf16⟩
  | .local _ .vmem, ⟨13, _⟩ => ⟨S16x2560, .bf16⟩
  | .local _ .vmem, ⟨14, _⟩ => ⟨S16x2560, .bf16⟩
  | .local _ .vmem, ⟨15, _⟩ => ⟨S16x2560, .bf16⟩
  | .local _ .vmem, ⟨16, _⟩ => ⟨S16x2560, .bf16⟩
  | .local _ .vmem, ⟨17, _⟩ => ⟨S16x2560, .bf16⟩
  | .local _ .vmem, ⟨18, _⟩ => ⟨S16x2560, .bf16⟩
  | .local _ .vmem, ⟨19, _⟩ => ⟨S16x2560, .bf16⟩
  | .local _ .vmem, ⟨20, _⟩ => ⟨S16x2560, .bf16⟩
  | .local _ .vmem, ⟨21, _⟩ => ⟨S16x2560, .bf16⟩
  | .local _ .vmem, ⟨22, _⟩ => ⟨S16x2560, .bf16⟩
  | .local _ .vmem, ⟨23, _⟩ => ⟨S16x2560, .bf16⟩
  | .local _ .vmem, ⟨24, _⟩ => ⟨S16x2560, .bf16⟩
  | .local _ .vmem, ⟨25, _⟩ => ⟨S16x2560, .bf16⟩
  | .local _ .vmem, ⟨26, _⟩ => ⟨S16x2560, .bf16⟩
  | .local _ .vmem, ⟨27, _⟩ => ⟨S16x2560, .bf16⟩
  | .local _ .vmem, ⟨28, _⟩ => ⟨S16x2560, .bf16⟩
  | .local _ .vmem, ⟨29, _⟩ => ⟨S16x2560, .bf16⟩
  | .local _ .vmem, ⟨30, _⟩ => ⟨S16x2560, .bf16⟩
  | .local _ .vmem, ⟨31, _⟩ => ⟨S16x2560, .bf16⟩
  | .local _ .vmem, ⟨32, _⟩ => ⟨S16x1024, .bf16⟩
  | .local _ .vmem, ⟨33, _⟩ => ⟨S16x1024, .bf16⟩
  | .local _ .vmem, ⟨34, _⟩ => ⟨S16x1024, .bf16⟩
  | .local _ .vmem, ⟨35, _⟩ => ⟨S16x1024, .bf16⟩
  | .local _ .vmem, ⟨36, _⟩ => ⟨S16x1024, .bf16⟩
  | .local _ .vmem, ⟨37, _⟩ => ⟨S16x1024, .bf16⟩
  | .local _ .vmem, ⟨38, _⟩ => ⟨S16x1024, .bf16⟩
  | .local _ .vmem, ⟨39, _⟩ => ⟨S16x1024, .bf16⟩
  | .local _ .vmem, ⟨40, _⟩ => ⟨S16x1024, .bf16⟩
  | .local _ .vmem, ⟨41, _⟩ => ⟨S16x1024, .bf16⟩
  | .local _ .vmem, ⟨42, _⟩ => ⟨S16x1024, .bf16⟩
  | .local _ .vmem, ⟨43, _⟩ => ⟨S16x1024, .bf16⟩
  | .local _ .vmem, ⟨44, _⟩ => ⟨S16x1024, .bf16⟩
  | .local _ .vmem, ⟨45, _⟩ => ⟨S16x1024, .bf16⟩
  | .local _ .vmem, ⟨46, _⟩ => ⟨S16x1024, .bf16⟩
  | .local _ .vmem, ⟨47, _⟩ => ⟨S16x1024, .bf16⟩
  | .local _ .vmem, ⟨48, _⟩ => ⟨S16x1024, .bf16⟩
  | .local _ .vmem, ⟨49, _⟩ => ⟨S16x1024, .bf16⟩
  | .local _ .vmem, ⟨50, _⟩ => ⟨S16x1024, .bf16⟩
  | .local _ .vmem, ⟨51, _⟩ => ⟨S16x1024, .bf16⟩
  | .local _ .vmem, ⟨52, _⟩ => ⟨S16x1024, .bf16⟩
  | .local _ .vmem, ⟨53, _⟩ => ⟨S16x1024, .bf16⟩
  | .local _ .vmem, ⟨54, _⟩ => ⟨S16x1024, .bf16⟩
  | .local _ .vmem, ⟨55, _⟩ => ⟨S16x1024, .bf16⟩
  | .local _ .vmem, ⟨56, _⟩ => ⟨S16x1024, .bf16⟩
  | .local _ .vmem, ⟨57, _⟩ => ⟨S16x1024, .bf16⟩
  | .local _ .vmem, ⟨58, _⟩ => ⟨S16x1024, .bf16⟩
  | .local _ .vmem, ⟨59, _⟩ => ⟨S16x1024, .bf16⟩
  | .local _ .vmem, ⟨60, _⟩ => ⟨S16x1024, .bf16⟩
  | .local _ .vmem, ⟨61, _⟩ => ⟨S16x1024, .bf16⟩
  | .local _ .vmem, ⟨62, _⟩ => ⟨S16x1024, .bf16⟩
  | .local _ .vmem, ⟨63, _⟩ => ⟨S16x1024, .bf16⟩
  | .local _ .vmem, ⟨64, _⟩ => ⟨S1x2560, .f32⟩
  | .local _ .vmem, ⟨65, _⟩ => ⟨S1x1024, .f32⟩
  | .local _ .vmem, ⟨66, _⟩ => ⟨S256x2560, .bf16⟩
  | .local _ .vmem, ⟨67, _⟩ => ⟨S256x2560, .bf16⟩
  | .local _ .vmem, ⟨68, _⟩ => ⟨S256x1024, .fp8e4m3⟩
  | .local _ .vmem, ⟨69, _⟩ => ⟨S256x1024, .fp8e4m3⟩
  | .local _ .vmem, ⟨70, _⟩ => ⟨S256x128, .f32⟩
  | .local _ .vmem, ⟨71, _⟩ => ⟨S256x128, .f32⟩
  | .local _ .smem, ⟨0, _⟩ => ⟨S480, .i32⟩
  | _, _ => ⟨S7680x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg33_0 : Ref sig .tc := ⟨.vmem, 65, rfl⟩
abbrev cc0_stg34_0 : Ref sig .tc := ⟨.vmem, 66, rfl⟩
abbrev cc0_stg34_1 : Ref sig .tc := ⟨.vmem, 67, rfl⟩
abbrev cc0_stg35_0 : Ref sig .tc := ⟨.vmem, 68, rfl⟩
abbrev cc0_stg35_1 : Ref sig .tc := ⟨.vmem, 69, rfl⟩
abbrev cc0_stg36_0 : Ref sig .tc := ⟨.vmem, 70, rfl⟩
abbrev cc0_stg36_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem33_0 : DmaSem sig := 65
abbrev cc0_sem34_0 : DmaSem sig := 66
abbrev cc0_sem34_1 : DmaSem sig := 67
abbrev cc0_sem35_0 : DmaSem sig := 68
abbrev cc0_sem35_1 : DmaSem sig := 69
abbrev cc0_sem36_0 : DmaSem sig := 70
abbrev cc0_sem36_1 : DmaSem sig := 71

abbrev nD : Nat := 1
abbrev τ : Topo := Topo.v7x

variable {F : FTy → Type} [FloatOps F]

abbrev grid0 : Pipeline.Grid := ⟨1, ![30], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def cc0_transform_0 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S480) ![v2.toNat] S1.size (k0_off1_inb i 0)) numel1_S1
  let c0_i32_0 : BitVec 32 := 0#32
  let c0_i32_1 : BitVec 32 := 0#32
  ![v3.toNat, c0_i32_0.toNat]

def cc0_transform_1 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S480) ![v2.toNat] S1.size (k0_off1_inb i 1)) numel1_S1
  let c0_i32 : BitVec 32 := 0#32
  let c0_i32_0 : BitVec 32 := 0#32
  ![v3.toNat, c0_i32.toNat]

def cc0_transform_2 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S480) ![v2.toNat] S1.size (k0_off1_inb i 2)) numel1_S1
  let c0_i32 : BitVec 32 := 0#32
  let c0_i32_0 : BitVec 32 := 0#32
  ![v3.toNat, c0_i32.toNat]

def cc0_transform_3 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S480) ![v2.toNat] S1.size (k0_off1_inb i 3)) numel1_S1
  let c0_i32 : BitVec 32 := 0#32
  let c0_i32_0 : BitVec 32 := 0#32
  ![v3.toNat, c0_i32.toNat]

def cc0_transform_4 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S480) ![v2.toNat] S1.size (k0_off1_inb i 4)) numel1_S1
  let c0_i32 : BitVec 32 := 0#32
  let c0_i32_0 : BitVec 32 := 0#32
  ![v3.toNat, c0_i32.toNat]

def cc0_transform_5 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S480) ![v2.toNat] S1.size (k0_off1_inb i 5)) numel1_S1
  let c0_i32 : BitVec 32 := 0#32
  let c0_i32_0 : BitVec 32 := 0#32
  ![v3.toNat, c0_i32.toNat]

def cc0_transform_6 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S480) ![v2.toNat] S1.size (k0_off1_inb i 6)) numel1_S1
  let c0_i32 : BitVec 32 := 0#32
  let c0_i32_0 : BitVec 32 := 0#32
  ![v3.toNat, c0_i32.toNat]

def cc0_transform_7 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S480) ![v2.toNat] S1.size (k0_off1_inb i 7)) numel1_S1
  let c0_i32 : BitVec 32 := 0#32
  let c0_i32_0 : BitVec 32 := 0#32
  ![v3.toNat, c0_i32.toNat]

def cc0_transform_8 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S480) ![v2.toNat] S1.size (k0_off1_inb i 8)) numel1_S1
  let c0_i32 : BitVec 32 := 0#32
  let c0_i32_0 : BitVec 32 := 0#32
  ![v3.toNat, c0_i32.toNat]

def cc0_transform_9 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S480) ![v2.toNat] S1.size (k0_off1_inb i 9)) numel1_S1
  let c0_i32 : BitVec 32 := 0#32
  let c0_i32_0 : BitVec 32 := 0#32
  ![v3.toNat, c0_i32.toNat]

def cc0_transform_10 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S480) ![v2.toNat] S1.size (k0_off1_inb i 10)) numel1_S1
  let c0_i32 : BitVec 32 := 0#32
  let c0_i32_0 : BitVec 32 := 0#32
  ![v3.toNat, c0_i32.toNat]

def cc0_transform_11 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S480) ![v2.toNat] S1.size (k0_off1_inb i 11)) numel1_S1
  let c0_i32 : BitVec 32 := 0#32
  let c0_i32_0 : BitVec 32 := 0#32
  ![v3.toNat, c0_i32.toNat]

def cc0_transform_12 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S480) ![v2.toNat] S1.size (k0_off1_inb i 12)) numel1_S1
  let c0_i32 : BitVec 32 := 0#32
  let c0_i32_0 : BitVec 32 := 0#32
  ![v3.toNat, c0_i32.toNat]

def cc0_transform_13 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S480) ![v2.toNat] S1.size (k0_off1_inb i 13)) numel1_S1
  let c0_i32 : BitVec 32 := 0#32
  let c0_i32_0 : BitVec 32 := 0#32
  ![v3.toNat, c0_i32.toNat]

def cc0_transform_14 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S480) ![v2.toNat] S1.size (k0_off1_inb i 14)) numel1_S1
  let c0_i32 : BitVec 32 := 0#32
  let c0_i32_0 : BitVec 32 := 0#32
  ![v3.toNat, c0_i32.toNat]

def cc0_transform_15 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S480) ![v2.toNat] S1.size (k0_off1_inb i 15)) numel1_S1
  let c0_i32 : BitVec 32 := 0#32
  let c0_i32_0 : BitVec 32 := 0#32
  ![v3.toNat, c0_i32.toNat]

def cc0_transform_16 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S480) ![v2.toNat] S1.size (k0_off1_inb i 0)) numel1_S1
  let c0_i32_0 : BitVec 32 := 0#32
  let c0_i32_1 : BitVec 32 := 0#32
  ![v3.toNat, c0_i32_0.toNat]

def cc0_transform_17 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S480) ![v2.toNat] S1.size (k0_off1_inb i 1)) numel1_S1
  let c0_i32 : BitVec 32 := 0#32
  let c0_i32_0 : BitVec 32 := 0#32
  ![v3.toNat, c0_i32.toNat]

def cc0_transform_18 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S480) ![v2.toNat] S1.size (k0_off1_inb i 2)) numel1_S1
  let c0_i32 : BitVec 32 := 0#32
  let c0_i32_0 : BitVec 32 := 0#32
  ![v3.toNat, c0_i32.toNat]

def cc0_transform_19 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S480) ![v2.toNat] S1.size (k0_off1_inb i 3)) numel1_S1
  let c0_i32 : BitVec 32 := 0#32
  let c0_i32_0 : BitVec 32 := 0#32
  ![v3.toNat, c0_i32.toNat]

def cc0_transform_20 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S480) ![v2.toNat] S1.size (k0_off1_inb i 4)) numel1_S1
  let c0_i32 : BitVec 32 := 0#32
  let c0_i32_0 : BitVec 32 := 0#32
  ![v3.toNat, c0_i32.toNat]

def cc0_transform_21 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S480) ![v2.toNat] S1.size (k0_off1_inb i 5)) numel1_S1
  let c0_i32 : BitVec 32 := 0#32
  let c0_i32_0 : BitVec 32 := 0#32
  ![v3.toNat, c0_i32.toNat]

def cc0_transform_22 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S480) ![v2.toNat] S1.size (k0_off1_inb i 6)) numel1_S1
  let c0_i32 : BitVec 32 := 0#32
  let c0_i32_0 : BitVec 32 := 0#32
  ![v3.toNat, c0_i32.toNat]

def cc0_transform_23 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S480) ![v2.toNat] S1.size (k0_off1_inb i 7)) numel1_S1
  let c0_i32 : BitVec 32 := 0#32
  let c0_i32_0 : BitVec 32 := 0#32
  ![v3.toNat, c0_i32.toNat]

def cc0_transform_24 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S480) ![v2.toNat] S1.size (k0_off1_inb i 8)) numel1_S1
  let c0_i32 : BitVec 32 := 0#32
  let c0_i32_0 : BitVec 32 := 0#32
  ![v3.toNat, c0_i32.toNat]

def cc0_transform_25 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S480) ![v2.toNat] S1.size (k0_off1_inb i 9)) numel1_S1
  let c0_i32 : BitVec 32 := 0#32
  let c0_i32_0 : BitVec 32 := 0#32
  ![v3.toNat, c0_i32.toNat]

def cc0_transform_26 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S480) ![v2.toNat] S1.size (k0_off1_inb i 10)) numel1_S1
  let c0_i32 : BitVec 32 := 0#32
  let c0_i32_0 : BitVec 32 := 0#32
  ![v3.toNat, c0_i32.toNat]

def cc0_transform_27 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S480) ![v2.toNat] S1.size (k0_off1_inb i 11)) numel1_S1
  let c0_i32 : BitVec 32 := 0#32
  let c0_i32_0 : BitVec 32 := 0#32
  ![v3.toNat, c0_i32.toNat]

def cc0_transform_28 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S480) ![v2.toNat] S1.size (k0_off1_inb i 12)) numel1_S1
  let c0_i32 : BitVec 32 := 0#32
  let c0_i32_0 : BitVec 32 := 0#32
  ![v3.toNat, c0_i32.toNat]

def cc0_transform_29 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S480) ![v2.toNat] S1.size (k0_off1_inb i 13)) numel1_S1
  let c0_i32 : BitVec 32 := 0#32
  let c0_i32_0 : BitVec 32 := 0#32
  ![v3.toNat, c0_i32.toNat]

def cc0_transform_30 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S480) ![v2.toNat] S1.size (k0_off1_inb i 14)) numel1_S1
  let c0_i32 : BitVec 32 := 0#32
  let c0_i32_0 : BitVec 32 := 0#32
  ![v3.toNat, c0_i32.toNat]

def cc0_transform_31 (k0_off1_inb : ∀ i : grid0.Coords, ∀ (r : Fin 16), ∀ a, (k0_off1 i (BitVec.ofNat 32 r.val)) a + S1.size a ≤ S480.size a) (numel1_S1 : S1.numel = 1) (pf : pre0.Contents (Elt F)) (i : grid0.Coords) : Fin 2 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S480) ![v2.toNat] S1.size (k0_off1_inb i 15)) numel1_S1
  let c0_i32 : BitVec 32 := 0#32
  let c0_i32_0 : BitVec 32 := 0#32
  ![v3.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x2560 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x2560 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S16x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S16x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S16x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S16x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S16x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S16x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S16x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S16x1024 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S16x1024 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 1 → Memref sig .tc .vmem S1x2560 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 2 → Memref sig .tc .vmem S256x2560 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S256x1024 .fp8e4m3 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S256x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]
-- ==== RowsIdeal.lean ====
abbrev S7680x1024 : Shape := ⟨2, ![7680, 1024]⟩
abbrev S7680x2560 : Shape := ⟨2, ![7680, 2560]⟩
abbrev S1024 : Shape := ⟨1, ![1024]⟩
abbrev S2560 : Shape := ⟨1, ![2560]⟩
abbrev S480 : Shape := ⟨1, ![480]⟩
abbrev S480x16x1024 : Shape := ⟨3, ![480, 16, 1024]⟩
abbrev S480x1 : Shape := ⟨2, ![480, 1]⟩
abbrev S480x16x2560 : Shape := ⟨3, ![480, 16, 2560]⟩
abbrev S1x1024 : Shape := ⟨2, ![1, 1024]⟩
abbrev S1x2560 : Shape := ⟨2, ![1, 2560]⟩
abbrev S7680x128 : Shape := ⟨2, ![7680, 128]⟩
abbrev S7680 : Shape := ⟨1, ![7680]⟩
abbrev S7680x1 : Shape := ⟨2, ![7680, 1]⟩

abbrev nBuf : Space → Nat
  | .hbm => 18
  | .vmem => 7
  | .smem => 0
  | _ => 0

abbrev bufTy : (tb : Table) → Fin (tcTables nBuf tb) → BufTy
  | .hbm, ⟨0, _⟩ => ⟨S7680x1024, .bf16⟩
  | .hbm, ⟨1, _⟩ => ⟨S7680x2560, .bf16⟩
  | .hbm, ⟨2, _⟩ => ⟨S1024, .f32⟩
  | .hbm, ⟨3, _⟩ => ⟨S2560, .f32⟩
  | .hbm, ⟨4, _⟩ => ⟨S480, .i32⟩
  | .hbm, ⟨5, _⟩ => ⟨S480x16x1024, .bf16⟩
  | .hbm, ⟨6, _⟩ => ⟨S480x1, .i32⟩
  | .hbm, ⟨7, _⟩ => ⟨S480x16x1024, .bf16⟩
  | .hbm, ⟨8, _⟩ => ⟨S7680x1024, .bf16⟩
  | .hbm, ⟨9, _⟩ => ⟨S480x16x2560, .bf16⟩
  | .hbm, ⟨10, _⟩ => ⟨S480x1, .i32⟩
  | .hbm, ⟨11, _⟩ => ⟨S480x16x2560, .bf16⟩
  | .hbm, ⟨12, _⟩ => ⟨S7680x2560, .bf16⟩
  | .hbm, ⟨13, _⟩ => ⟨S1x1024, .f32⟩
  | .hbm, ⟨14, _⟩ => ⟨S1x2560, .f32⟩
  | .hbm, ⟨15, _⟩ => ⟨S7680x2560, .bf16⟩
  | .hbm, ⟨16, _⟩ => ⟨S7680x1024, .fp8e4m3⟩
  | .hbm, ⟨17, _⟩ => ⟨S7680x128, .f32⟩
  | .local _ .vmem, ⟨0, _⟩ => ⟨S7680x1024, .bf16⟩
  | .local _ .vmem, ⟨1, _⟩ => ⟨S7680x2560, .bf16⟩
  | .local _ .vmem, ⟨2, _⟩ => ⟨S1x1024, .f32⟩
  | .local _ .vmem, ⟨3, _⟩ => ⟨S1x2560, .f32⟩
  | .local _ .vmem, ⟨4, _⟩ => ⟨S7680x2560, .bf16⟩
  | .local _ .vmem, ⟨5, _⟩ => ⟨S7680x1024, .fp8e4m3⟩
  | .local _ .vmem, ⟨6, _⟩ => ⟨S7680x128, .f32⟩
  | _, _ => ⟨S7680x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S7680x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KI.Base.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.Tactic

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What one grid point leaves in the buffers, as functions of what it finds -/

theorem read_writes_overlay {κ : Kind} {sp : Space} {S : Shape} {e : EltTy} (v : View sig κ sp S e) (f : v.ty.Contents (Elt F))
    (p : View.Piece (Elt F) S e) (L : List (View.Piece (Elt F) S e)) :
    v.read (Elt F) (v.writes (Elt F) f (p :: L)) = p.1.overlay (v.read (Elt F) (v.writes (Elt F) f L)) p.2 := by
  obtain ⟨r, w⟩ := p
  funext y
  by_cases h : y ∈ r.set
  · obtain ⟨x, rfl⟩ := LoadRect.exists_idx_of_mem r.toLoadRect h
    rw [show r.toLoadRect.idx x = r.emb x from rfl, View.read_writes_cons_emb, Rect.overlay_emb]
  · rw [Rect.overlay_of_not_mem r _ _ h, View.writes_cons, View.read_slice_write_of_not_mem]
    rw [Rect.map_emb_univ]; exact h

/-- A load of what a list of stores left reads the overlay of the last store's payload. -/
theorem readAt_writes {κ : Kind} {sp : Space} {S : Shape} {e : EltTy} (v : View sig κ sp S e) (f : v.ty.Contents (Elt F))
    (p : View.Piece (Elt F) S e) (L : List (View.Piece (Elt F) S e)) (r : Rect S) :
    v.readAt (Elt F) r.toLoadRect (v.writes (Elt F) f (p :: L)) = View.ld (p.1.overlay (v.read (Elt F) (v.writes (Elt F) f L)) p.2) r := by
  rw [View.readAt_eq_ld, read_writes_overlay]

theorem ld_overlay {S : Shape} {e : EltTy} (r : Rect S) (X : S.Idx → Elt F e) (G : r.shape.Idx → Elt F e) :
    View.ld (r.overlay X G) r = G := funext fun x => Rect.overlay_emb r X G x

/-- The number of vocabulary columns, read from the first word of the scalar table. -/
def word (x2 : Vec F S5 .i32) : BitVec 32 :=
  View.ld x2 (Rect.unit (s := S5) ![0] S1.size inb_S5_S1_0) (Shape.Idx.first (by decide))

/-- The teacher weight tile with this point's group of 128 rows dequantised into its slot. -/
def tile17 (i : grid0.Static) (arg0 : BitVec 32) (hb : ∀ a, k0_off2 i arg0 a + S1x128x1024.size a ≤ S2x2560x1024.size a)
    (x6 : Vec F S64x1024 .i8) (x7 x8 : Vec F S20x1024 .f32) (x17 : Vec F S2x2560x1024 .bf16) : Vec F S2x2560x1024 .bf16 :=
  (Rect.unit (s := S2x2560x1024) (k0_off2 i arg0) S1x128x1024.size hb).overlay x17
    (k0_pay1 (View.ld x6 (Rect.unit (s := S64x1024) ![0, 0] S64x1024.size inb_S64x1024_S64x1024_0_0))
      (View.ld x8 (Rect.unit (s := S20x1024) (k0_off1 i) S1x1024.size (k0_off1_inb i)))
      (View.ld x7 (Rect.unit (s := S20x1024) (k0_off1 i) S1x1024.size (k0_off1_inb i))))

/-- The teacher's scaled, masked logits of this point: one row tile against one column tile. -/
def zTea (arg0 : BitVec 32) (hb : ∀ a, k0_off3 arg0 a + S1x2560x1024.size a ≤ S2x2560x1024.size a)
    (x2 : Vec F S5 .i32) (x3 : Vec F S384x2560 .bf16) (x17 : Vec F S2x2560x1024 .bf16) : FVec F S384x1024 .f32 :=
  k0_pay12 arg0 (word x2) (View.ld x3 (Rect.unit (s := S384x2560) ![0, 0] S384x2560.size inb_S384x2560_S384x2560_0_0))
    (View.ld x17 (Rect.unit (s := S2x2560x1024) (k0_off3 arg0) S1x2560x1024.size hb))

/-- The student's scaled, masked logits of this point. -/
def zStu (arg0 : BitVec 32) (x2 : Vec F S5 .i32) (x4 : Vec F S384x1024 .fp8e4m3) (x5 : Vec F S384x128 .f32)
    (x9 : Vec F S1024x1024 .fp8e4m3) (x10 : Vec F S1x1024 .f32) : FVec F S384x1024 .f32 :=
  k0_pay15 (k0_pay13 (View.ld x4 (Rect.unit (s := S384x1024) ![0, 0] S384x1024.size inb_S384x1024_S384x1024_0_0))
      (View.ld x9 (Rect.unit (s := S1024x1024) ![0, 0] S1024x1024.size inb_S1024x1024_S1024x1024_0_0))
      (View.ld x5 (Rect.unit (s := S384x128) ![0, 0] S384x1.size inb_S384x128_S384x1_0_0))
      (View.ld x10 (Rect.unit (s := S1x1024) ![0, 0] S1x1024.size inb_S1x1024_S1x1024_0_0)))
    (Named.named κ "masked" 0xF149F2CA#32) (k0_pay14 (F := F) arg0 (word x2))

/-- The rows of the running statistics this point's row tile owns. -/
abbrev rows (i : grid0.Static) : Rect S7680x128 := Rect.unit (s := S7680x128) (k0_off4 i) S384x128.size (k0_off4_inb i)
abbrev whole12 : Rect S384x128 := Rect.unit (s := S384x128) ![0, 0] S384x128.size inb_S384x128_S384x128_0_0

/-- The teacher's running maxima and sums after this point. -/
def max18 (i : grid0.Static) (Z : FVec F S384x1024 .f32) (x18 : Vec F S7680x128 .f32) : Vec F S7680x128 .f32 :=
  (rows i).overlay x18 (k0_pay26 (k0_pay24 Z (View.ld x18 (rows i))))
def sum19 (i : grid0.Static) (Z : FVec F S384x1024 .f32) (x18 x19 : Vec F S7680x128 .f32) : Vec F S7680x128 .f32 :=
  (rows i).overlay x19 (k0_pay27 (k0_pay25 Z (View.ld x18 (rows i)) (View.ld x19 (rows i))))
/-- The student's. -/
def max20 (i : grid0.Static) (Z : FVec F S384x1024 .f32) (x20 : Vec F S7680x128 .f32) : Vec F S7680x128 .f32 :=
  (rows i).overlay x20 (k0_pay6 (k0_pay36 Z (View.ld x20 (rows i))))
def sum21 (i : grid0.Static) (Z : FVec F S384x1024 .f32) (x20 x21 : Vec F S7680x128 .f32) : Vec F S7680x128 .f32 :=
  (rows i).overlay x21 (k0_pay7 (k0_pay37 Z (View.ld x20 (rows i)) (View.ld x21 (rows i))))

/-- The two results of a row tile, from its final statistics. -/
def out14 (i : grid0.Static) (x18 x19 : Vec F S7680x128 .f32) (x14 : Vec F S384x128 .f32) : Vec F S384x128 .f32 :=
  whole12.overlay x14 (k0_pay9 (View.ld x18 (rows i)) (View.ld x19 (rows i)))
def out15 (i : grid0.Static) (x20 x21 : Vec F S7680x128 .f32) (x15 : Vec F S384x128 .f32) : Vec F S384x128 .f32 :=
  whole12.overlay x15 (k0_pay10 (View.ld x20 (rows i)) (View.ld x21 (rows i)))

/-- The first point's filling of the statistics. -/
abbrev wholeS : Rect S7680x128 := Rect.unit (s := S7680x128) ![0, 0] S7680x128.size inb_S7680x128_S7680x128_0_0

end Cert.KernelIdeal.Hand
end
-- ==== Proof.KI.Tables.lean ====
module

public import proofs.«01_k».proof.Proof.KI.Base
public import Idealize.ShloMosaic.Lib.Affine

@[expose] public section

set_option maxRecDepth 16384
noncomputable section

namespace Cert.KernelIdeal.Hand

open Cert.KernelIdeal Cert.KernelIdeal.Gen Cert.KernelIdeal.Facts
open Idealize.ShloMosaic Idealize.ShloMosaic.TcCoe

variable {F : FTy → Type} [FloatOps F] [Named F]

/-! ## The two tables the launch reads, and the facts a grid point needs of them -/

/-- Position `k` of a table of five. -/
def ix5 (k : Fin 5) : S5.Idx := fun a => ⟨k.val, by revert a k; decide⟩

/-- Entries 0, 1, 2 of the table `info`. -/
def info0 (pf : pre0.Contents (Elt F)) : BitVec 32 := pf 1 (ix5 0)
def info1 (pf : pre0.Contents (Elt F)) : BitVec 32 := pf 1 (ix5 1)
def info2 (pf : pre0.Contents (Elt F)) : BitVec 32 := pf 1 (ix5 2)
/-- The number of steps of the grid's first axis. -/
def nsteps (pf : pre0.Contents (Elt F)) : BitVec 32 := pf 0 fun a => a.elim0

/-- What the precondition says of the tables: between one and 149 vocabulary tiles, one more step than tiles,
    a permutation offset that is not negative, and no more valid columns than there are or than the tiles hold. -/
structure Good (pf : pre0.Contents (Elt F)) : Prop where
  one_le : 1 ≤ (info2 pf).toNat
  le_149 : (info2 pf).toNat ≤ 149
  steps : (nsteps pf).toNat = (info2 pf).toNat + 1
  off : (info1 pf).toNat < 2 ^ 31
  cols : (info0 pf).toInt ≤ 151936
  cols_tiles : (info0 pf).toInt ≤ (info2 pf).toNat * 1024

omit [FloatOps F] [Named F] in
theorem at1_eq (pf : pre0.Contents (Elt F)) : pf.at 1 (Rect.unit (s := S5) ![1] S1.size inb_S5_S1_1) numel1_S1 = info1 pf := by
  unfold Pipeline.Prefetch.Contents.at info1
  congr 1
  funext a
  fin_cases a
  rfl

omit [FloatOps F] [Named F] in
theorem at2_eq (pf : pre0.Contents (Elt F)) : pf.at 1 (Rect.unit (s := S5) ![2] S1.size inb_S5_S1_2) numel1_S1 = info2 pf := by
  unfold Pipeline.Prefetch.Contents.at info2
  congr 1
  funext a
  fin_cases a
  rfl

/-! ### Small arithmetic of the index maps -/

theorem min148 : ∀ s : Fin 151, (Scalar.minsi (BitVec.ofNat 32 s.val) 148#32).toNat = min s.val 148 := by decide
theorem max1 : ∀ s : Fin 151, (Scalar.maxsi (Scalar.subi (BitVec.ofNat 32 s.val) 1#32) 0#32).toNat = s.val - 1 := by decide
theorem min19 : ∀ i : Fin 20, (Scalar.minsi (BitVec.ofNat 32 i.val) 19#32).toNat = i.val := by decide
theorem sel0 (c : BitVec 1) (i : Fin 20) : (Scalar.select c 0#32 (BitVec.ofNat 32 i.val)).toNat ≤ 19 := by
  revert c i; decide
theorem sel1 (c : BitVec 1) (i : Fin 20) : (Scalar.select c (BitVec.ofNat 32 i.val) 0#32).toNat ≤ 19 := by
  revert c i; decide
theorem sel2 (c : BitVec 1) (i : Fin 20) (v : BitVec 32) (hv : v.toNat < 2 ^ 31) :
    (Scalar.select c 0#32 (Scalar.maxsi (Scalar.subi (BitVec.ofNat 32 i.val) v) 0#32)).toNat ≤ 19 := by
  unfold Scalar.select
  split
  · decide
  · have hi := i.isLt
    unfold Scalar.maxsi IntOp.maxsi Scalar.subi IntOp.subi
    split
    · rename_i h
      rw [BitVec.slt_iff_toInt_lt] at h
      rw [BitVec.toInt_sub, BitVec.toInt_zero] at h
      rw [BitVec.toNat_sub]
      simp only [BitVec.toInt_eq_toNat_cond, BitVec.toNat_ofNat, Int.bmod_def] at h ⊢
      omega
    · decide

theorem blk2 {x y a b A B : Nat} (h0 : (x + 1) * a ≤ A) (h1 : (y + 1) * b ≤ B) :
    ∀ k : Fin 2, ((![x, y] : Fin 2 → Nat) k + 1) * (![a, b] : Fin 2 → Nat) k ≤ (![A, B] : Fin 2 → Nat) k := by
  intro k; fin_cases k
  · exact h0
  · exact h1

theorem row20 {x a A : Nat} (h : x ≤ 19) (hA : 20 * a ≤ A) : (x + 1) * a ≤ A :=
  (Nat.mul_le_mul_right a (Nat.succ_le_succ h)).trans hA

theorem start2 {x y a b A B : Nat} (h0 : x * a < A) (h1 : y * b < B) :
    ∀ k : Fin 2, (![x, y] : Fin 2 → Nat) k * (![a, b] : Fin 2 → Nat) k < (![A, B] : Fin 2 → Nat) k := by
  intro k; fin_cases k
  · exact h0
  · exact h1

theorem extent_dvd {p k d ix : Nat} (hk : p ∣ k) (hd : p ∣ d) : p ∣ (Pipeline.Clip.of ix k d).extent k := by
  unfold Pipeline.Clip.of
  split
  · exact hk
  · exact Nat.dvd_sub hd (hk.mul_left ix)

/-- The launch's side condition, from the tables. -/
theorem ok_good (pf : pre0.Contents (Elt F)) (h : Good pf) : ok0 pf := by
  have hb : (dynb0 pf 0) ≤ 150 := by
    have h1 := h.steps; have h2 := h.le_149
    show (nsteps pf).toNat ≤ 150
    omega
  have s0 : ∀ i : (grid0.at (dynb0 pf)).Coords, (i 0).val < 151 := fun i => lt_of_lt_of_le (i 0).isLt (hb.trans (by omega))
  have s1 : ∀ i : (grid0.at (dynb0 pf)).Coords, (i 1).val < 20 := fun i => (i 1).isLt
  have m148 : ∀ i : (grid0.at (dynb0 pf)).Coords, (Scalar.minsi (BitVec.ofNat 32 (i 0).val) 148#32).toNat ≤ 148 :=
    fun i => (min148 ⟨_, s0 i⟩).trans_le (min_le_right _ _)
  have m19 : ∀ i : (grid0.at (dynb0 pf)).Coords, (Scalar.minsi (BitVec.ofNat 32 (i 1).val) 19#32).toNat ≤ 19 :=
    fun i => (min19 ⟨_, s1 i⟩).trans_le (by have := s1 i; simp only; omega)
  have mx : ∀ i : (grid0.at (dynb0 pf)).Coords, (Scalar.maxsi (Scalar.subi (BitVec.ofNat 32 (i 0).val) 1#32) 0#32).toNat ≤ 148 := by
    intro i
    refine (max1 ⟨_, s0 i⟩).trans_le ?_
    have h1 : (i 0).val < dynb0 pf 0 := (i 0).isLt
    have h2 : dynb0 pf 0 = (nsteps pf).toNat := rfl
    have h3 := h.steps; have h4 := h.le_149
    simp only
    omega
  unfold ok0
  refine ⟨?_, ?_, ?_, ?_, ?_, ?_, ?_, ?_, ?_, ?_, ?_, ?_, ?_, ?_, ?_⟩
  · show (grid0.at (dynb0 pf)).N + 2 < 2 ^ 31
    have e : (grid0.at (dynb0 pf)).N = dynb0 pf 0 * 20 := by
      unfold Pipeline.Grid.N; exact (congrArg List.prod (List.ofFn_succ (n := 1) (f := (grid0.at (dynb0 pf)).bound))).trans (by simp [Pipeline.Grid.at, List.ofFn_succ]; rfl)
    omega
  · exact fun i => ⟨blk2 (by have := sel0 (Scalar.cmpi .eq (BitVec.ofNat 32 (i 0).val) 0#32) ⟨_, s1 i⟩; simp only at this; omega) (by decide),
      .inr (.inl (Affine.packed_dvd (by decide) (Dvd.dvd.mul_left (by decide) _) (by decide)))⟩
  · exact fun i => ⟨blk2 (by have := sel0 (Scalar.cmpi .eq (BitVec.ofNat 32 (i 0).val) 0#32) ⟨_, s1 i⟩; simp only at this; omega) (by decide),
      .inr (.inl (Affine.packed_dvd (by decide) (Dvd.dvd.mul_left (by decide) _) (by decide)))⟩
  · exact fun i => ⟨blk2 (by have := sel0 (Scalar.cmpi .eq (BitVec.ofNat 32 (i 0).val) 0#32) ⟨_, s1 i⟩; simp only at this; omega) (by decide), .inl rfl⟩
  · exact fun i => ⟨start2 (by have := m19 i; omega) (by have := m148 i; omega),
      .inr (.inl (Affine.packed_dvd (by decide) (Dvd.dvd.mul_left (by decide) _) (extent_dvd (by decide) (by decide)))),
      .inr (.inl (Affine.packed_dvd (by decide) (dvd_zero _) (extent_dvd (by decide) (by decide))))⟩
  · exact fun i => ⟨start2 (by decide) (by have := m148 i; omega), .inl rfl, .inl rfl⟩
  · exact fun i => ⟨start2 (by decide) (by have := m148 i; omega), .inl rfl, .inl rfl⟩
  · exact fun i => ⟨start2 (by have := mx i; omega) (by decide),
      .inr (.inl (Affine.packed_dvd (by decide) (Dvd.dvd.mul_left (by decide) _) (extent_dvd (by decide) (by decide)))),
      .inr (.inl (Affine.packed_dvd (by decide) (dvd_zero _) (extent_dvd (by decide) (by decide))))⟩
  · exact fun i => ⟨start2 (by decide) (by have := mx i; omega), .inl rfl, .inl rfl⟩
  · exact fun i => ⟨start2 (by have := mx i; omega) (by decide), .inl rfl, .inl rfl⟩
  · exact fun i => ⟨blk2 (row20 (sel2 (Scalar.cmpi .eq (BitVec.ofNat 32 (i 0).val) 0#32) ⟨_, s1 i⟩ _ (at1_eq pf ▸ h.off)) (by decide)) (by have := mx i; omega), .inl rfl⟩
  · exact fun i => ⟨blk2 (row20 (sel2 (Scalar.cmpi .eq (BitVec.ofNat 32 (i 0).val) 0#32) ⟨_, s1 i⟩ _ (at1_eq pf ▸ h.off)) (by decide)) (by have := mx i; omega), .inl rfl⟩
  · exact fun i => ⟨blk2 (row20 (sel1 (Scalar.cmpi .eq (BitVec.ofNat 32 (i 0).val) (pf.at 1 (Rect.unit (s := S5) ![2] S1.size inb_S5_S1_2) numel1_S1)) ⟨_, s1 i⟩) (by decide)) (by decide), .inl rfl⟩
  · exact fun i => ⟨blk2 (row20 (sel1 (Scalar.cmpi .eq (BitVec.ofNat 32 (i 0).val) (pf.at 1 (Rect.unit (s := S5) ![2] S1.size inb_S5_S1_2) numel1_S1)) ⟨_, s1 i⟩) (by decide)) (by decide), .inl rfl⟩
  · exact fun i => ⟨blk2 (by have := mx i; omega) (by decide),
      .inr (.inl (Affine.packed_dvd (by decide) (Dvd.dvd.mul_left (by decide) _) (by decide)))⟩

end Cert.KernelIdeal.Hand
end
-- ==== Proof.KI.Steps.lean ====
module

public import proofs.«01_k».proof.Proof.KI.Tables
public import Idealize.ShloMosaic.Lib.Affine

@[expose] public section

set_option maxRecDepth 16384
noncomputable section

namespace Cert.KernelIdeal.Hand

open Cert.KernelIdeal Cert.KernelIdeal.Gen Cert.KernelIdeal.Facts
open Idealize.ShloMosaic Idealize.ShloMosaic.TcCoe

variable {F : FTy → Type} [FloatOps F] [Named F]

/-! ## The conditions of a grid point, in plain numbers: step `s` of `n`, token block `i` -/

theorem sgt_zero : ∀ s : Fin 151, Scalar.cmpi .sgt (BitVec.ofNat 32 s.val) 0#32 = 1#1 ↔ 0 < s.val := by decide
theorem parity : ∀ s : Fin 151, (Scalar.andi (BitVec.ofNat 32 s.val) 1#32).toNat = s.val % 2 := by decide
theorem parity_pred : ∀ s : Fin 151, (Scalar.andi (Scalar.subi (BitVec.ofNat 32 s.val) 1#32) 1#32).toNat = (s.val + 1) % 2 := by decide
theorem rows128 : ∀ i : Fin 20, (Scalar.muli (Scalar.minsi (BitVec.ofNat 32 i.val) 19#32) 128#32).toNat = 128 * i.val := by decide

theorem toNat_small {s : Nat} (h : s < 151) : (BitVec.ofNat 32 s).toNat = s := by
  rw [BitVec.toNat_ofNat]; omega

theorem toInt_small {s : Nat} (h : s < 151) : (BitVec.ofNat 32 s).toInt = s := by
  rw [BitVec.toInt_eq_toNat_of_lt (by rw [toNat_small h]; omega), toNat_small h]

theorem pred_small {n : Nat} (h1 : 1 ≤ n) (h : n < 151) : Scalar.subi (BitVec.ofNat 32 n) 1#32 = BitVec.ofNat 32 (n - 1) := by
  apply BitVec.eq_of_toNat_eq
  show (BitVec.ofNat 32 n - 1#32).toNat = _
  rw [BitVec.toNat_sub, toNat_small h, toNat_small (by omega)]
  simp only [BitVec.toNat_ofNat]
  omega

variable {s n : Nat} (hs : s < n) (h2 : 2 ≤ n) (h150 : n ≤ 150)
include hs h2 h150

theorem cond1_iff : k0_cond1 (BitVec.ofNat 32 s) (BitVec.ofNat 32 n) = 1#1 ↔ s + 1 < n := by
  unfold k0_cond1
  simp only []
  rw [Scalar.guard_iff]
  show IntOp.cmpi .slt _ _ = 1#1 ↔ _
  rw [IntOp.cmpi_slt, pred_small (by omega) (by omega), toInt_small (by omega), toInt_small (by omega)]
  omega

theorem cond4_iff : k0_cond4 (BitVec.ofNat 32 s) (BitVec.ofNat 32 n) = 1#1 ↔ s + 1 = n := by
  unfold k0_cond4
  simp only []
  rw [Scalar.guard_iff]
  show IntOp.cmpi .eq _ _ = 1#1 ↔ _
  rw [IntOp.cmpi_eq, pred_small (by omega) (by omega)]
  constructor
  · intro h
    have := congrArg BitVec.toNat h
    rw [toNat_small (by omega), toNat_small (by omega)] at this
    omega
  · intro h
    rw [show s = n - 1 by omega]

theorem cond3_iff : k0_cond3 (BitVec.ofNat 32 s) = 1#1 ↔ 0 < s := by
  unfold k0_cond3
  simp only []
  rw [Scalar.guard_iff]
  exact sgt_zero ⟨s, by omega⟩

/-- The condition under which the running statistics are reset: the first step's first token block. -/
abbrev initCond (s i : Nat) : BitVec 1 :=
  Scalar.cmpi .ne (Scalar.extui (Scalar.andi (Scalar.cmpi .eq (BitVec.ofNat 32 s) 0#32) (Scalar.cmpi .eq (BitVec.ofNat 32 i) 0#32))) 0#32

omit hs h2 h150 in
theorem eq_zero : ∀ s : Fin 151, Scalar.cmpi .eq (BitVec.ofNat 32 s.val) 0#32 = if s.val = 0 then 1#1 else 0#1 := by decide

theorem init_iff {i : Nat} (hi : i < 20) : initCond s i = 1#1 ↔ s = 0 ∧ i = 0 := by
  unfold initCond
  rw [Scalar.guard_iff, eq_zero ⟨s, by omega⟩, eq_zero ⟨i, by omega⟩]
  simp only
  by_cases h : s = 0 <;> by_cases h' : i = 0 <;> simp [h, h'] <;> decide

theorem off2_eq (i : grid0.Static) : k0_off2 i (BitVec.ofNat 32 s) = ![s % 2, 128 * (i 1).val, 0] := by
  unfold k0_off2
  exact congrArg₂ (fun a b => ![a, b, 0]) (parity ⟨s, by omega⟩) (rows128 (i 1))

theorem off3_eq : k0_off3 (BitVec.ofNat 32 s) = ![(s + 1) % 2, 0, 0] := by
  unfold k0_off3
  exact congrArg (fun a => ![a, 0, 0]) (parity_pred ⟨s, by omega⟩)

theorem inb2_of (i : grid0.Static) : ∀ a, k0_off2 i (BitVec.ofNat 32 s) a + S1x128x1024.size a ≤ S2x2560x1024.size a := by
  intro a
  have hi : (i 1).val < 20 := (i 1).isLt
  rw [off2_eq hs h2 h150 i]
  fin_cases a
  · show s % 2 + 1 ≤ 2; omega
  · show 128 * (i 1).val + 128 ≤ 2560; omega
  · show 0 + 1024 ≤ 1024; omega

theorem inb3_of : ∀ a, k0_off3 (BitVec.ofNat 32 s) a + S1x2560x1024.size a ≤ S2x2560x1024.size a := by
  intro a
  rw [off3_eq hs h2 h150]
  fin_cases a
  · show (s + 1) % 2 + 1 ≤ 2; omega
  · show 0 + 2560 ≤ 2560; omega
  · show 0 + 1024 ≤ 1024; omega

theorem chk1 (i : grid0.Static) : k0_chk1 i (BitVec.ofNat 32 s) (BitVec.ofNat 32 n) := by
  refine ⟨fun _ => inb2_of hs h2 h150 i, fun _ hinb => Affine.packed_dvd (by decide) ?_ (by decide)⟩
  rw [off2_eq hs h2 h150 i]
  show 2 ∣ 128 * (i 1).val
  omega

theorem chk2 : k0_chk2 (BitVec.ofNat 32 s) := fun _ => inb3_of hs h2 h150

end Cert.KernelIdeal.Hand
end
-- ==== Proof.KI.RunA.lean ====
module

public import proofs.«01_k».proof.Proof.KI.Base

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The very first grid point: the first group is dequantised and the running statistics are filled. -/
theorem runA (c : Dev nD) (b : grid0.Bounds) (i : grid0.Static) (arg0 : BitVec 32) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hw1 : k0_chk1 i arg0 (BitVec.ofNat 32 (b 0))) (hw2 : k0_chk2 arg0)
    (h1 : k0_cond1 arg0 (BitVec.ofNat 32 (b 0)) = 1#1) (h2 : Scalar.cmpi .ne (Scalar.extui (Scalar.andi (Scalar.cmpi .eq arg0 0#32) (Scalar.cmpi .eq (BitVec.ofNat 32 (i 1).val) 0#32))) 0#32 = 1#1) (h3 : ¬ k0_cond3 arg0 = 1#1) (h4 : ¬ k0_cond4 arg0 (BitVec.ofNat 32 (b 0)) = 1#1) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (tile17 i arg0 (k0_off2_inb i arg0 _ hw1 h1) x6 x7 x8 x17) ∗ owns (c : Thread nD τ) arg18 fullShare (wholeS.overlay x18 (k0_pay2 (F := F))) ∗ owns (c : Thread nD τ) arg19 fullShare (wholeS.overlay x19 (k0_pay4 (F := F))) ∗ owns (c : Thread nD τ) arg20 fullShare (wholeS.overlay x20 (k0_pay3 (F := F))) ∗ owns (c : Thread nD τ) arg21 fullShare (wholeS.overlay x21 (k0_pay5 (F := F)))) -∗ K ⟨⟩))
    ⊢ wp frame (wpE (defs₀ (F := F)) Variants.none c none) Set.univ (cc0_forward b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_forward_eq_skeleton]; unfold cc0_forward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro
    rw [read_writes_overlay, View.writes_nil]; rfl
  isplitl [H18]
  · iexists _; isplitr; swap; · iexact H18
    ipureintro
    exact read_writes_overlay _ _ _ []
  isplitl [H19]
  · iexists _; isplitr; swap; · iexact H19
    ipureintro
    exact read_writes_overlay _ _ _ []
  isplitl [H20]
  · iexists _; isplitr; swap; · iexact H20
    ipureintro
    exact read_writes_overlay _ _ _ []
  iexists _; isplitr; swap; · iexact H21
  ipureintro
  exact read_writes_overlay _ _ _ []

end Cert.KernelIdeal.Hand
end
-- ==== Proof.KI.RunB.lean ====
module

public import proofs.«01_k».proof.Proof.KI.Base

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- Any other point of the first column step: only this point's group is dequantised. -/
theorem runB (c : Dev nD) (b : grid0.Bounds) (i : grid0.Static) (arg0 : BitVec 32) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hw1 : k0_chk1 i arg0 (BitVec.ofNat 32 (b 0))) (hw2 : k0_chk2 arg0)
    (h1 : k0_cond1 arg0 (BitVec.ofNat 32 (b 0)) = 1#1) (h2 : ¬ Scalar.cmpi .ne (Scalar.extui (Scalar.andi (Scalar.cmpi .eq arg0 0#32) (Scalar.cmpi .eq (BitVec.ofNat 32 (i 1).val) 0#32))) 0#32 = 1#1) (h3 : ¬ k0_cond3 arg0 = 1#1) (h4 : ¬ k0_cond4 arg0 (BitVec.ofNat 32 (b 0)) = 1#1) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (tile17 i arg0 (k0_off2_inb i arg0 _ hw1 h1) x6 x7 x8 x17) ∗ owns (c : Thread nD τ) arg18 fullShare x18 ∗ owns (c : Thread nD τ) arg19 fullShare x19 ∗ owns (c : Thread nD τ) arg20 fullShare x20 ∗ owns (c : Thread nD τ) arg21 fullShare x21) -∗ K ⟨⟩))
    ⊢ wp frame (wpE (defs₀ (F := F)) Variants.none c none) Set.univ (cc0_forward b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_forward_eq_skeleton]; unfold cc0_forward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro
    rw [read_writes_overlay, View.writes_nil]; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  iexists _; isplitr; swap; · iexact H21
  ipureintro; rfl

end Cert.KernelIdeal.Hand
end
-- ==== Proof.KI.RunC.lean ====
module

public import proofs.«01_k».proof.Proof.KI.Base

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- A point of a middle column step: a group of the next tile is dequantised, then the products of the previous tile are taken up. -/
theorem runC (c : Dev nD) (b : grid0.Bounds) (i : grid0.Static) (arg0 : BitVec 32) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hw1 : k0_chk1 i arg0 (BitVec.ofNat 32 (b 0))) (hw2 : k0_chk2 arg0)
    (h1 : k0_cond1 arg0 (BitVec.ofNat 32 (b 0)) = 1#1) (h2 : ¬ Scalar.cmpi .ne (Scalar.extui (Scalar.andi (Scalar.cmpi .eq arg0 0#32) (Scalar.cmpi .eq (BitVec.ofNat 32 (i 1).val) 0#32))) 0#32 = 1#1) (h3 : k0_cond3 arg0 = 1#1) (h4 : ¬ k0_cond4 arg0 (BitVec.ofNat 32 (b 0)) = 1#1) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ y, owns (c : Thread nD τ) arg12 fullShare y) ∗ (∃ y, owns (c : Thread nD τ) arg13 fullShare y) ∗ owns (c : Thread nD τ) arg14 fullShare x14 ∗ owns (c : Thread nD τ) arg15 fullShare x15 ∗ (∃ y, owns (c : Thread nD τ) arg16 fullShare y) ∗ owns (c : Thread nD τ) arg17 fullShare (tile17 i arg0 (k0_off2_inb i arg0 _ hw1 h1) x6 x7 x8 x17) ∗ owns (c : Thread nD τ) arg18 fullShare (max18 i (zTea arg0 (k0_off3_inb arg0 hw2 h3) x2 x3 (tile17 i arg0 (k0_off2_inb i arg0 _ hw1 h1) x6 x7 x8 x17)) x18) ∗ owns (c : Thread nD τ) arg19 fullShare (sum19 i (zTea arg0 (k0_off3_inb arg0 hw2 h3) x2 x3 (tile17 i arg0 (k0_off2_inb i arg0 _ hw1 h1) x6 x7 x8 x17)) x18 x19) ∗ owns (c : Thread nD τ) arg20 fullShare (max20 i (zStu arg0 x2 x4 x5 x9 x10) x20) ∗ owns (c : Thread nD τ) arg21 fullShare (sum21 i (zStu arg0 x2 x4 x5 x9 x10) x20 x21)) -∗ K ⟨⟩))
    ⊢ wp frame (wpE (defs₀ (F := F)) Variants.none c none) Set.univ (cc0_forward b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_forward_eq_skeleton]; unfold cc0_forward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  have e1 : runC.sl.r_1 c b i arg0 arg2 arg3 arg6 arg7 arg8 arg17 hw1 hw2 h1 h3 f2 f3 f6 f7 f8 f17 = (zTea arg0 (k0_off3_inb arg0 hw2 h3) (arg2.view.read (Elt F) f2) (arg3.view.read (Elt F) f3) (tile17 i arg0 (k0_off2_inb i arg0 _ hw1 h1) (arg6.view.read (Elt F) f6) (arg7.view.read (Elt F) f7) (arg8.view.read (Elt F) f8) (arg17.view.read (Elt F) f17))) := by
    unfold zTea tile17
    show k0_pay12 arg0 _ _ (View.readAt (Elt F) arg17.view (Rect.unit (s := S2x2560x1024) (k0_off3 arg0) S1x2560x1024.size (k0_off3_inb arg0 hw2 h3)).toLoadRect (arg17.view.writes (Elt F) f17 [_])) = _
    rw [readAt_writes]; rfl
  have e2 : runC.sl.v50 c arg0 arg2 arg4 arg5 arg9 arg10 f2 f4 f5 f9 f10 = (zStu arg0 (arg2.view.read (Elt F) f2) (arg4.view.read (Elt F) f4) (arg5.view.read (Elt F) f5) (arg9.view.read (Elt F) f9) (arg10.view.read (Elt F) f10)) := rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _, _; isplitr; swap; · iexact H16
    ipureintro; rfl
  isplitl [H17]
  · iexists _; isplitr; swap; · iexact H17
    ipureintro
    exact read_writes_overlay _ _ _ []
  isplitl [H18]
  · iexists _; isplitr; swap; · iexact H18
    ipureintro
    rw [read_writes_overlay, View.writes_nil, ← e1]; rfl
  isplitl [H19]
  · iexists _; isplitr; swap; · iexact H19
    ipureintro
    rw [read_writes_overlay, View.writes_nil, ← e1]; rfl
  isplitl [H20]
  · iexists _; isplitr; swap; · iexact H20
    ipureintro
    rw [read_writes_overlay, View.writes_nil, ← e2]; rfl
  iexists _; isplitr; swap; · iexact H21
  ipureintro
  rw [read_writes_overlay, View.writes_nil, ← e2]; rfl

end Cert.KernelIdeal.Hand
end
-- ==== Proof.KI.RunD.lean ====
module

public import proofs.«01_k».proof.Proof.KI.Base

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- A point of the last column step: the products of the last tile are taken up and the row tile's results are stored. -/
theorem runD (c : Dev nD) (b : grid0.Bounds) (i : grid0.Static) (arg0 : BitVec 32) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hw1 : k0_chk1 i arg0 (BitVec.ofNat 32 (b 0))) (hw2 : k0_chk2 arg0)
    (h1 : ¬ k0_cond1 arg0 (BitVec.ofNat 32 (b 0)) = 1#1) (h2 : ¬ Scalar.cmpi .ne (Scalar.extui (Scalar.andi (Scalar.cmpi .eq arg0 0#32) (Scalar.cmpi .eq (BitVec.ofNat 32 (i 1).val) 0#32))) 0#32 = 1#1) (h3 : k0_cond3 arg0 = 1#1) (h4 : k0_cond4 arg0 (BitVec.ofNat 32 (b 0)) = 1#1) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ y, owns (c : Thread nD τ) arg12 fullShare y) ∗ (∃ y, owns (c : Thread nD τ) arg13 fullShare y) ∗ owns (c : Thread nD τ) arg14 fullShare (out14 i (max18 i (zTea arg0 (k0_off3_inb arg0 hw2 h3) x2 x3 x17) x18) (sum19 i (zTea arg0 (k0_off3_inb arg0 hw2 h3) x2 x3 x17) x18 x19) x14) ∗ owns (c : Thread nD τ) arg15 fullShare (out15 i (max20 i (zStu arg0 x2 x4 x5 x9 x10) x20) (sum21 i (zStu arg0 x2 x4 x5 x9 x10) x20 x21) x15) ∗ (∃ y, owns (c : Thread nD τ) arg16 fullShare y) ∗ owns (c : Thread nD τ) arg17 fullShare x17 ∗ owns (c : Thread nD τ) arg18 fullShare (max18 i (zTea arg0 (k0_off3_inb arg0 hw2 h3) x2 x3 x17) x18) ∗ owns (c : Thread nD τ) arg19 fullShare (sum19 i (zTea arg0 (k0_off3_inb arg0 hw2 h3) x2 x3 x17) x18 x19) ∗ owns (c : Thread nD τ) arg20 fullShare (max20 i (zStu arg0 x2 x4 x5 x9 x10) x20) ∗ owns (c : Thread nD τ) arg21 fullShare (sum21 i (zStu arg0 x2 x4 x5 x9 x10) x20 x21)) -∗ K ⟨⟩))
    ⊢ wp frame (wpE (defs₀ (F := F)) Variants.none c none) Set.univ (cc0_forward b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_forward_eq_skeleton]; unfold cc0_forward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  have e1 : runD.sl.r_1 c arg0 arg2 arg3 arg17 hw2 h3 f2 f3 f17 = (zTea arg0 (k0_off3_inb arg0 hw2 h3) (arg2.view.read (Elt F) f2) (arg3.view.read (Elt F) f3) (arg17.view.read (Elt F) f17)) := by
    rfl
  have e2 : runD.sl.v50 c arg0 arg2 arg4 arg5 arg9 arg10 f2 f4 f5 f9 f10 = (zStu arg0 (arg2.view.read (Elt F) f2) (arg4.view.read (Elt F) f4) (arg5.view.read (Elt F) f5) (arg9.view.read (Elt F) f9) (arg10.view.read (Elt F) f10)) := rfl
  have e18 : (arg18.view.read (Elt F) (arg18.view.writes (Elt F) f18 (runD.sl.H18_1 c i arg0 arg2 arg3 arg17 arg18 hw2 h3 f2 f3 f17 f18))) = (max18 i (zTea arg0 (k0_off3_inb arg0 hw2 h3) (arg2.view.read (Elt F) f2) (arg3.view.read (Elt F) f3) (arg17.view.read (Elt F) f17)) (arg18.view.read (Elt F) f18)) := by
    refine (read_writes_overlay _ _ _ []).trans ?_
    rw [View.writes_nil, ← e1]; rfl
  have w18 : runD.sl.v192 c i arg0 arg2 arg3 arg17 arg18 hw2 h3 f2 f3 f17 f18 = View.ld (max18 i (zTea arg0 (k0_off3_inb arg0 hw2 h3) (arg2.view.read (Elt F) f2) (arg3.view.read (Elt F) f3) (arg17.view.read (Elt F) f17)) (arg18.view.read (Elt F) f18)) (rows i) := by
    unfold max18
    rw [ld_overlay, ← e1]
    exact View.readCov_cons_toLoadRect arg18.view (rows i) _ []
  have e19 : (arg19.view.read (Elt F) (arg19.view.writes (Elt F) f19 (runD.sl.H19_1 c i arg0 arg2 arg3 arg17 arg18 arg19 hw2 h3 f2 f3 f17 f18 f19))) = (sum19 i (zTea arg0 (k0_off3_inb arg0 hw2 h3) (arg2.view.read (Elt F) f2) (arg3.view.read (Elt F) f3) (arg17.view.read (Elt F) f17)) (arg18.view.read (Elt F) f18) (arg19.view.read (Elt F) f19)) := by
    refine (read_writes_overlay _ _ _ []).trans ?_
    rw [View.writes_nil, ← e1]; rfl
  have w19 : runD.sl.v196 c i arg0 arg2 arg3 arg17 arg18 arg19 hw2 h3 f2 f3 f17 f18 f19 = View.ld (sum19 i (zTea arg0 (k0_off3_inb arg0 hw2 h3) (arg2.view.read (Elt F) f2) (arg3.view.read (Elt F) f3) (arg17.view.read (Elt F) f17)) (arg18.view.read (Elt F) f18) (arg19.view.read (Elt F) f19)) (rows i) := by
    unfold sum19
    rw [ld_overlay, ← e1]
    exact View.readCov_cons_toLoadRect arg19.view (rows i) _ []
  have e20 : (arg20.view.read (Elt F) (arg20.view.writes (Elt F) f20 (runD.sl.H20_1 c i arg0 arg2 arg4 arg5 arg9 arg10 arg20 f2 f4 f5 f9 f10 f20))) = (max20 i (zStu arg0 (arg2.view.read (Elt F) f2) (arg4.view.read (Elt F) f4) (arg5.view.read (Elt F) f5) (arg9.view.read (Elt F) f9) (arg10.view.read (Elt F) f10)) (arg20.view.read (Elt F) f20)) := by
    refine (read_writes_overlay _ _ _ []).trans ?_
    rw [View.writes_nil, ← e2]; rfl
  have w20 : runD.sl.v211 c i arg0 arg2 arg4 arg5 arg9 arg10 arg20 f2 f4 f5 f9 f10 f20 = View.ld (max20 i (zStu arg0 (arg2.view.read (Elt F) f2) (arg4.view.read (Elt F) f4) (arg5.view.read (Elt F) f5) (arg9.view.read (Elt F) f9) (arg10.view.read (Elt F) f10)) (arg20.view.read (Elt F) f20)) (rows i) := by
    unfold max20
    rw [ld_overlay, ← e2]
    exact View.readCov_cons_toLoadRect arg20.view (rows i) _ []
  have e21 : (arg21.view.read (Elt F) (arg21.view.writes (Elt F) f21 (runD.sl.H21_1 c i arg0 arg2 arg4 arg5 arg9 arg10 arg20 arg21 f2 f4 f5 f9 f10 f20 f21))) = (sum21 i (zStu arg0 (arg2.view.read (Elt F) f2) (arg4.view.read (Elt F) f4) (arg5.view.read (Elt F) f5) (arg9.view.read (Elt F) f9) (arg10.view.read (Elt F) f10)) (arg20.view.read (Elt F) f20) (arg21.view.read (Elt F) f21)) := by
    refine (read_writes_overlay _ _ _ []).trans ?_
    rw [View.writes_nil, ← e2]; rfl
  have w21 : runD.sl.v215 c i arg0 arg2 arg4 arg5 arg9 arg10 arg20 arg21 f2 f4 f5 f9 f10 f20 f21 = View.ld (sum21 i (zStu arg0 (arg2.view.read (Elt F) f2) (arg4.view.read (Elt F) f4) (arg5.view.read (Elt F) f5) (arg9.view.read (Elt F) f9) (arg10.view.read (Elt F) f10)) (arg20.view.read (Elt F) f20) (arg21.view.read (Elt F) f21)) (rows i) := by
    unfold sum21
    rw [ld_overlay, ← e2]
    exact View.readCov_cons_toLoadRect arg21.view (rows i) _ []
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro
    rw [read_writes_overlay, View.writes_nil, w18, w19]; rfl
  isplitl [H15]
  · iexists _; isplitr; swap; · iexact H15
    ipureintro
    rw [read_writes_overlay, View.writes_nil, w20, w21]; rfl
  isplitl [H16]
  · iexists _, _; isplitr; swap; · iexact H16
    ipureintro; rfl
  isplitl [H17]
  · iexists _; isplitr; swap; · iexact H17
    ipureintro; rfl
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  iexists _; isplitr; swap; · iexact H21
  ipureintro
  exact e21

end Cert.KernelIdeal.Hand
end
-- ==== Proof.KI.Point.lean ====
module

public import proofs.«01_k».proof.Proof.KI.Steps
public import proofs.«01_k».proof.Proof.KI.RunA
public import proofs.«01_k».proof.Proof.KI.RunB
public import proofs.«01_k».proof.Proof.KI.RunC
public import proofs.«01_k».proof.Proof.KI.RunD

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## One grid point, whatever its place: step `s` of `n`, token block `i` -/

/-- A step of a launch: `s` is below the number of steps, which is between two and 150. -/
def Pt (s n : Nat) : Prop := s < n ∧ 2 ≤ n ∧ n ≤ 150

theorem Pt.inb2 {s n : Nat} (h : Pt s n) (i : grid0.Static) : ∀ a, k0_off2 i (BitVec.ofNat 32 s) a + S1x128x1024.size a ≤ S2x2560x1024.size a :=
  inb2_of h.1 h.2.1 h.2.2 i

theorem Pt.inb3 {s n : Nat} (h : Pt s n) : ∀ a, k0_off3 (BitVec.ofNat 32 s) a + S1x2560x1024.size a ≤ S2x2560x1024.size a :=
  inb3_of h.1 h.2.1 h.2.2

/-- The weight tiles after the point: all but the last step dequantise one more group. -/
def next17 {s n : Nat} (h : Pt s n) (i : grid0.Static) (x6 : Vec F S64x1024 .i8) (x7 x8 : Vec F S20x1024 .f32)
    (x17 : Vec F S2x2560x1024 .bf16) : Vec F S2x2560x1024 .bf16 :=
  if s + 1 < n then tile17 i (BitVec.ofNat 32 s) (h.inb2 i) x6 x7 x8 x17 else x17
/-- The logits the point multiplies out. -/
def zT {s n : Nat} (h : Pt s n) (i : grid0.Static) (x2 : Vec F S5 .i32) (x3 : Vec F S384x2560 .bf16) (x6 : Vec F S64x1024 .i8)
    (x7 x8 : Vec F S20x1024 .f32) (x17 : Vec F S2x2560x1024 .bf16) : FVec F S384x1024 .f32 :=
  zTea (BitVec.ofNat 32 s) h.inb3 x2 x3 (next17 h i x6 x7 x8 x17)
def zS (s : Nat) (x2 : Vec F S5 .i32) (x4 : Vec F S384x1024 .fp8e4m3) (x5 : Vec F S384x128 .f32)
    (x9 : Vec F S1024x1024 .fp8e4m3) (x10 : Vec F S1x1024 .f32) : FVec F S384x1024 .f32 :=
  zStu (BitVec.ofNat 32 s) x2 x4 x5 x9 x10
/-- The four running statistics after the point. -/
def next18 (s : Nat) (i : grid0.Static) (Z : FVec F S384x1024 .f32) (x18 : Vec F S7680x128 .f32) : Vec F S7680x128 .f32 :=
  if s = 0 ∧ (i 1).val = 0 then wholeS.overlay x18 (k0_pay2 (F := F)) else if 0 < s then max18 i Z x18 else x18
def next19 (s : Nat) (i : grid0.Static) (Z : FVec F S384x1024 .f32) (x18 x19 : Vec F S7680x128 .f32) : Vec F S7680x128 .f32 :=
  if s = 0 ∧ (i 1).val = 0 then wholeS.overlay x19 (k0_pay4 (F := F)) else if 0 < s then sum19 i Z x18 x19 else x19
def next20 (s : Nat) (i : grid0.Static) (Z : FVec F S384x1024 .f32) (x20 : Vec F S7680x128 .f32) : Vec F S7680x128 .f32 :=
  if s = 0 ∧ (i 1).val = 0 then wholeS.overlay x20 (k0_pay3 (F := F)) else if 0 < s then max20 i Z x20 else x20
def next21 (s : Nat) (i : grid0.Static) (Z : FVec F S384x1024 .f32) (x20 x21 : Vec F S7680x128 .f32) : Vec F S7680x128 .f32 :=
  if s = 0 ∧ (i 1).val = 0 then wholeS.overlay x21 (k0_pay5 (F := F)) else if 0 < s then sum21 i Z x20 x21 else x21
/-- The two results after the point: written by the last step alone. -/
def next14 (s n : Nat) (i : grid0.Static) (x18 x19 : Vec F S7680x128 .f32) (x14 : Vec F S384x128 .f32) : Vec F S384x128 .f32 :=
  if s + 1 = n then out14 i x18 x19 x14 else x14
def next15 (s n : Nat) (i : grid0.Static) (x20 x21 : Vec F S7680x128 .f32) (x15 : Vec F S384x128 .f32) : Vec F S384x128 .f32 :=
  if s + 1 = n then out15 i x20 x21 x15 else x15

set_option maxHeartbeats 2000000 in
/-- The body at any grid point, for any continuation: what it reads is given back as it was, and the other buffers are left at
    the functions above, or at contents nothing is said of. -/
theorem point (c : Dev nD) (b : grid0.Bounds) (i : grid0.Static) (s : Nat) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hp : Pt s (b 0)) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ y, owns (c : Thread nD τ) arg12 fullShare y) ∗ (∃ y, owns (c : Thread nD τ) arg13 fullShare y) ∗ owns (c : Thread nD τ) arg14 fullShare (next14 s (b 0) i (next18 s i (zT hp i x2 x3 x6 x7 x8 x17) x18) (next19 s i (zT hp i x2 x3 x6 x7 x8 x17) x18 x19) x14) ∗ owns (c : Thread nD τ) arg15 fullShare (next15 s (b 0) i (next20 s i (zS s x2 x4 x5 x9 x10) x20) (next21 s i (zS s x2 x4 x5 x9 x10) x20 x21) x15) ∗ (∃ y, owns (c : Thread nD τ) arg16 fullShare y) ∗ owns (c : Thread nD τ) arg17 fullShare (next17 hp i x6 x7 x8 x17) ∗ owns (c : Thread nD τ) arg18 fullShare (next18 s i (zT hp i x2 x3 x6 x7 x8 x17) x18) ∗ owns (c : Thread nD τ) arg19 fullShare (next19 s i (zT hp i x2 x3 x6 x7 x8 x17) x18 x19) ∗ owns (c : Thread nD τ) arg20 fullShare (next20 s i (zS s x2 x4 x5 x9 x10) x20) ∗ owns (c : Thread nD τ) arg21 fullShare (next21 s i (zS s x2 x4 x5 x9 x10) x20 x21)) -∗ K ⟨⟩))
    ⊢ wp frame (wpE (defs₀ (F := F)) Variants.none c none) Set.univ (cc0_forward b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  obtain ⟨hs, h2, h150⟩ := id hp
  have hi : (i 1).val < 20 := (i 1).isLt
  have c1 := cond1_iff hs h2 h150
  have c3 := cond3_iff hs h2 h150
  have c4 := cond4_iff hs h2 h150
  have ci := init_iff hs h2 h150 hi
  have k1 := chk1 hs h2 h150 i
  have k2 := chk2 hs h2 h150
  by_cases h0 : s = 0
  · have e17 : next17 hp i x6 x7 x8 x17 = tile17 i (BitVec.ofNat 32 s) (k0_off2_inb i (BitVec.ofNat 32 s) _ k1 (c1.mpr (by omega))) x6 x7 x8 x17 := if_pos (by omega)
    have e14 : ∀ u v, next14 (F := F) s (b 0) i u v x14 = x14 := fun u v => if_neg (by omega)
    have e15 : ∀ u v, next15 (F := F) s (b 0) i u v x15 = x15 := fun u v => if_neg (by omega)
    rw [e14, e15, e17]
    by_cases hi0 : (i 1).val = 0
    · have hc : s = 0 ∧ (i 1).val = 0 := ⟨h0, hi0⟩
      unfold next18 next19 next20 next21
      rw [if_pos hc, if_pos hc, if_pos hc, if_pos hc]
      iintro ⟨H2, H3, H4, H5, H6, H7, H8, H9, H10, H11, H12, H13, H14, H15, H16, H17, H18, H19, H20, H21, Hk⟩
      iapply (runA c b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q x2 x3 x4 x5 x6 x7 x8 x9 x10 x11 x12 x13 x14 x15 x16 x17 x18 x19 x20 x21 k1 k2 (c1.mpr (by omega)) (ci.mpr hc) (fun h => by have := c3.mp h; omega) (fun h => by have := c4.mp h; omega) K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iintro ⟨H2, H3, H4, H5, H6, H7, H8, H9, H10, H11, H12, H13, H14, H15, H16, H17, H18, H19, H20, H21⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexact H14
      isplitl [H15]; · iexact H15
      isplitl [H16]; · iexists _; iexact H16
      isplitl [H17]; · iexact H17
      isplitl [H18]; · iexact H18
      isplitl [H19]; · iexact H19
      isplitl [H20]; · iexact H20
      iexact H21
    · have hc : ¬ (s = 0 ∧ (i 1).val = 0) := fun h => hi0 h.2
      have hn : ¬ 0 < s := by omega
      unfold next18 next19 next20 next21
      rw [if_neg hc, if_neg hc, if_neg hc, if_neg hc, if_neg hn, if_neg hn, if_neg hn, if_neg hn]
      iintro ⟨H2, H3, H4, H5, H6, H7, H8, H9, H10, H11, H12, H13, H14, H15, H16, H17, H18, H19, H20, H21, Hk⟩
      iapply (runB c b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q x2 x3 x4 x5 x6 x7 x8 x9 x10 x11 x12 x13 x14 x15 x16 x17 x18 x19 x20 x21 k1 k2 (c1.mpr (by omega)) (fun h => hc (ci.mp h)) (fun h => by have := c3.mp h; omega) (fun h => by have := c4.mp h; omega) K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iintro ⟨H2, H3, H4, H5, H6, H7, H8, H9, H10, H11, H12, H13, H14, H15, H16, H17, H18, H19, H20, H21⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexact H14
      isplitl [H15]; · iexact H15
      isplitl [H16]; · iexists _; iexact H16
      isplitl [H17]; · iexact H17
      isplitl [H18]; · iexact H18
      isplitl [H19]; · iexact H19
      isplitl [H20]; · iexact H20
      iexact H21
  · have hc : ¬ (s = 0 ∧ (i 1).val = 0) := fun h => h0 h.1
    have hn : 0 < s := by omega
    unfold next18 next19 next20 next21
    rw [if_neg hc, if_neg hc, if_neg hc, if_neg hc, if_pos hn, if_pos hn, if_pos hn, if_pos hn]
    by_cases hl : s + 1 < b 0
    · have e17 : next17 hp i x6 x7 x8 x17 = tile17 i (BitVec.ofNat 32 s) (k0_off2_inb i (BitVec.ofNat 32 s) _ k1 (c1.mpr (by omega))) x6 x7 x8 x17 := if_pos (by omega)
      have e14 : ∀ u v, next14 (F := F) s (b 0) i u v x14 = x14 := fun u v => if_neg (by omega)
      have e15 : ∀ u v, next15 (F := F) s (b 0) i u v x15 = x15 := fun u v => if_neg (by omega)
      unfold zT zS
      rw [e14, e15, e17]
      exact runC c b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q x2 x3 x4 x5 x6 x7 x8 x9 x10 x11 x12 x13 x14 x15 x16 x17 x18 x19 x20 x21 k1 k2 (c1.mpr hl) (fun h => hc (ci.mp h)) (c3.mpr hn) (fun h => by have := c4.mp h; omega) K
    · have e17 : next17 hp i x6 x7 x8 x17 = x17 := if_neg hl
      have e14 : ∀ u v, next14 (F := F) s (b 0) i u v x14 = out14 i u v x14 := fun u v => if_pos (by omega)
      have e15 : ∀ u v, next15 (F := F) s (b 0) i u v x15 = out15 i u v x15 := fun u v => if_pos (by omega)
      unfold zT zS
      rw [e14, e15, e17]
      exact runD c b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q x2 x3 x4 x5 x6 x7 x8 x9 x10 x11 x12 x13 x14 x15 x16 x17 x18 x19 x20 x21 k1 k2 (fun h => hl (c1.mp h)) (fun h => hc (ci.mp h)) (c3.mpr hn) (c4.mpr (by omega)) K

end Cert.KernelIdeal.Hand
end
-- ==== Proof.KI.Data.lean ====
module

public import proofs.«01_k».proof.Proof.KI.Point

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The proof data of the launch, for any invariant of the scratch buffers -/

/-- The six arrays the invariant speaks of are the weight tiles and the four running statistics; a result's relation says what a
    point leaves in the result's staging buffer. -/
structure Track (F : FTy → Type) where
  Inv : Nat → Vec F S2x2560x1024 .bf16 → Vec F S7680x128 .f32 → Vec F S7680x128 .f32 → Vec F S7680x128 .f32 → Vec F S7680x128 .f32 → Prop
  R11 : Nat → Vec F S384x128 .f32 → Vec F S384x128 .f32 → Prop
  R12 : Nat → Vec F S384x128 .f32 → Vec F S384x128 .f32 → Prop

variable (m : (ℓ : Loc nD τ sig) → Buf (Elt F) ℓ) (a : (pcfg0 (F := F)).Adm) (T : Track F)

/-- What a point may leave in each window's staging buffer: an input as it was found, the logits and the dequantised student tile
    anything, the two results as tracked. -/
def afterD : (w : Fin 14) → Fin (cfg0 a).N → ((((cfg0 a).win w).block.Idx → Elt F ((cfg0 a).win w).elt)) → ((((cfg0 a).win w).block.Idx → Elt F ((cfg0 a).win w).elt)) → Prop
  | 0 => fun t Y X => X = Y
  | 1 => fun t Y X => X = Y
  | 2 => fun t Y X => X = Y
  | 3 => fun t Y X => X = Y
  | 4 => fun t Y X => X = Y
  | 5 => fun t Y X => X = Y
  | 6 => fun t Y X => X = Y
  | 7 => fun t Y X => X = Y
  | 8 => fun t Y X => X = Y
  | 9 => fun t Y X => True
  | 10 => fun t Y X => True
  | 11 => fun t Y X => T.R11 t.val Y X
  | 12 => fun t Y X => T.R12 t.val Y X
  | 13 => fun t Y X => True

/-- The launch contents of a core's buffers. -/
def V (c : Dev nD) (b : Ref sig .tc) : Buf (Elt F) ((c : Thread nD τ).loc b) := m ((c : Thread nD τ).loc b)

/-- The invariant between points: the table's half share, the scratch buffers at contents satisfying `Inv`, the generator register. -/
def PhiD (c : Dev nD) (k : Nat) : sProp 𝕄 :=
  iprop((∃ w17 w18 w19 w20 w21, ⌜T.Inv k w17 w18 w19 w20 w21⌝ ∗ owns (c : Thread nD τ) (Memref.whole cc0_scratch0) fullShare w17
      ∗ owns (c : Thread nD τ) (Memref.whole cc0_scratch1) fullShare w18 ∗ owns (c : Thread nD τ) (Memref.whole cc0_scratch2) fullShare w19
      ∗ owns (c : Thread nD τ) (Memref.whole cc0_scratch3) fullShare w20 ∗ owns (c : Thread nD τ) (Memref.whole cc0_scratch4) fullShare w21)
    ∗ owns (c : Thread nD τ) (Memref.whole main_arg9) fullShare.right (a.1 1) ∗ (∃ r, prngReg c r))

def dat (c : Dev nD) : Pipeline.RDat τ (Elt F) Unit ℕ (UR sig nD τ) ℕ (cfg0 a) c where
  A w := V m c (Pipeline.arrRef spec0 w)
  after := afterD a T
  Φ k := PhiD (F := F) a T c k.val
  q _ := fullShare
  owed _ := 0

/-- The step and the token block of point `t`. -/
abbrev stepOf (t : Fin (cfg0 a).N) : Nat := ((cfg0 a).grid.coords t 0).val
abbrev blkOf (t : Fin (cfg0 a).N) : grid0.Static := Pipeline.Grid.Coords.static grid0 ((cfg0 a).grid.coords t)

theorem pt_of (hg : Good a.1) (t : Fin (cfg0 a).N) : Pt (stepOf a t) (dynb0 a.1 0) := by
  have h1 := hg.steps; have h2 := hg.le_149; have h3 := hg.one_le
  have h4 : dynb0 a.1 0 = (nsteps a.1).toNat := rfl
  have h5 : stepOf a t < dynb0 a.1 0 := ((cfg0 a).grid.coords t 0).isLt
  refine ⟨h5, ?_, ?_⟩ <;> omega

/-- One point keeps the invariant and the results' relations, at the blocks `Y0`, …, `Y7` of the inputs. -/
def KeepsAt (hg : Good a.1) (t : Fin (cfg0 a).N) (Y0 : Vec F S384x2560 .bf16) (Y1 : Vec F S384x1024 .fp8e4m3) (Y2 : Vec F S384x128 .f32) (Y3 : Vec F S64x1024 .i8) (Y4 : Vec F S20x1024 .f32) (Y5 : Vec F S20x1024 .f32) (Y6 : Vec F S1024x1024 .fp8e4m3) (Y7 : Vec F S1x1024 .f32) (Y11 : Vec F S384x128 .f32) (Y12 : Vec F S384x128 .f32) : Prop :=
  ∀ w17 w18 w19 w20 w21, T.Inv t.val w17 w18 w19 w20 w21 →
      T.Inv (t.val + 1) (next17 (pt_of a hg t) (blkOf a t) Y3 Y4 Y5 w17) (next18 (stepOf a t) (blkOf a t) (zT (pt_of a hg t) (blkOf a t) (a.1 1) Y0 Y3 Y4 Y5 w17) w18) (next19 (stepOf a t) (blkOf a t) (zT (pt_of a hg t) (blkOf a t) (a.1 1) Y0 Y3 Y4 Y5 w17) w18 w19)
          (next20 (stepOf a t) (blkOf a t) (zS (stepOf a t) (a.1 1) Y1 Y2 Y6 Y7) w20) (next21 (stepOf a t) (blkOf a t) (zS (stepOf a t) (a.1 1) Y1 Y2 Y6 Y7) w20 w21)
        ∧ T.R11 t.val Y11 (next14 (stepOf a t) (dynb0 a.1 0) (blkOf a t) (next18 (stepOf a t) (blkOf a t) (zT (pt_of a hg t) (blkOf a t) (a.1 1) Y0 Y3 Y4 Y5 w17) w18) (next19 (stepOf a t) (blkOf a t) (zT (pt_of a hg t) (blkOf a t) (a.1 1) Y0 Y3 Y4 Y5 w17) w18 w19) Y11)
        ∧ T.R12 t.val Y12 (next15 (stepOf a t) (dynb0 a.1 0) (blkOf a t) (next20 (stepOf a t) (blkOf a t) (zS (stepOf a t) (a.1 1) Y1 Y2 Y6 Y7) w20) (next21 (stepOf a t) (blkOf a t) (zS (stepOf a t) (a.1 1) Y1 Y2 Y6 Y7) w20 w21) Y12)

/-- And at any blocks the windows may find. -/
def Keeps (hg : Good a.1) (c : Dev nD) : Prop :=
  ∀ (t : Fin (cfg0 a).N) (Y : (w : Fin 14) → ((cfg0 a).win w).block.Idx → Elt F ((cfg0 a).win w).elt), (∀ w, (dat m a T c).Finds w t (Y w)) →
    KeepsAt a T hg t (Y 0) (Y 1) (Y 2) (Y 3) (Y 4) (Y 5) (Y 6) (Y 7) (Y 11) (Y 12)

/-- The body as the pipeline calls it at point `t`. -/
def bodyAt (t : Fin (cfg0 a).N) : Prog (TpuEff nD τ sig (Elt F) Λ₀ .tc) PUnit :=
  cc0_forward (dynb0 a.1) (blkOf a t) (BitVec.ofNat 32 (stepOf a t)) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.KernelIdeal.Hand
end
-- ==== Proof.KI.Row.lean ====
module

public import proofs.«01_k».proof.Proof.KI.Data

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (a : (pcfg0 (F := F)).Adm) (T : Track F)

theorem defs₀_row (t : Fin (cfg0 a).N) : defs₀ (F := F) .tc (cfg0 a).body ((cfg0 a).bodyArgs t ((cfg0 a).slots t)) = bodyAt a t := by
  unfold defs₀; rw [Defs.onTc_tc]; rfl

end Cert.KernelIdeal.Hand
end
-- ==== Proof.KI.Body.lean ====
module

public import proofs.«01_k».proof.Proof.KI.Row

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (a : (pcfg0 (F := F)).Adm) (T : Track F)

/-- What the body is called with at point `t`, and what it returns. -/
def bodyPre (c : Dev nD) (t : Fin (cfg0 a).N) (Y0 : Vec F S384x2560 .bf16) (Y1 : Vec F S384x1024 .fp8e4m3) (Y2 : Vec F S384x128 .f32) (Y3 : Vec F S64x1024 .i8) (Y4 : Vec F S20x1024 .f32) (Y5 : Vec F S20x1024 .f32) (Y6 : Vec F S1024x1024 .fp8e4m3) (Y7 : Vec F S1x1024 .f32) (Y8 : Vec F S1024x128 .f32) (Y9 : Vec F S384x1024 .f32) (Y10 : Vec F S384x1024 .f32) (Y11 : Vec F S384x128 .f32) (Y12 : Vec F S384x128 .f32) (Y13 : Vec F S1024x1024 .bf16) : sProp 𝕄 :=
  iprop(PhiD (F := F) a T c t.val ∗ (dat m a T c).owesAt () t.castSucc ∗ owns (c : Thread nD τ) (spec0_0.stage ((cfg0 a).slots t 0)) fullShare Y0 ∗ owns (c : Thread nD τ) (spec0_1.stage ((cfg0 a).slots t 1)) fullShare Y1 ∗ owns (c : Thread nD τ) (spec0_2.stage ((cfg0 a).slots t 2)) fullShare Y2 ∗ owns (c : Thread nD τ) (spec0_3.stage ((cfg0 a).slots t 3)) fullShare Y3 ∗ owns (c : Thread nD τ) (spec0_4.stage ((cfg0 a).slots t 4)) fullShare Y4 ∗ owns (c : Thread nD τ) (spec0_5.stage ((cfg0 a).slots t 5)) fullShare Y5 ∗ owns (c : Thread nD τ) (spec0_6.stage ((cfg0 a).slots t 6)) fullShare Y6 ∗ owns (c : Thread nD τ) (spec0_7.stage ((cfg0 a).slots t 7)) fullShare Y7 ∗ owns (c : Thread nD τ) (spec0_8.stage ((cfg0 a).slots t 8)) fullShare Y8 ∗ owns (c : Thread nD τ) (spec0_9.stage ((cfg0 a).slots t 9)) fullShare Y9 ∗ owns (c : Thread nD τ) (spec0_10.stage ((cfg0 a).slots t 10)) fullShare Y10 ∗ owns (c : Thread nD τ) (spec0_11.stage ((cfg0 a).slots t 11)) fullShare Y11 ∗ owns (c : Thread nD τ) (spec0_12.stage ((cfg0 a).slots t 12)) fullShare Y12 ∗ owns (c : Thread nD τ) (spec0_13.stage ((cfg0 a).slots t 13)) fullShare Y13)
def bodyPost (c : Dev nD) (t : Fin (cfg0 a).N) (Y0 : Vec F S384x2560 .bf16) (Y1 : Vec F S384x1024 .fp8e4m3) (Y2 : Vec F S384x128 .f32) (Y3 : Vec F S64x1024 .i8) (Y4 : Vec F S20x1024 .f32) (Y5 : Vec F S20x1024 .f32) (Y6 : Vec F S1024x1024 .fp8e4m3) (Y7 : Vec F S1x1024 .f32) (Y8 : Vec F S1024x128 .f32) (Y9 : Vec F S384x1024 .f32) (Y10 : Vec F S384x1024 .f32) (Y11 : Vec F S384x128 .f32) (Y12 : Vec F S384x128 .f32) (Y13 : Vec F S1024x1024 .bf16) : sProp 𝕄 :=
  iprop(PhiD (F := F) a T c (t.val + 1) ∗ (dat m a T c).owesAt () t.castSucc ∗ (∃ X, ⌜X = Y0⌝ ∗ owns (c : Thread nD τ) (spec0_0.stage ((cfg0 a).slots t 0)) fullShare X) ∗ (∃ X, ⌜X = Y1⌝ ∗ owns (c : Thread nD τ) (spec0_1.stage ((cfg0 a).slots t 1)) fullShare X) ∗ (∃ X, ⌜X = Y2⌝ ∗ owns (c : Thread nD τ) (spec0_2.stage ((cfg0 a).slots t 2)) fullShare X) ∗ (∃ X, ⌜X = Y3⌝ ∗ owns (c : Thread nD τ) (spec0_3.stage ((cfg0 a).slots t 3)) fullShare X) ∗ (∃ X, ⌜X = Y4⌝ ∗ owns (c : Thread nD τ) (spec0_4.stage ((cfg0 a).slots t 4)) fullShare X) ∗ (∃ X, ⌜X = Y5⌝ ∗ owns (c : Thread nD τ) (spec0_5.stage ((cfg0 a).slots t 5)) fullShare X) ∗ (∃ X, ⌜X = Y6⌝ ∗ owns (c : Thread nD τ) (spec0_6.stage ((cfg0 a).slots t 6)) fullShare X) ∗ (∃ X, ⌜X = Y7⌝ ∗ owns (c : Thread nD τ) (spec0_7.stage ((cfg0 a).slots t 7)) fullShare X) ∗ (∃ X, ⌜X = Y8⌝ ∗ owns (c : Thread nD τ) (spec0_8.stage ((cfg0 a).slots t 8)) fullShare X) ∗ (∃ X, ⌜True⌝ ∗ owns (c : Thread nD τ) (spec0_9.stage ((cfg0 a).slots t 9)) fullShare X) ∗ (∃ X, ⌜True⌝ ∗ owns (c : Thread nD τ) (spec0_10.stage ((cfg0 a).slots t 10)) fullShare X) ∗ (∃ X, ⌜T.R11 t.val Y11 X⌝ ∗ owns (c : Thread nD τ) (spec0_11.stage ((cfg0 a).slots t 11)) fullShare X) ∗ (∃ X, ⌜T.R12 t.val Y12 X⌝ ∗ owns (c : Thread nD τ) (spec0_12.stage ((cfg0 a).slots t 12)) fullShare X) ∗ (∃ X, ⌜True⌝ ∗ owns (c : Thread nD τ) (spec0_13.stage ((cfg0 a).slots t 13)) fullShare X))

set_option maxHeartbeats 2000000 in
theorem sound_body (hg : Good a.1) (c : Dev nD) (t : Fin (cfg0 a).N) (Y0 : Vec F S384x2560 .bf16) (Y1 : Vec F S384x1024 .fp8e4m3) (Y2 : Vec F S384x128 .f32) (Y3 : Vec F S64x1024 .i8) (Y4 : Vec F S20x1024 .f32) (Y5 : Vec F S20x1024 .f32) (Y6 : Vec F S1024x1024 .fp8e4m3) (Y7 : Vec F S1x1024 .f32) (Y8 : Vec F S1024x128 .f32) (Y9 : Vec F S384x1024 .f32) (Y10 : Vec F S384x1024 .f32) (Y11 : Vec F S384x128 .f32) (Y12 : Vec F S384x128 .f32) (Y13 : Vec F S1024x1024 .bf16)
    (hk : KeepsAt a T hg t Y0 Y1 Y2 Y3 Y4 Y5 Y6 Y7 Y11 Y12) :
    bodyPre m a T c t Y0 Y1 Y2 Y3 Y4 Y5 Y6 Y7 Y8 Y9 Y10 Y11 Y12 Y13 ⊢ wp frame (wpE (defs₀ (F := F)) Variants.none c none) Set.univ (bodyAt a t) (fun _ => bodyPost m a T c t Y0 Y1 Y2 Y3 Y4 Y5 Y6 Y7 Y8 Y9 Y10 Y11 Y12 Y13) := by
  unfold bodyPre bodyPost PhiD bodyAt
  iintro ⟨⟨⟨%w17, %w18, %w19, %w20, %w21, %hI, S0, S1, S2, S3, S4⟩, HT, Hg⟩, HO, H0, H1, H2, H3, H4, H5, H6, H7, H8, H9, H10, H11, H12, H13⟩
  have hkk := hk w17 w18 w19 w20 w21 hI
  iapply (point c (dynb0 a.1) (blkOf a t) (stepOf a t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) fullShare.right (a.1 1) Y0 Y1 Y2 Y3 Y4 Y5 Y6 Y7 Y8 Y9 Y10 Y11 Y12 Y13 w17 w18 w19 w20 w21 (pt_of a hg t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  isplitl [S3]; · iexact S3
  isplitl [S4]; · iexact S4
  iintro ⟨HT, H0, H1, H2, H3, H4, H5, H6, H7, H8, ⟨%y9, H9⟩, ⟨%y10, H10⟩, H11, H12, ⟨%y13, H13⟩, S0, S1, S2, S3, S4⟩
  isplitl [S0 S1 S2 S3 S4 HT Hg]
  · isplitl [S0 S1 S2 S3 S4]
    · iexists _, _, _, _, _
      isplitr; swap
      · isplitl [S0]; · iexact S0
        isplitl [S1]; · iexact S1
        isplitl [S2]; · iexact S2
        isplitl [S3]; · iexact S3
        iexact S4
      ipureintro; exact hkk.1
    isplitl [HT]; · iexact HT
    iexact Hg
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact trivial
  isplitl [H10]
  · iexists _; isplitr; swap; · iexact H10
    ipureintro; exact trivial
  isplitl [H11]
  · iexists _; isplitr; swap; · iexact H11
    ipureintro; exact hkk.2.1
  isplitl [H12]
  · iexists _; isplitr; swap; · iexact H12
    ipureintro; exact hkk.2.2
  iexists _; isplitr; swap; · iexact H13
  ipureintro; exact trivial

end Cert.KernelIdeal.Hand
end
-- ==== Proof.KI.Oblig.lean ====
module

public import proofs.«01_k».proof.Proof.KI.Body

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (a : (pcfg0 (F := F)).Adm) (T : Track F)

theorem body_obligation (hg : Good a.1) (c : Dev nD) (hk : Keeps m a T hg c) :
    (dat m a T c).BodyObligation (defs₀ (F := F)) Variants.none () Set.univ := by
  intro t Y hY
  rw [bigSep_W0, bigSep_W0, defs₀_row,
    show (dat m a T c).Φ t.castSucc = PhiD (F := F) a T c t.val from congrArg (PhiD (F := F) a T c) (Fin.val_castSucc t)]
  exact triple_restated (sound_body m a T hg c t (Y 0) (Y 1) (Y 2) (Y 3) (Y 4) (Y 5) (Y 6) (Y 7) (Y 8) (Y 9) (Y 10) (Y 11) (Y 12) (Y 13) (hk t Y hY)) rfl .rfl fun _ => .rfl

end Cert.KernelIdeal.Hand
end
-- ==== Proof.KI.Launch.lean ====
module

public import proofs.«01_k».proof.Proof.KI.Oblig

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (a : (pcfg0 (F := F)).Adm) (T : Track F)

/-! ## The launch -/

variable (ρ : Dev nD → PrngReg)

theorem bigSep_two {M : Type} [URA M] (Φ : Fin 2 → sProp M) : bigSep Finset.univ Φ = iprop(Φ 0 ∗ Φ 1) :=
  BI.bigSep_univ_eq_bigSepL [(0 : Fin 2), (1 : Fin 2)] (by decide) (by decide) Φ

theorem hin0 (c : Dev nD) (h0 : ∀ w17 w18 w19 w20 w21, T.Inv 0 w17 w18 w19 w20 w21) :
    iprop(Pipeline.ΦA (cfg0 a).spec c ∗ Pipeline.ΦT pre0 a.1 c) ⊢ PhiD (F := F) a T c 0 := by
  unfold PhiD Pipeline.ΦA Pipeline.ΦT Pipeline.prefHeld
  rw [show (cfg0 a).spec = spec0 from rfl, scopedRest0_eq]
  simp only [owns_whole]
  rw [bigSep_two]
  iintro ⟨⟨⟨⟨%f0, S0⟩, ⟨%f1, S1⟩, ⟨%f2, S2⟩, ⟨%f3, S3⟩, ⟨%f4, S4⟩⟩, Hg⟩, ⟨-, HT⟩⟩
  isplitl [S0 S1 S2 S3 S4]
  · iexists f0, f1, f2, f3, f4
    isplitr; · ipureintro; exact h0 _ _ _ _ _
    isplitl [S0]; · iexact S0
    isplitl [S1]; · iexact S1
    isplitl [S2]; · iexact S2
    isplitl [S3]; · iexact S3
    iexact S4
  isplitl [HT]; · iapply (Entails.of_eq (owns_whole (c : Thread nD τ) main_arg9 fullShare.right (a.1 1)).symm); iexact HT
  iexact Hg

theorem hout0 (c : Dev nD) (k : Nat) : PhiD (F := F) a T c k ⊢ Pipeline.ΦA (cfg0 a).spec c := by
  unfold PhiD Pipeline.ΦA
  rw [show (cfg0 a).spec = spec0 from rfl, scopedRest0_eq]
  simp only [owns_whole]
  iintro ⟨⟨%w17, %w18, %w19, %w20, %w21, -, S0, S1, S2, S3, S4⟩, -, Hg⟩
  isplitr [Hg]
  · isplitl [S0]; · iexists _; iexact S0
    isplitl [S1]; · iexists _; iexact S1
    isplitl [S2]; · iexists _; iexact S2
    isplitl [S3]; · iexists _; iexact S3
    iexists _; iexact S4
  iexact Hg

set_option backward.isDefEq.respectTransparency.types false in
/-- The launch: every execution terminates, the arrays stand in the data's relations, the other buffers are unchanged. -/
theorem run_main (hg : Good a.1) (hpf : ∀ c k, V m c (pre0.ref k) = a.1 k) (h0 : ∀ w17 w18 w19 w20 w21, T.Inv 0 w17 w18 w19 w20 w21)
    (hk : ∀ c, Keeps m a T hg c) :
    θ_run defs (onTc (τ := τ) (main (F := F))) (s₀ m ρ)
      (fun r => Pipeline.RDat.FramePost (cfg0 a) (dat m a T) (V m) r ∧ r.2.sem = fun _ => 0) :=
  Pipeline.RDat.θ_run_frameP_track (Q' := _) pcfgs (fun _ => a) (0 : Fin 1) launch0 defs₀ Variants.none (dat m a T) m ρ main
    (hbody := fun c => body_obligation m a T hg c (hk c)) (hshare := fun c => (dat m a T c).share_full fun _ => rfl)
    (howed := fun _ _ => rfl) (V := V m)
    (hmain := Pipeline.hmainP_region pcfgs 0 defs₀ Variants.none m main fun c => (main_chain c).trans rfl)
    (hA := fun _ _ => rfl) (hpf := hpf) (hin := fun c => hin0 a T c h0) (hout := fun c => hout0 a T c _)

end Cert.KernelIdeal.Hand
end
-- ==== Proof.KI.Pre.lean ====
module

public import proofs.«01_k».proof.Proof.KI.Launch
public import proofs.«01_k».proof.Pre_launched
public import Idealize.ShloMosaic.Lib.Affine

/-! What the precondition says of the two tables, read back from the printed function. -/

@[expose] public section

set_option maxRecDepth 16384
noncomputable section

namespace Cert.KernelIdeal.Hand

open Cert.KernelIdeal Cert.KernelIdeal.Gen
open Idealize.ShloMosaic Idealize.ShloMosaic.TcCoe

variable {F : FTy → Type} [FloatOps F] [Named F]

/-- An entry of the table, cut out and reshaped to a scalar. -/
theorem entry (v : IVec Cert.Pre_launched.S5 32) (k : Fin 5) (off : Fin 1 → Nat) (ho : off 0 = k.val)
    (h : Cert.Pre_launched.S5.Slices off Cert.Pre_launched.S1) (h' : Cert.Pre_launched.S1.ShapeCasts Cert.Pre_launched.S_) (j : Cert.Pre_launched.S_.Idx) :
    shapeCast Cert.Pre_launched.S_ (extractStridedSlice Cert.Pre_launched.S1 off v h) h' j = v (ix5 k) := by
  unfold shapeCast extractStridedSlice
  congr 1
  funext a
  apply Fin.ext
  fin_cases a
  have hz : ∀ x : Cert.Pre_launched.S1.Idx, (x 0).val = 0 := fun x => by have := (x 0).isLt; simp at this; omega
  simp [ix5, ho, hz]

omit [Named F] in
/-- The precondition's word, taken apart. -/
theorem decode [Cert.Pre_launched.Facts] (x0 : FVec F ⟨2, ![7680, 2560]⟩ .bf16) (x1 : FVec F ⟨2, ![7680, 1024]⟩ .fp8e4m3)
    (x2 : FVec F ⟨2, ![7680, 128]⟩ .f32) (x3 : IVec ⟨2, ![1280, 151936]⟩ 8) (x4 x5 : FVec F ⟨2, ![20, 151936]⟩ .f32)
    (x6 : FVec F ⟨2, ![151936, 1024]⟩ .fp8e4m3) (x7 : FVec F ⟨2, ![1, 151936]⟩ .f32) (x8 : FVec F ⟨2, ![151936, 128]⟩ .f32)
    (v : IVec Cert.Pre_launched.S5 32) (n : IVec Cert.Pre_launched.S_ 32)
    (h : Cert.Pre_launched.fn (F := F) x0 x1 x2 x3 x4 x5 x6 x7 x8 v n = fun _ => 1#1) :
    ((((IntOp.cmpi .sge (v (ix5 2)) 1#32 = 1#1 ∧ IntOp.cmpi .sle (v (ix5 2)) 149#32 = 1#1)
      ∧ IntOp.cmpi .eq (n fun a => a.elim0) (v (ix5 2) + 1#32) = 1#1) ∧ IntOp.cmpi .sge (v (ix5 1)) 0#32 = 1#1)
      ∧ IntOp.cmpi .sle (v (ix5 0)) 151936#32 = 1#1) ∧ IntOp.cmpi .sle (v (ix5 0)) (v (ix5 2) * 1024#32) = 1#1 := by
  have h := congrFun h fun a => a.elim0
  simp only [Cert.Pre_launched.fn, Cert.Pre_launched.fn_part1, andi, cmpi, addi, muli, constantI, IntOp.andi_eq_one] at h
  rw [entry v 2 ![2] rfl, entry v 1 ![1] rfl, entry v 0 ![0] rfl] at h
  exact h

/-- What the six comparisons say of the words. -/
theorem words {a0 a1 a2 n : BitVec 32}
    (h : ((((IntOp.cmpi .sge a2 1#32 = 1#1 ∧ IntOp.cmpi .sle a2 149#32 = 1#1)
      ∧ IntOp.cmpi .eq n (a2 + 1#32) = 1#1) ∧ IntOp.cmpi .sge a1 0#32 = 1#1)
      ∧ IntOp.cmpi .sle a0 151936#32 = 1#1) ∧ IntOp.cmpi .sle a0 (a2 * 1024#32) = 1#1) :
    1 ≤ a2.toNat ∧ a2.toNat ≤ 149 ∧ n.toNat = a2.toNat + 1 ∧ a1.toNat < 2 ^ 31 ∧ a0.toInt ≤ 151936 ∧ a0.toInt ≤ a2.toNat * 1024 := by
  obtain ⟨⟨⟨⟨⟨h1, h2⟩, h3⟩, h4⟩, h5⟩, h6⟩ := h
  rw [IntOp.cmpi_sge] at h1 h4
  rw [IntOp.cmpi_sle] at h2 h5 h6
  rw [IntOp.cmpi_eq] at h3
  have e1 : (1#32 : BitVec 32).toInt = 1 := by decide
  have e2 : (149#32 : BitVec 32).toInt = 149 := by decide
  have e3 : (151936#32 : BitVec 32).toInt = 151936 := by decide
  have e4 : (0#32 : BitVec 32).toInt = 0 := by decide
  rw [e1] at h1; rw [e2] at h2; rw [e3] at h5; rw [e4] at h4
  have k1 : 1 ≤ a2.toNat ∧ a2.toNat ≤ 149 := by
    have := a2.isLt
    rw [BitVec.toInt_eq_toNat_cond] at h1 h2
    split at h1 <;> omega
  have k2 : (a2 * 1024#32).toNat = a2.toNat * 1024 := by
    rw [BitVec.toNat_mul, show (1024#32 : BitVec 32).toNat = 1024 from rfl, Nat.mod_eq_of_lt]; omega
  refine ⟨k1.1, k1.2, ?_, ?_, h5, ?_⟩
  · rw [h3, BitVec.toNat_add, show (1#32 : BitVec 32).toNat = 1 from rfl, Nat.mod_eq_of_lt]; omega
  · have := a1.isLt
    rw [BitVec.toInt_eq_toNat_cond] at h4
    split at h4 <;> omega
  · have e : (a2 * 1024#32).toInt = ((a2 * 1024#32).toNat : Int) := BitVec.toInt_eq_toNat_of_lt (by omega)
    rw [e, k2] at h6
    push_cast at h6
    exact h6

omit [Named F] in
/-- The precondition's word is one only for good tables. -/
theorem good_of [Cert.Pre_launched.Facts] (pf : pre0.Contents (Elt F)) (x0 : FVec F ⟨2, ![7680, 2560]⟩ .bf16) (x1 : FVec F ⟨2, ![7680, 1024]⟩ .fp8e4m3)
    (x2 : FVec F ⟨2, ![7680, 128]⟩ .f32) (x3 : IVec ⟨2, ![1280, 151936]⟩ 8) (x4 x5 : FVec F ⟨2, ![20, 151936]⟩ .f32)
    (x6 : FVec F ⟨2, ![151936, 1024]⟩ .fp8e4m3) (x7 : FVec F ⟨2, ![1, 151936]⟩ .f32) (x8 : FVec F ⟨2, ![151936, 128]⟩ .f32)
    (h : Cert.Pre_launched.fn (F := F) x0 x1 x2 x3 x4 x5 x6 x7 x8 (pf 1) (pf 0) = fun _ => 1#1) : Good pf :=
  have k := words (decode x0 x1 x2 x3 x4 x5 x6 x7 x8 (pf 1) (pf 0) h)
  ⟨k.1, k.2.1, k.2.2.1, k.2.2.2.1, k.2.2.2.2.1, k.2.2.2.2.2⟩

end Cert.KernelIdeal.Hand
end
-- ==== Proof.KI.Frame.lean ====
module

public import proofs.«01_k».proof.Proof.KI.Pre

/-! The frame of the launch: it terminates, its arguments end unchanged, every counter ends at zero. -/

@[expose] public section

set_option maxRecDepth 16384
noncomputable section

namespace Cert.KernelIdeal.Hand

open Cert.KernelIdeal Cert.KernelIdeal.Gen
open Idealize.ShloMosaic Idealize.ShloMosaic.TcCoe Idealize.SL.Sem

variable {F : FTy → Type} [FloatOps F] [Named F]

variable (m : (ℓ : Loc nD τ sig) → Buf (Elt F) ℓ)

/-- The tables as the launch finds them. -/
def pf0 : pre0.Contents (Elt F) := fun k => m (((0 : Dev nD) : Thread nD τ).loc (pre0.ref k))

/-- There is one device. -/
theorem dev_eq (c : Dev nD) : c = 0 := Subsingleton.elim (α := Fin 1) c 0

omit [FloatOps F] [Named F] in
theorem pf0_eq (c : Dev nD) (k : Fin 2) : V m c (pre0.ref k) = pf0 m k := by
  rw [dev_eq c]; rfl

/-- The argument arrays end as they began. -/
def Unchanged (r : PUnit × MemSt nD τ sig (Elt F)) : Prop := ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)
  ∧ r.2.mem ((c : Thread nD τ).loc main_arg7) = m ((c : Thread nD τ).loc main_arg7)
  ∧ r.2.mem ((c : Thread nD τ).loc main_arg8) = m ((c : Thread nD τ).loc main_arg8)
  ∧ r.2.mem ((c : Thread nD τ).loc main_arg9) = m ((c : Thread nD τ).loc main_arg9)
  ∧ r.2.mem ((c : Thread nD τ).loc main_arg10) = m ((c : Thread nD τ).loc main_arg10)

variable (a : (pcfg0 (F := F)).Adm) (T : Track F)

/-- The launch's post keeps the arguments. -/
theorem unchanged_of {r : PUnit × MemSt nD τ sig (Elt F)} (h : Pipeline.RDat.FramePost (cfg0 a) (dat m a T) (V m) r) : Unchanged m r := by
  intro c
  have hi : ∀ w : Fin 14, ((cfg0 a).win w).isOut = false → r.2.mem ((c : Thread nD τ).loc (Pipeline.arrRef spec0 w)) = V m c (Pipeline.arrRef spec0 w) := by
    intro w hw
    have h1 := (h c).1 w
    rw [Pipeline.RDat.ArrAt_in (dat m a T c) w hw] at h1
    exact h1
  have hr : ∀ b : Ref sig .tc, b ∈ Pipeline.restRefs sig spec0 → r.2.mem ((c : Thread nD τ).loc b) = V m c b := (h c).2
  refine ⟨hi 0 rfl, hi 1 rfl, hi 2 rfl, hi 3 rfl, hi 4 rfl, hi 5 rfl, hi 6 rfl, hi 7 rfl, hi 8 rfl,
    hr main_arg9 (Pipeline.mem_restRefs_of _ (by decide) (by decide)), hr main_arg10 (Pipeline.mem_restRefs_of _ (by decide) (by decide))⟩

/-- No tracking at all. -/
def track0 (F : FTy → Type) : Track F := ⟨fun _ _ _ _ _ _ => True, fun _ _ _ => True, fun _ _ _ => True⟩

/-- The launch with good tables terminates, keeps its arguments and leaves every counter at zero. -/
theorem frame_run (ρ : Dev nD → PrngReg) (hg : Good (pf0 m)) :
    θ_run defs (onTc (τ := τ) (main (F := F))) ⟨m, fun _ => 0, ρ⟩ (fun r => Unchanged m r ∧ r.2.sem = fun _ => 0) :=
  (θ_run defs _ _).mono (fun _ h => ⟨unchanged_of m ⟨pf0 m, ok_good _ hg⟩ (track0 F) h.1, h.2⟩)
    (run_main m ⟨pf0 m, ok_good _ hg⟩ (track0 F) ρ hg (pf0_eq m) (fun _ _ _ _ _ => trivial)
      (fun _ _ _ _ _ _ _ _ _ _ => ⟨trivial, trivial, trivial⟩))

end Cert.KernelIdeal.Hand
end
-- ==== Proof.K.Base.lean ====
module

public import proofs.«01_k».proof.Proof.Gen.Kernel.Launch
public import proofs.«01_k».proof.Proof.Gen.Kernel.Skeleton
public import Idealize.ShloMosaic.Lib.Pipeline.Frame
public import Idealize.ShloMosaic.Lib.Pipeline.FrameBody
public import Idealize.ShloMosaic.Lib.Tactic

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one grid point leaves in the buffers, as functions of what it finds -/

theorem read_writes_overlay {κ : Kind} {sp : Space} {S : Shape} {e : EltTy} (v : View sig κ sp S e) (f : v.ty.Contents (Elt F))
    (p : View.Piece (Elt F) S e) (L : List (View.Piece (Elt F) S e)) :
    v.read (Elt F) (v.writes (Elt F) f (p :: L)) = p.1.overlay (v.read (Elt F) (v.writes (Elt F) f L)) p.2 := by
  obtain ⟨r, w⟩ := p
  funext y
  by_cases h : y ∈ r.set
  · obtain ⟨x, rfl⟩ := LoadRect.exists_idx_of_mem r.toLoadRect h
    rw [show r.toLoadRect.idx x = r.emb x from rfl, View.read_writes_cons_emb, Rect.overlay_emb]
  · rw [Rect.overlay_of_not_mem r _ _ h, View.writes_cons, View.read_slice_write_of_not_mem]
    rw [Rect.map_emb_univ]; exact h

/-- A load of what a list of stores left reads the overlay of the last store's payload. -/
theorem readAt_writes {κ : Kind} {sp : Space} {S : Shape} {e : EltTy} (v : View sig κ sp S e) (f : v.ty.Contents (Elt F))
    (p : View.Piece (Elt F) S e) (L : List (View.Piece (Elt F) S e)) (r : Rect S) :
    v.readAt (Elt F) r.toLoadRect (v.writes (Elt F) f (p :: L)) = View.ld (p.1.overlay (v.read (Elt F) (v.writes (Elt F) f L)) p.2) r := by
  rw [View.readAt_eq_ld, read_writes_overlay]

theorem ld_overlay {S : Shape} {e : EltTy} (r : Rect S) (X : S.Idx → Elt F e) (G : r.shape.Idx → Elt F e) :
    View.ld (r.overlay X G) r = G := funext fun x => Rect.overlay_emb r X G x

/-- The number of vocabulary columns, read from the first word of the scalar table. -/
def word (x2 : Vec F S5 .i32) : BitVec 32 :=
  View.ld x2 (Rect.unit (s := S5) ![0] S1.size inb_S5_S1_0) (Shape.Idx.first (by decide))

/-- The teacher weight tile with this point's group of 128 rows dequantised into its slot. -/
def tile17 (i : grid0.Static) (arg0 : BitVec 32) (hb : ∀ a, k0_off2 i arg0 a + S1x128x1024.size a ≤ S2x2560x1024.size a)
    (x6 : Vec F S64x1024 .i8) (x7 x8 : Vec F S20x1024 .f32) (x17 : Vec F S2x2560x1024 .bf16) : Vec F S2x2560x1024 .bf16 :=
  (Rect.unit (s := S2x2560x1024) (k0_off2 i arg0) S1x128x1024.size hb).overlay x17
    (k0_pay1 (View.ld x6 (Rect.unit (s := S64x1024) ![0, 0] S64x1024.size inb_S64x1024_S64x1024_0_0))
      (View.ld x8 (Rect.unit (s := S20x1024) (k0_off1 i) S1x1024.size (k0_off1_inb i)))
      (View.ld x7 (Rect.unit (s := S20x1024) (k0_off1 i) S1x1024.size (k0_off1_inb i))))

/-- The teacher's scaled, masked logits of this point: one row tile against one column tile. -/
def zTea (arg0 : BitVec 32) (hb : ∀ a, k0_off3 arg0 a + S1x2560x1024.size a ≤ S2x2560x1024.size a)
    (x2 : Vec F S5 .i32) (x3 : Vec F S384x2560 .bf16) (x17 : Vec F S2x2560x1024 .bf16) : FVec F S384x1024 .f32 :=
  k0_pay12 arg0 (word x2) (View.ld x3 (Rect.unit (s := S384x2560) ![0, 0] S384x2560.size inb_S384x2560_S384x2560_0_0))
    (View.ld x17 (Rect.unit (s := S2x2560x1024) (k0_off3 arg0) S1x2560x1024.size hb))

/-- The student's scaled, masked logits of this point. -/
def zStu (arg0 : BitVec 32) (x2 : Vec F S5 .i32) (x4 : Vec F S384x1024 .fp8e4m3) (x5 : Vec F S384x128 .f32)
    (x9 : Vec F S1024x1024 .fp8e4m3) (x10 : Vec F S1x1024 .f32) : FVec F S384x1024 .f32 :=
  k0_pay15 (k0_pay13 (View.ld x4 (Rect.unit (s := S384x1024) ![0, 0] S384x1024.size inb_S384x1024_S384x1024_0_0))
      (View.ld x9 (Rect.unit (s := S1024x1024) ![0, 0] S1024x1024.size inb_S1024x1024_S1024x1024_0_0))
      (View.ld x5 (Rect.unit (s := S384x128) ![0, 0] S384x1.size inb_S384x128_S384x1_0_0))
      (View.ld x10 (Rect.unit (s := S1x1024) ![0, 0] S1x1024.size inb_S1x1024_S1x1024_0_0)))
    (Scalar.ofBits .f32 0xF149F2CA#32) (k0_pay14 (F := F) arg0 (word x2))

/-- The rows of the running statistics this point's row tile owns. -/
abbrev rows (i : grid0.Static) : Rect S7680x128 := Rect.unit (s := S7680x128) (k0_off4 i) S384x128.size (k0_off4_inb i)
abbrev whole12 : Rect S384x128 := Rect.unit (s := S384x128) ![0, 0] S384x128.size inb_S384x128_S384x128_0_0

/-- The teacher's running maxima and sums after this point. -/
def max18 (i : grid0.Static) (Z : FVec F S384x1024 .f32) (x18 : Vec F S7680x128 .f32) : Vec F S7680x128 .f32 :=
  (rows i).overlay x18 (k0_pay26 (k0_pay24 Z (View.ld x18 (rows i))))
def sum19 (i : grid0.Static) (Z : FVec F S384x1024 .f32) (x18 x19 : Vec F S7680x128 .f32) : Vec F S7680x128 .f32 :=
  (rows i).overlay x19 (k0_pay27 (k0_pay25 Z (View.ld x18 (rows i)) (View.ld x19 (rows i))))
/-- The student's. -/
def max20 (i : grid0.Static) (Z : FVec F S384x1024 .f32) (x20 : Vec F S7680x128 .f32) : Vec F S7680x128 .f32 :=
  (rows i).overlay x20 (k0_pay6 (k0_pay36 Z (View.ld x20 (rows i))))
def sum21 (i : grid0.Static) (Z : FVec F S384x1024 .f32) (x20 x21 : Vec F S7680x128 .f32) : Vec F S7680x128 .f32 :=
  (rows i).overlay x21 (k0_pay7 (k0_pay37 Z (View.ld x20 (rows i)) (View.ld x21 (rows i))))

/-- The two results of a row tile, from its final statistics. -/
def out14 (i : grid0.Static) (x18 x19 : Vec F S7680x128 .f32) (x14 : Vec F S384x128 .f32) : Vec F S384x128 .f32 :=
  whole12.overlay x14 (k0_pay9 (View.ld x18 (rows i)) (View.ld x19 (rows i)))
def out15 (i : grid0.Static) (x20 x21 : Vec F S7680x128 .f32) (x15 : Vec F S384x128 .f32) : Vec F S384x128 .f32 :=
  whole12.overlay x15 (k0_pay10 (View.ld x20 (rows i)) (View.ld x21 (rows i)))

/-- The first point's filling of the statistics. -/
abbrev wholeS : Rect S7680x128 := Rect.unit (s := S7680x128) ![0, 0] S7680x128.size inb_S7680x128_S7680x128_0_0

end Cert.Kernel.Hand
end
-- ==== Proof.K.Tables.lean ====
module

public import proofs.«01_k».proof.Proof.K.Base
public import Idealize.ShloMosaic.Lib.Affine

@[expose] public section

set_option maxRecDepth 16384
noncomputable section

namespace Cert.Kernel.Hand

open Cert.Kernel Cert.Kernel.Gen Cert.Kernel.Facts
open Idealize.ShloMosaic Idealize.ShloMosaic.TcCoe

variable {F : FTy → Type} [FloatOps F]

/-! ## The two tables the launch reads, and the facts a grid point needs of them -/

/-- Position `k` of a table of five. -/
def ix5 (k : Fin 5) : S5.Idx := fun a => ⟨k.val, by revert a k; decide⟩

/-- Entries 0, 1, 2 of the table `info`. -/
def info0 (pf : pre0.Contents (Elt F)) : BitVec 32 := pf 1 (ix5 0)
def info1 (pf : pre0.Contents (Elt F)) : BitVec 32 := pf 1 (ix5 1)
def info2 (pf : pre0.Contents (Elt F)) : BitVec 32 := pf 1 (ix5 2)
/-- The number of steps of the grid's first axis. -/
def nsteps (pf : pre0.Contents (Elt F)) : BitVec 32 := pf 0 fun a => a.elim0

/-- What the precondition says of the tables: between one and 149 vocabulary tiles, one more step than tiles,
    a permutation offset that is not negative, and no more valid columns than there are or than the tiles hold. -/
structure Good (pf : pre0.Contents (Elt F)) : Prop where
  one_le : 1 ≤ (info2 pf).toNat
  le_149 : (info2 pf).toNat ≤ 149
  steps : (nsteps pf).toNat = (info2 pf).toNat + 1
  off : (info1 pf).toNat < 2 ^ 31
  cols : (info0 pf).toInt ≤ 151936
  cols_tiles : (info0 pf).toInt ≤ (info2 pf).toNat * 1024

omit [FloatOps F] in
theorem at1_eq (pf : pre0.Contents (Elt F)) : pf.at 1 (Rect.unit (s := S5) ![1] S1.size inb_S5_S1_1) numel1_S1 = info1 pf := by
  unfold Pipeline.Prefetch.Contents.at info1
  congr 1
  funext a
  fin_cases a
  rfl

omit [FloatOps F] in
theorem at2_eq (pf : pre0.Contents (Elt F)) : pf.at 1 (Rect.unit (s := S5) ![2] S1.size inb_S5_S1_2) numel1_S1 = info2 pf := by
  unfold Pipeline.Prefetch.Contents.at info2
  congr 1
  funext a
  fin_cases a
  rfl

/-! ### Small arithmetic of the index maps -/

theorem min148 : ∀ s : Fin 151, (Scalar.minsi (BitVec.ofNat 32 s.val) 148#32).toNat = min s.val 148 := by decide
theorem max1 : ∀ s : Fin 151, (Scalar.maxsi (Scalar.subi (BitVec.ofNat 32 s.val) 1#32) 0#32).toNat = s.val - 1 := by decide
theorem min19 : ∀ i : Fin 20, (Scalar.minsi (BitVec.ofNat 32 i.val) 19#32).toNat = i.val := by decide
theorem sel0 (c : BitVec 1) (i : Fin 20) : (Scalar.select c 0#32 (BitVec.ofNat 32 i.val)).toNat ≤ 19 := by
  revert c i; decide
theorem sel1 (c : BitVec 1) (i : Fin 20) : (Scalar.select c (BitVec.ofNat 32 i.val) 0#32).toNat ≤ 19 := by
  revert c i; decide
theorem sel2 (c : BitVec 1) (i : Fin 20) (v : BitVec 32) (hv : v.toNat < 2 ^ 31) :
    (Scalar.select c 0#32 (Scalar.maxsi (Scalar.subi (BitVec.ofNat 32 i.val) v) 0#32)).toNat ≤ 19 := by
  unfold Scalar.select
  split
  · decide
  · have hi := i.isLt
    unfold Scalar.maxsi IntOp.maxsi Scalar.subi IntOp.subi
    split
    · rename_i h
      rw [BitVec.slt_iff_toInt_lt] at h
      rw [BitVec.toInt_sub, BitVec.toInt_zero] at h
      rw [BitVec.toNat_sub]
      simp only [BitVec.toInt_eq_toNat_cond, BitVec.toNat_ofNat, Int.bmod_def] at h ⊢
      omega
    · decide

theorem blk2 {x y a b A B : Nat} (h0 : (x + 1) * a ≤ A) (h1 : (y + 1) * b ≤ B) :
    ∀ k : Fin 2, ((![x, y] : Fin 2 → Nat) k + 1) * (![a, b] : Fin 2 → Nat) k ≤ (![A, B] : Fin 2 → Nat) k := by
  intro k; fin_cases k
  · exact h0
  · exact h1

theorem row20 {x a A : Nat} (h : x ≤ 19) (hA : 20 * a ≤ A) : (x + 1) * a ≤ A :=
  (Nat.mul_le_mul_right a (Nat.succ_le_succ h)).trans hA

theorem start2 {x y a b A B : Nat} (h0 : x * a < A) (h1 : y * b < B) :
    ∀ k : Fin 2, (![x, y] : Fin 2 → Nat) k * (![a, b] : Fin 2 → Nat) k < (![A, B] : Fin 2 → Nat) k := by
  intro k; fin_cases k
  · exact h0
  · exact h1

theorem extent_dvd {p k d ix : Nat} (hk : p ∣ k) (hd : p ∣ d) : p ∣ (Pipeline.Clip.of ix k d).extent k := by
  unfold Pipeline.Clip.of
  split
  · exact hk
  · exact Nat.dvd_sub hd (hk.mul_left ix)

/-- The launch's side condition, from the tables. -/
theorem ok_good (pf : pre0.Contents (Elt F)) (h : Good pf) : ok0 pf := by
  have hb : (dynb0 pf 0) ≤ 150 := by
    have h1 := h.steps; have h2 := h.le_149
    show (nsteps pf).toNat ≤ 150
    omega
  have s0 : ∀ i : (grid0.at (dynb0 pf)).Coords, (i 0).val < 151 := fun i => lt_of_lt_of_le (i 0).isLt (hb.trans (by omega))
  have s1 : ∀ i : (grid0.at (dynb0 pf)).Coords, (i 1).val < 20 := fun i => (i 1).isLt
  have m148 : ∀ i : (grid0.at (dynb0 pf)).Coords, (Scalar.minsi (BitVec.ofNat 32 (i 0).val) 148#32).toNat ≤ 148 :=
    fun i => (min148 ⟨_, s0 i⟩).trans_le (min_le_right _ _)
  have m19 : ∀ i : (grid0.at (dynb0 pf)).Coords, (Scalar.minsi (BitVec.ofNat 32 (i 1).val) 19#32).toNat ≤ 19 :=
    fun i => (min19 ⟨_, s1 i⟩).trans_le (by have := s1 i; simp only; omega)
  have mx : ∀ i : (grid0.at (dynb0 pf)).Coords, (Scalar.maxsi (Scalar.subi (BitVec.ofNat 32 (i 0).val) 1#32) 0#32).toNat ≤ 148 := by
    intro i
    refine (max1 ⟨_, s0 i⟩).trans_le ?_
    have h1 : (i 0).val < dynb0 pf 0 := (i 0).isLt
    have h2 : dynb0 pf 0 = (nsteps pf).toNat := rfl
    have h3 := h.steps; have h4 := h.le_149
    simp only
    omega
  unfold ok0
  refine ⟨?_, ?_, ?_, ?_, ?_, ?_, ?_, ?_, ?_, ?_, ?_, ?_, ?_, ?_, ?_⟩
  · show (grid0.at (dynb0 pf)).N + 2 < 2 ^ 31
    have e : (grid0.at (dynb0 pf)).N = dynb0 pf 0 * 20 := by
      unfold Pipeline.Grid.N; exact (congrArg List.prod (List.ofFn_succ (n := 1) (f := (grid0.at (dynb0 pf)).bound))).trans (by simp [Pipeline.Grid.at, List.ofFn_succ]; rfl)
    omega
  · exact fun i => ⟨blk2 (by have := sel0 (Scalar.cmpi .eq (BitVec.ofNat 32 (i 0).val) 0#32) ⟨_, s1 i⟩; simp only at this; omega) (by decide),
      .inr (.inl (Affine.packed_dvd (by decide) (Dvd.dvd.mul_left (by decide) _) (by decide)))⟩
  · exact fun i => ⟨blk2 (by have := sel0 (Scalar.cmpi .eq (BitVec.ofNat 32 (i 0).val) 0#32) ⟨_, s1 i⟩; simp only at this; omega) (by decide),
      .inr (.inl (Affine.packed_dvd (by decide) (Dvd.dvd.mul_left (by decide) _) (by decide)))⟩
  · exact fun i => ⟨blk2 (by have := sel0 (Scalar.cmpi .eq (BitVec.ofNat 32 (i 0).val) 0#32) ⟨_, s1 i⟩; simp only at this; omega) (by decide), .inl rfl⟩
  · exact fun i => ⟨start2 (by have := m19 i; omega) (by have := m148 i; omega),
      .inr (.inl (Affine.packed_dvd (by decide) (Dvd.dvd.mul_left (by decide) _) (extent_dvd (by decide) (by decide)))),
      .inr (.inl (Affine.packed_dvd (by decide) (dvd_zero _) (extent_dvd (by decide) (by decide))))⟩
  · exact fun i => ⟨start2 (by decide) (by have := m148 i; omega), .inl rfl, .inl rfl⟩
  · exact fun i => ⟨start2 (by decide) (by have := m148 i; omega), .inl rfl, .inl rfl⟩
  · exact fun i => ⟨start2 (by have := mx i; omega) (by decide),
      .inr (.inl (Affine.packed_dvd (by decide) (Dvd.dvd.mul_left (by decide) _) (extent_dvd (by decide) (by decide)))),
      .inr (.inl (Affine.packed_dvd (by decide) (dvd_zero _) (extent_dvd (by decide) (by decide))))⟩
  · exact fun i => ⟨start2 (by decide) (by have := mx i; omega), .inl rfl, .inl rfl⟩
  · exact fun i => ⟨start2 (by have := mx i; omega) (by decide), .inl rfl, .inl rfl⟩
  · exact fun i => ⟨blk2 (row20 (sel2 (Scalar.cmpi .eq (BitVec.ofNat 32 (i 0).val) 0#32) ⟨_, s1 i⟩ _ (at1_eq pf ▸ h.off)) (by decide)) (by have := mx i; omega), .inl rfl⟩
  · exact fun i => ⟨blk2 (row20 (sel2 (Scalar.cmpi .eq (BitVec.ofNat 32 (i 0).val) 0#32) ⟨_, s1 i⟩ _ (at1_eq pf ▸ h.off)) (by decide)) (by have := mx i; omega), .inl rfl⟩
  · exact fun i => ⟨blk2 (row20 (sel1 (Scalar.cmpi .eq (BitVec.ofNat 32 (i 0).val) (pf.at 1 (Rect.unit (s := S5) ![2] S1.size inb_S5_S1_2) numel1_S1)) ⟨_, s1 i⟩) (by decide)) (by decide), .inl rfl⟩
  · exact fun i => ⟨blk2 (row20 (sel1 (Scalar.cmpi .eq (BitVec.ofNat 32 (i 0).val) (pf.at 1 (Rect.unit (s := S5) ![2] S1.size inb_S5_S1_2) numel1_S1)) ⟨_, s1 i⟩) (by decide)) (by decide), .inl rfl⟩
  · exact fun i => ⟨blk2 (by have := mx i; omega) (by decide),
      .inr (.inl (Affine.packed_dvd (by decide) (Dvd.dvd.mul_left (by decide) _) (by decide)))⟩

end Cert.Kernel.Hand
end
-- ==== Proof.K.Steps.lean ====
module

public import proofs.«01_k».proof.Proof.K.Tables
public import Idealize.ShloMosaic.Lib.Affine

@[expose] public section

set_option maxRecDepth 16384
noncomputable section

namespace Cert.Kernel.Hand

open Cert.Kernel Cert.Kernel.Gen Cert.Kernel.Facts
open Idealize.ShloMosaic Idealize.ShloMosaic.TcCoe

variable {F : FTy → Type} [FloatOps F]

/-! ## The conditions of a grid point, in plain numbers: step `s` of `n`, token block `i` -/

theorem sgt_zero : ∀ s : Fin 151, Scalar.cmpi .sgt (BitVec.ofNat 32 s.val) 0#32 = 1#1 ↔ 0 < s.val := by decide
theorem parity : ∀ s : Fin 151, (Scalar.andi (BitVec.ofNat 32 s.val) 1#32).toNat = s.val % 2 := by decide
theorem parity_pred : ∀ s : Fin 151, (Scalar.andi (Scalar.subi (BitVec.ofNat 32 s.val) 1#32) 1#32).toNat = (s.val + 1) % 2 := by decide
theorem rows128 : ∀ i : Fin 20, (Scalar.muli (Scalar.minsi (BitVec.ofNat 32 i.val) 19#32) 128#32).toNat = 128 * i.val := by decide

theorem toNat_small {s : Nat} (h : s < 151) : (BitVec.ofNat 32 s).toNat = s := by
  rw [BitVec.toNat_ofNat]; omega

theorem toInt_small {s : Nat} (h : s < 151) : (BitVec.ofNat 32 s).toInt = s := by
  rw [BitVec.toInt_eq_toNat_of_lt (by rw [toNat_small h]; omega), toNat_small h]

theorem pred_small {n : Nat} (h1 : 1 ≤ n) (h : n < 151) : Scalar.subi (BitVec.ofNat 32 n) 1#32 = BitVec.ofNat 32 (n - 1) := by
  apply BitVec.eq_of_toNat_eq
  show (BitVec.ofNat 32 n - 1#32).toNat = _
  rw [BitVec.toNat_sub, toNat_small h, toNat_small (by omega)]
  simp only [BitVec.toNat_ofNat]
  omega

variable {s n : Nat} (hs : s < n) (h2 : 2 ≤ n) (h150 : n ≤ 150)
include hs h2 h150

theorem cond1_iff : k0_cond1 (BitVec.ofNat 32 s) (BitVec.ofNat 32 n) = 1#1 ↔ s + 1 < n := by
  unfold k0_cond1
  simp only []
  rw [Scalar.guard_iff]
  show IntOp.cmpi .slt _ _ = 1#1 ↔ _
  rw [IntOp.cmpi_slt, pred_small (by omega) (by omega), toInt_small (by omega), toInt_small (by omega)]
  omega

theorem cond4_iff : k0_cond4 (BitVec.ofNat 32 s) (BitVec.ofNat 32 n) = 1#1 ↔ s + 1 = n := by
  unfold k0_cond4
  simp only []
  rw [Scalar.guard_iff]
  show IntOp.cmpi .eq _ _ = 1#1 ↔ _
  rw [IntOp.cmpi_eq, pred_small (by omega) (by omega)]
  constructor
  · intro h
    have := congrArg BitVec.toNat h
    rw [toNat_small (by omega), toNat_small (by omega)] at this
    omega
  · intro h
    rw [show s = n - 1 by omega]

theorem cond3_iff : k0_cond3 (BitVec.ofNat 32 s) = 1#1 ↔ 0 < s := by
  unfold k0_cond3
  simp only []
  rw [Scalar.guard_iff]
  exact sgt_zero ⟨s, by omega⟩

/-- The condition under which the running statistics are reset: the first step's first token block. -/
abbrev initCond (s i : Nat) : BitVec 1 :=
  Scalar.cmpi .ne (Scalar.extui (Scalar.andi (Scalar.cmpi .eq (BitVec.ofNat 32 s) 0#32) (Scalar.cmpi .eq (BitVec.ofNat 32 i) 0#32))) 0#32

omit hs h2 h150 in
theorem eq_zero : ∀ s : Fin 151, Scalar.cmpi .eq (BitVec.ofNat 32 s.val) 0#32 = if s.val = 0 then 1#1 else 0#1 := by decide

theorem init_iff {i : Nat} (hi : i < 20) : initCond s i = 1#1 ↔ s = 0 ∧ i = 0 := by
  unfold initCond
  rw [Scalar.guard_iff, eq_zero ⟨s, by omega⟩, eq_zero ⟨i, by omega⟩]
  simp only
  by_cases h : s = 0 <;> by_cases h' : i = 0 <;> simp [h, h'] <;> decide

theorem off2_eq (i : grid0.Static) : k0_off2 i (BitVec.ofNat 32 s) = ![s % 2, 128 * (i 1).val, 0] := by
  unfold k0_off2
  exact congrArg₂ (fun a b => ![a, b, 0]) (parity ⟨s, by omega⟩) (rows128 (i 1))

theorem off3_eq : k0_off3 (BitVec.ofNat 32 s) = ![(s + 1) % 2, 0, 0] := by
  unfold k0_off3
  exact congrArg (fun a => ![a, 0, 0]) (parity_pred ⟨s, by omega⟩)

theorem inb2_of (i : grid0.Static) : ∀ a, k0_off2 i (BitVec.ofNat 32 s) a + S1x128x1024.size a ≤ S2x2560x1024.size a := by
  intro a
  have hi : (i 1).val < 20 := (i 1).isLt
  rw [off2_eq hs h2 h150 i]
  fin_cases a
  · show s % 2 + 1 ≤ 2; omega
  · show 128 * (i 1).val + 128 ≤ 2560; omega
  · show 0 + 1024 ≤ 1024; omega

theorem inb3_of : ∀ a, k0_off3 (BitVec.ofNat 32 s) a + S1x2560x1024.size a ≤ S2x2560x1024.size a := by
  intro a
  rw [off3_eq hs h2 h150]
  fin_cases a
  · show (s + 1) % 2 + 1 ≤ 2; omega
  · show 0 + 2560 ≤ 2560; omega
  · show 0 + 1024 ≤ 1024; omega

theorem chk1 (i : grid0.Static) : k0_chk1 i (BitVec.ofNat 32 s) (BitVec.ofNat 32 n) := by
  refine ⟨fun _ => inb2_of hs h2 h150 i, fun _ hinb => Affine.packed_dvd (by decide) ?_ (by decide)⟩
  rw [off2_eq hs h2 h150 i]
  show 2 ∣ 128 * (i 1).val
  omega

theorem chk2 : k0_chk2 (BitVec.ofNat 32 s) := fun _ => inb3_of hs h2 h150

end Cert.Kernel.Hand
end
-- ==== Proof.K.RunA.lean ====
module

public import proofs.«01_k».proof.Proof.K.Base

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The very first grid point: the first group is dequantised and the running statistics are filled. -/
theorem runA (c : Dev nD) (b : grid0.Bounds) (i : grid0.Static) (arg0 : BitVec 32) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hw1 : k0_chk1 i arg0 (BitVec.ofNat 32 (b 0))) (hw2 : k0_chk2 arg0)
    (h1 : k0_cond1 arg0 (BitVec.ofNat 32 (b 0)) = 1#1) (h2 : Scalar.cmpi .ne (Scalar.extui (Scalar.andi (Scalar.cmpi .eq arg0 0#32) (Scalar.cmpi .eq (BitVec.ofNat 32 (i 1).val) 0#32))) 0#32 = 1#1) (h3 : ¬ k0_cond3 arg0 = 1#1) (h4 : ¬ k0_cond4 arg0 (BitVec.ofNat 32 (b 0)) = 1#1) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (tile17 i arg0 (k0_off2_inb i arg0 _ hw1 h1) x6 x7 x8 x17) ∗ owns (c : Thread nD τ) arg18 fullShare (wholeS.overlay x18 (k0_pay2 (F := F))) ∗ owns (c : Thread nD τ) arg19 fullShare (wholeS.overlay x19 (k0_pay4 (F := F))) ∗ owns (c : Thread nD τ) arg20 fullShare (wholeS.overlay x20 (k0_pay3 (F := F))) ∗ owns (c : Thread nD τ) arg21 fullShare (wholeS.overlay x21 (k0_pay5 (F := F)))) -∗ K ⟨⟩))
    ⊢ wp frame (wpE (defs₀ (F := F)) Variants.none c none) Set.univ (cc0_forward b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_forward_eq_skeleton]; unfold cc0_forward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro
    rw [read_writes_overlay, View.writes_nil]; rfl
  isplitl [H18]
  · iexists _; isplitr; swap; · iexact H18
    ipureintro
    exact read_writes_overlay _ _ _ []
  isplitl [H19]
  · iexists _; isplitr; swap; · iexact H19
    ipureintro
    exact read_writes_overlay _ _ _ []
  isplitl [H20]
  · iexists _; isplitr; swap; · iexact H20
    ipureintro
    exact read_writes_overlay _ _ _ []
  iexists _; isplitr; swap; · iexact H21
  ipureintro
  exact read_writes_overlay _ _ _ []

end Cert.Kernel.Hand
end
-- ==== Proof.K.RunB.lean ====
module

public import proofs.«01_k».proof.Proof.K.Base

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- Any other point of the first column step: only this point's group is dequantised. -/
theorem runB (c : Dev nD) (b : grid0.Bounds) (i : grid0.Static) (arg0 : BitVec 32) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hw1 : k0_chk1 i arg0 (BitVec.ofNat 32 (b 0))) (hw2 : k0_chk2 arg0)
    (h1 : k0_cond1 arg0 (BitVec.ofNat 32 (b 0)) = 1#1) (h2 : ¬ Scalar.cmpi .ne (Scalar.extui (Scalar.andi (Scalar.cmpi .eq arg0 0#32) (Scalar.cmpi .eq (BitVec.ofNat 32 (i 1).val) 0#32))) 0#32 = 1#1) (h3 : ¬ k0_cond3 arg0 = 1#1) (h4 : ¬ k0_cond4 arg0 (BitVec.ofNat 32 (b 0)) = 1#1) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (tile17 i arg0 (k0_off2_inb i arg0 _ hw1 h1) x6 x7 x8 x17) ∗ owns (c : Thread nD τ) arg18 fullShare x18 ∗ owns (c : Thread nD τ) arg19 fullShare x19 ∗ owns (c : Thread nD τ) arg20 fullShare x20 ∗ owns (c : Thread nD τ) arg21 fullShare x21) -∗ K ⟨⟩))
    ⊢ wp frame (wpE (defs₀ (F := F)) Variants.none c none) Set.univ (cc0_forward b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_forward_eq_skeleton]; unfold cc0_forward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro
    rw [read_writes_overlay, View.writes_nil]; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  iexists _; isplitr; swap; · iexact H21
  ipureintro; rfl

end Cert.Kernel.Hand
end
-- ==== Proof.K.RunC.lean ====
module

public import proofs.«01_k».proof.Proof.K.Base

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- A point of a middle column step: a group of the next tile is dequantised, then the products of the previous tile are taken up. -/
theorem runC (c : Dev nD) (b : grid0.Bounds) (i : grid0.Static) (arg0 : BitVec 32) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hw1 : k0_chk1 i arg0 (BitVec.ofNat 32 (b 0))) (hw2 : k0_chk2 arg0)
    (h1 : k0_cond1 arg0 (BitVec.ofNat 32 (b 0)) = 1#1) (h2 : ¬ Scalar.cmpi .ne (Scalar.extui (Scalar.andi (Scalar.cmpi .eq arg0 0#32) (Scalar.cmpi .eq (BitVec.ofNat 32 (i 1).val) 0#32))) 0#32 = 1#1) (h3 : k0_cond3 arg0 = 1#1) (h4 : ¬ k0_cond4 arg0 (BitVec.ofNat 32 (b 0)) = 1#1) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ y, owns (c : Thread nD τ) arg12 fullShare y) ∗ (∃ y, owns (c : Thread nD τ) arg13 fullShare y) ∗ owns (c : Thread nD τ) arg14 fullShare x14 ∗ owns (c : Thread nD τ) arg15 fullShare x15 ∗ (∃ y, owns (c : Thread nD τ) arg16 fullShare y) ∗ owns (c : Thread nD τ) arg17 fullShare (tile17 i arg0 (k0_off2_inb i arg0 _ hw1 h1) x6 x7 x8 x17) ∗ owns (c : Thread nD τ) arg18 fullShare (max18 i (zTea arg0 (k0_off3_inb arg0 hw2 h3) x2 x3 (tile17 i arg0 (k0_off2_inb i arg0 _ hw1 h1) x6 x7 x8 x17)) x18) ∗ owns (c : Thread nD τ) arg19 fullShare (sum19 i (zTea arg0 (k0_off3_inb arg0 hw2 h3) x2 x3 (tile17 i arg0 (k0_off2_inb i arg0 _ hw1 h1) x6 x7 x8 x17)) x18 x19) ∗ owns (c : Thread nD τ) arg20 fullShare (max20 i (zStu arg0 x2 x4 x5 x9 x10) x20) ∗ owns (c : Thread nD τ) arg21 fullShare (sum21 i (zStu arg0 x2 x4 x5 x9 x10) x20 x21)) -∗ K ⟨⟩))
    ⊢ wp frame (wpE (defs₀ (F := F)) Variants.none c none) Set.univ (cc0_forward b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_forward_eq_skeleton]; unfold cc0_forward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  have e1 : runC.sl.r_1 c b i arg0 arg2 arg3 arg6 arg7 arg8 arg17 hw1 hw2 h1 h3 f2 f3 f6 f7 f8 f17 = (zTea arg0 (k0_off3_inb arg0 hw2 h3) (arg2.view.read (Elt F) f2) (arg3.view.read (Elt F) f3) (tile17 i arg0 (k0_off2_inb i arg0 _ hw1 h1) (arg6.view.read (Elt F) f6) (arg7.view.read (Elt F) f7) (arg8.view.read (Elt F) f8) (arg17.view.read (Elt F) f17))) := by
    unfold zTea tile17
    show k0_pay12 arg0 _ _ (View.readAt (Elt F) arg17.view (Rect.unit (s := S2x2560x1024) (k0_off3 arg0) S1x2560x1024.size (k0_off3_inb arg0 hw2 h3)).toLoadRect (arg17.view.writes (Elt F) f17 [_])) = _
    rw [readAt_writes]; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _, _; isplitr; swap; · iexact H16
    ipureintro; rfl
  isplitl [H17]
  · iexists _; isplitr; swap; · iexact H17
    ipureintro
    exact read_writes_overlay _ _ _ []
  isplitl [H18]
  · iexists _; isplitr; swap; · iexact H18
    ipureintro
    rw [read_writes_overlay, View.writes_nil, ← e1]; rfl
  isplitl [H19]
  · iexists _; isplitr; swap; · iexact H19
    ipureintro
    rw [read_writes_overlay, View.writes_nil, ← e1]; rfl
  isplitl [H20]
  · iexists _; isplitr; swap; · iexact H20
    ipureintro
    rw [read_writes_overlay, View.writes_nil]; rfl
  iexists _; isplitr; swap; · iexact H21
  ipureintro
  rw [read_writes_overlay, View.writes_nil]; rfl

end Cert.Kernel.Hand
end
-- ==== Proof.K.RunD.lean ====
module

public import proofs.«01_k».proof.Proof.K.Base

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- A point of the last column step: the products of the last tile are taken up and the row tile's results are stored. -/
theorem runD (c : Dev nD) (b : grid0.Bounds) (i : grid0.Static) (arg0 : BitVec 32) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hw1 : k0_chk1 i arg0 (BitVec.ofNat 32 (b 0))) (hw2 : k0_chk2 arg0)
    (h1 : ¬ k0_cond1 arg0 (BitVec.ofNat 32 (b 0)) = 1#1) (h2 : ¬ Scalar.cmpi .ne (Scalar.extui (Scalar.andi (Scalar.cmpi .eq arg0 0#32) (Scalar.cmpi .eq (BitVec.ofNat 32 (i 1).val) 0#32))) 0#32 = 1#1) (h3 : k0_cond3 arg0 = 1#1) (h4 : k0_cond4 arg0 (BitVec.ofNat 32 (b 0)) = 1#1) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ y, owns (c : Thread nD τ) arg12 fullShare y) ∗ (∃ y, owns (c : Thread nD τ) arg13 fullShare y) ∗ owns (c : Thread nD τ) arg14 fullShare (out14 i (max18 i (zTea arg0 (k0_off3_inb arg0 hw2 h3) x2 x3 x17) x18) (sum19 i (zTea arg0 (k0_off3_inb arg0 hw2 h3) x2 x3 x17) x18 x19) x14) ∗ owns (c : Thread nD τ) arg15 fullShare (out15 i (max20 i (zStu arg0 x2 x4 x5 x9 x10) x20) (sum21 i (zStu arg0 x2 x4 x5 x9 x10) x20 x21) x15) ∗ (∃ y, owns (c : Thread nD τ) arg16 fullShare y) ∗ owns (c : Thread nD τ) arg17 fullShare x17 ∗ owns (c : Thread nD τ) arg18 fullShare (max18 i (zTea arg0 (k0_off3_inb arg0 hw2 h3) x2 x3 x17) x18) ∗ owns (c : Thread nD τ) arg19 fullShare (sum19 i (zTea arg0 (k0_off3_inb arg0 hw2 h3) x2 x3 x17) x18 x19) ∗ owns (c : Thread nD τ) arg20 fullShare (max20 i (zStu arg0 x2 x4 x5 x9 x10) x20) ∗ owns (c : Thread nD τ) arg21 fullShare (sum21 i (zStu arg0 x2 x4 x5 x9 x10) x20 x21)) -∗ K ⟨⟩))
    ⊢ wp frame (wpE (defs₀ (F := F)) Variants.none c none) Set.univ (cc0_forward b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_forward_eq_skeleton]; unfold cc0_forward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  have e1 : runD.sl.r_1 c arg0 arg2 arg3 arg17 hw2 h3 f2 f3 f17 = (zTea arg0 (k0_off3_inb arg0 hw2 h3) (arg2.view.read (Elt F) f2) (arg3.view.read (Elt F) f3) (arg17.view.read (Elt F) f17)) := by
    rfl
  have e18 : (arg18.view.read (Elt F) (arg18.view.writes (Elt F) f18 (runD.sl.H18_1 c i arg0 arg2 arg3 arg17 arg18 hw2 h3 f2 f3 f17 f18))) = (max18 i (zTea arg0 (k0_off3_inb arg0 hw2 h3) (arg2.view.read (Elt F) f2) (arg3.view.read (Elt F) f3) (arg17.view.read (Elt F) f17)) (arg18.view.read (Elt F) f18)) := by
    refine (read_writes_overlay _ _ _ []).trans ?_
    rw [View.writes_nil, ← e1]; rfl
  have w18 : runD.sl.v192 c i arg0 arg2 arg3 arg17 arg18 hw2 h3 f2 f3 f17 f18 = View.ld (max18 i (zTea arg0 (k0_off3_inb arg0 hw2 h3) (arg2.view.read (Elt F) f2) (arg3.view.read (Elt F) f3) (arg17.view.read (Elt F) f17)) (arg18.view.read (Elt F) f18)) (rows i) := by
    unfold max18
    rw [ld_overlay, ← e1]
    exact View.readCov_cons_toLoadRect arg18.view (rows i) _ []
  have e19 : (arg19.view.read (Elt F) (arg19.view.writes (Elt F) f19 (runD.sl.H19_1 c i arg0 arg2 arg3 arg17 arg18 arg19 hw2 h3 f2 f3 f17 f18 f19))) = (sum19 i (zTea arg0 (k0_off3_inb arg0 hw2 h3) (arg2.view.read (Elt F) f2) (arg3.view.read (Elt F) f3) (arg17.view.read (Elt F) f17)) (arg18.view.read (Elt F) f18) (arg19.view.read (Elt F) f19)) := by
    refine (read_writes_overlay _ _ _ []).trans ?_
    rw [View.writes_nil, ← e1]; rfl
  have w19 : runD.sl.v196 c i arg0 arg2 arg3 arg17 arg18 arg19 hw2 h3 f2 f3 f17 f18 f19 = View.ld (sum19 i (zTea arg0 (k0_off3_inb arg0 hw2 h3) (arg2.view.read (Elt F) f2) (arg3.view.read (Elt F) f3) (arg17.view.read (Elt F) f17)) (arg18.view.read (Elt F) f18) (arg19.view.read (Elt F) f19)) (rows i) := by
    unfold sum19
    rw [ld_overlay, ← e1]
    exact View.readCov_cons_toLoadRect arg19.view (rows i) _ []
  have e20 : (arg20.view.read (Elt F) (arg20.view.writes (Elt F) f20 (runD.sl.H20_1 c i arg0 arg2 arg4 arg5 arg9 arg10 arg20 f2 f4 f5 f9 f10 f20))) = (max20 i (zStu arg0 (arg2.view.read (Elt F) f2) (arg4.view.read (Elt F) f4) (arg5.view.read (Elt F) f5) (arg9.view.read (Elt F) f9) (arg10.view.read (Elt F) f10)) (arg20.view.read (Elt F) f20)) := by
    refine (read_writes_overlay _ _ _ []).trans ?_
    rw [View.writes_nil]; rfl
  have w20 : runD.sl.v211 c i arg0 arg2 arg4 arg5 arg9 arg10 arg20 f2 f4 f5 f9 f10 f20 = View.ld (max20 i (zStu arg0 (arg2.view.read (Elt F) f2) (arg4.view.read (Elt F) f4) (arg5.view.read (Elt F) f5) (arg9.view.read (Elt F) f9) (arg10.view.read (Elt F) f10)) (arg20.view.read (Elt F) f20)) (rows i) := by
    unfold max20
    rw [ld_overlay]
    exact View.readCov_cons_toLoadRect arg20.view (rows i) _ []
  have e21 : (arg21.view.read (Elt F) (arg21.view.writes (Elt F) f21 (runD.sl.H21_1 c i arg0 arg2 arg4 arg5 arg9 arg10 arg20 arg21 f2 f4 f5 f9 f10 f20 f21))) = (sum21 i (zStu arg0 (arg2.view.read (Elt F) f2) (arg4.view.read (Elt F) f4) (arg5.view.read (Elt F) f5) (arg9.view.read (Elt F) f9) (arg10.view.read (Elt F) f10)) (arg20.view.read (Elt F) f20) (arg21.view.read (Elt F) f21)) := by
    refine (read_writes_overlay _ _ _ []).trans ?_
    rw [View.writes_nil]; rfl
  have w21 : runD.sl.v215 c i arg0 arg2 arg4 arg5 arg9 arg10 arg20 arg21 f2 f4 f5 f9 f10 f20 f21 = View.ld (sum21 i (zStu arg0 (arg2.view.read (Elt F) f2) (arg4.view.read (Elt F) f4) (arg5.view.read (Elt F) f5) (arg9.view.read (Elt F) f9) (arg10.view.read (Elt F) f10)) (arg20.view.read (Elt F) f20) (arg21.view.read (Elt F) f21)) (rows i) := by
    unfold sum21
    rw [ld_overlay]
    exact View.readCov_cons_toLoadRect arg21.view (rows i) _ []
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro
    rw [read_writes_overlay, View.writes_nil, w18, w19]; rfl
  isplitl [H15]
  · iexists _; isplitr; swap; · iexact H15
    ipureintro
    rw [read_writes_overlay, View.writes_nil, w20, w21]; rfl
  isplitl [H16]
  · iexists _, _; isplitr; swap; · iexact H16
    ipureintro; rfl
  isplitl [H17]
  · iexists _; isplitr; swap; · iexact H17
    ipureintro; rfl
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  iexists _; isplitr; swap; · iexact H21
  ipureintro
  exact e21

end Cert.Kernel.Hand
end
-- ==== Proof.K.Point.lean ====
module

public import proofs.«01_k».proof.Proof.K.Steps
public import proofs.«01_k».proof.Proof.K.RunA
public import proofs.«01_k».proof.Proof.K.RunB
public import proofs.«01_k».proof.Proof.K.RunC
public import proofs.«01_k».proof.Proof.K.RunD

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## One grid point, whatever its place: step `s` of `n`, token block `i` -/

/-- A step of a launch: `s` is below the number of steps, which is between two and 150. -/
def Pt (s n : Nat) : Prop := s < n ∧ 2 ≤ n ∧ n ≤ 150

theorem Pt.inb2 {s n : Nat} (h : Pt s n) (i : grid0.Static) : ∀ a, k0_off2 i (BitVec.ofNat 32 s) a + S1x128x1024.size a ≤ S2x2560x1024.size a :=
  inb2_of h.1 h.2.1 h.2.2 i

theorem Pt.inb3 {s n : Nat} (h : Pt s n) : ∀ a, k0_off3 (BitVec.ofNat 32 s) a + S1x2560x1024.size a ≤ S2x2560x1024.size a :=
  inb3_of h.1 h.2.1 h.2.2

/-- The weight tiles after the point: all but the last step dequantise one more group. -/
def next17 {s n : Nat} (h : Pt s n) (i : grid0.Static) (x6 : Vec F S64x1024 .i8) (x7 x8 : Vec F S20x1024 .f32)
    (x17 : Vec F S2x2560x1024 .bf16) : Vec F S2x2560x1024 .bf16 :=
  if s + 1 < n then tile17 i (BitVec.ofNat 32 s) (h.inb2 i) x6 x7 x8 x17 else x17
/-- The logits the point multiplies out. -/
def zT {s n : Nat} (h : Pt s n) (i : grid0.Static) (x2 : Vec F S5 .i32) (x3 : Vec F S384x2560 .bf16) (x6 : Vec F S64x1024 .i8)
    (x7 x8 : Vec F S20x1024 .f32) (x17 : Vec F S2x2560x1024 .bf16) : FVec F S384x1024 .f32 :=
  zTea (BitVec.ofNat 32 s) h.inb3 x2 x3 (next17 h i x6 x7 x8 x17)
def zS (s : Nat) (x2 : Vec F S5 .i32) (x4 : Vec F S384x1024 .fp8e4m3) (x5 : Vec F S384x128 .f32)
    (x9 : Vec F S1024x1024 .fp8e4m3) (x10 : Vec F S1x1024 .f32) : FVec F S384x1024 .f32 :=
  zStu (BitVec.ofNat 32 s) x2 x4 x5 x9 x10
/-- The four running statistics after the point. -/
def next18 (s : Nat) (i : grid0.Static) (Z : FVec F S384x1024 .f32) (x18 : Vec F S7680x128 .f32) : Vec F S7680x128 .f32 :=
  if s = 0 ∧ (i 1).val = 0 then wholeS.overlay x18 (k0_pay2 (F := F)) else if 0 < s then max18 i Z x18 else x18
def next19 (s : Nat) (i : grid0.Static) (Z : FVec F S384x1024 .f32) (x18 x19 : Vec F S7680x128 .f32) : Vec F S7680x128 .f32 :=
  if s = 0 ∧ (i 1).val = 0 then wholeS.overlay x19 (k0_pay4 (F := F)) else if 0 < s then sum19 i Z x18 x19 else x19
def next20 (s : Nat) (i : grid0.Static) (Z : FVec F S384x1024 .f32) (x20 : Vec F S7680x128 .f32) : Vec F S7680x128 .f32 :=
  if s = 0 ∧ (i 1).val = 0 then wholeS.overlay x20 (k0_pay3 (F := F)) else if 0 < s then max20 i Z x20 else x20
def next21 (s : Nat) (i : grid0.Static) (Z : FVec F S384x1024 .f32) (x20 x21 : Vec F S7680x128 .f32) : Vec F S7680x128 .f32 :=
  if s = 0 ∧ (i 1).val = 0 then wholeS.overlay x21 (k0_pay5 (F := F)) else if 0 < s then sum21 i Z x20 x21 else x21
/-- The two results after the point: written by the last step alone. -/
def next14 (s n : Nat) (i : grid0.Static) (x18 x19 : Vec F S7680x128 .f32) (x14 : Vec F S384x128 .f32) : Vec F S384x128 .f32 :=
  if s + 1 = n then out14 i x18 x19 x14 else x14
def next15 (s n : Nat) (i : grid0.Static) (x20 x21 : Vec F S7680x128 .f32) (x15 : Vec F S384x128 .f32) : Vec F S384x128 .f32 :=
  if s + 1 = n then out15 i x20 x21 x15 else x15

set_option maxHeartbeats 2000000 in
/-- The body at any grid point, for any continuation: what it reads is given back as it was, and the other buffers are left at
    the functions above, or at contents nothing is said of. -/
theorem point (c : Dev nD) (b : grid0.Bounds) (i : grid0.Static) (s : Nat) (arg2 : Memref sig .tc .smem S5 .i32) (harg2 : arg2.IsWhole) (arg3 : Memref sig .tc .vmem S384x2560 .bf16) (harg3 : arg3.IsWhole) (arg4 : Memref sig .tc .vmem S384x1024 .fp8e4m3) (harg4 : arg4.IsWhole) (arg5 : Memref sig .tc .vmem S384x128 .f32) (harg5 : arg5.IsWhole) (arg6 : Memref sig .tc .vmem S64x1024 .i8) (harg6 : arg6.IsWhole) (arg7 : Memref sig .tc .vmem S20x1024 .f32) (harg7 : arg7.IsWhole) (arg8 : Memref sig .tc .vmem S20x1024 .f32) (harg8 : arg8.IsWhole) (arg9 : Memref sig .tc .vmem S1024x1024 .fp8e4m3) (harg9 : arg9.IsWhole) (arg10 : Memref sig .tc .vmem S1x1024 .f32) (harg10 : arg10.IsWhole) (arg11 : Memref sig .tc .vmem S1024x128 .f32) (harg11 : arg11.IsWhole) (arg12 : Memref sig .tc .vmem S384x1024 .f32) (harg12 : arg12.IsWhole) (arg13 : Memref sig .tc .vmem S384x1024 .f32) (harg13 : arg13.IsWhole) (arg14 : Memref sig .tc .vmem S384x128 .f32) (harg14 : arg14.IsWhole) (arg15 : Memref sig .tc .vmem S384x128 .f32) (harg15 : arg15.IsWhole) (arg16 : Memref sig .tc .vmem S1024x1024 .bf16) (harg16 : arg16.IsWhole) (arg17 : Memref sig .tc .vmem S2x2560x1024 .bf16) (harg17 : arg17.IsWhole) (arg18 : Memref sig .tc .vmem S7680x128 .f32) (harg18 : arg18.IsWhole) (arg19 : Memref sig .tc .vmem S7680x128 .f32) (harg19 : arg19.IsWhole) (arg20 : Memref sig .tc .vmem S7680x128 .f32) (harg20 : arg20.IsWhole) (arg21 : Memref sig .tc .vmem S7680x128 .f32) (harg21 : arg21.IsWhole)
    (q : PosShare TreeShare) (x2 : Vec F S5 .i32) (x3 : Vec F S384x2560 .bf16) (x4 : Vec F S384x1024 .fp8e4m3) (x5 : Vec F S384x128 .f32) (x6 : Vec F S64x1024 .i8) (x7 : Vec F S20x1024 .f32) (x8 : Vec F S20x1024 .f32) (x9 : Vec F S1024x1024 .fp8e4m3) (x10 : Vec F S1x1024 .f32) (x11 : Vec F S1024x128 .f32) (x12 : Vec F S384x1024 .f32) (x13 : Vec F S384x1024 .f32) (x14 : Vec F S384x128 .f32) (x15 : Vec F S384x128 .f32) (x16 : Vec F S1024x1024 .bf16) (x17 : Vec F S2x2560x1024 .bf16) (x18 : Vec F S7680x128 .f32) (x19 : Vec F S7680x128 .f32) (x20 : Vec F S7680x128 .f32) (x21 : Vec F S7680x128 .f32) (hp : Pt s (b 0)) (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ y, owns (c : Thread nD τ) arg12 fullShare y) ∗ (∃ y, owns (c : Thread nD τ) arg13 fullShare y) ∗ owns (c : Thread nD τ) arg14 fullShare (next14 s (b 0) i (next18 s i (zT hp i x2 x3 x6 x7 x8 x17) x18) (next19 s i (zT hp i x2 x3 x6 x7 x8 x17) x18 x19) x14) ∗ owns (c : Thread nD τ) arg15 fullShare (next15 s (b 0) i (next20 s i (zS s x2 x4 x5 x9 x10) x20) (next21 s i (zS s x2 x4 x5 x9 x10) x20 x21) x15) ∗ (∃ y, owns (c : Thread nD τ) arg16 fullShare y) ∗ owns (c : Thread nD τ) arg17 fullShare (next17 hp i x6 x7 x8 x17) ∗ owns (c : Thread nD τ) arg18 fullShare (next18 s i (zT hp i x2 x3 x6 x7 x8 x17) x18) ∗ owns (c : Thread nD τ) arg19 fullShare (next19 s i (zT hp i x2 x3 x6 x7 x8 x17) x18 x19) ∗ owns (c : Thread nD τ) arg20 fullShare (next20 s i (zS s x2 x4 x5 x9 x10) x20) ∗ owns (c : Thread nD τ) arg21 fullShare (next21 s i (zS s x2 x4 x5 x9 x10) x20 x21)) -∗ K ⟨⟩))
    ⊢ wp frame (wpE (defs₀ (F := F)) Variants.none c none) Set.univ (cc0_forward b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  obtain ⟨hs, h2, h150⟩ := id hp
  have hi : (i 1).val < 20 := (i 1).isLt
  have c1 := cond1_iff hs h2 h150
  have c3 := cond3_iff hs h2 h150
  have c4 := cond4_iff hs h2 h150
  have ci := init_iff hs h2 h150 hi
  have k1 := chk1 hs h2 h150 i
  have k2 := chk2 hs h2 h150
  by_cases h0 : s = 0
  · have e17 : next17 hp i x6 x7 x8 x17 = tile17 i (BitVec.ofNat 32 s) (k0_off2_inb i (BitVec.ofNat 32 s) _ k1 (c1.mpr (by omega))) x6 x7 x8 x17 := if_pos (by omega)
    have e14 : ∀ u v, next14 (F := F) s (b 0) i u v x14 = x14 := fun u v => if_neg (by omega)
    have e15 : ∀ u v, next15 (F := F) s (b 0) i u v x15 = x15 := fun u v => if_neg (by omega)
    rw [e14, e15, e17]
    by_cases hi0 : (i 1).val = 0
    · have hc : s = 0 ∧ (i 1).val = 0 := ⟨h0, hi0⟩
      unfold next18 next19 next20 next21
      rw [if_pos hc, if_pos hc, if_pos hc, if_pos hc]
      iintro ⟨H2, H3, H4, H5, H6, H7, H8, H9, H10, H11, H12, H13, H14, H15, H16, H17, H18, H19, H20, H21, Hk⟩
      iapply (runA c b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q x2 x3 x4 x5 x6 x7 x8 x9 x10 x11 x12 x13 x14 x15 x16 x17 x18 x19 x20 x21 k1 k2 (c1.mpr (by omega)) (ci.mpr hc) (fun h => by have := c3.mp h; omega) (fun h => by have := c4.mp h; omega) K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iintro ⟨H2, H3, H4, H5, H6, H7, H8, H9, H10, H11, H12, H13, H14, H15, H16, H17, H18, H19, H20, H21⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexact H14
      isplitl [H15]; · iexact H15
      isplitl [H16]; · iexists _; iexact H16
      isplitl [H17]; · iexact H17
      isplitl [H18]; · iexact H18
      isplitl [H19]; · iexact H19
      isplitl [H20]; · iexact H20
      iexact H21
    · have hc : ¬ (s = 0 ∧ (i 1).val = 0) := fun h => hi0 h.2
      have hn : ¬ 0 < s := by omega
      unfold next18 next19 next20 next21
      rw [if_neg hc, if_neg hc, if_neg hc, if_neg hc, if_neg hn, if_neg hn, if_neg hn, if_neg hn]
      iintro ⟨H2, H3, H4, H5, H6, H7, H8, H9, H10, H11, H12, H13, H14, H15, H16, H17, H18, H19, H20, H21, Hk⟩
      iapply (runB c b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q x2 x3 x4 x5 x6 x7 x8 x9 x10 x11 x12 x13 x14 x15 x16 x17 x18 x19 x20 x21 k1 k2 (c1.mpr (by omega)) (fun h => hc (ci.mp h)) (fun h => by have := c3.mp h; omega) (fun h => by have := c4.mp h; omega) K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iintro ⟨H2, H3, H4, H5, H6, H7, H8, H9, H10, H11, H12, H13, H14, H15, H16, H17, H18, H19, H20, H21⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexact H14
      isplitl [H15]; · iexact H15
      isplitl [H16]; · iexists _; iexact H16
      isplitl [H17]; · iexact H17
      isplitl [H18]; · iexact H18
      isplitl [H19]; · iexact H19
      isplitl [H20]; · iexact H20
      iexact H21
  · have hc : ¬ (s = 0 ∧ (i 1).val = 0) := fun h => h0 h.1
    have hn : 0 < s := by omega
    unfold next18 next19 next20 next21
    rw [if_neg hc, if_neg hc, if_neg hc, if_neg hc, if_pos hn, if_pos hn, if_pos hn, if_pos hn]
    by_cases hl : s + 1 < b 0
    · have e17 : next17 hp i x6 x7 x8 x17 = tile17 i (BitVec.ofNat 32 s) (k0_off2_inb i (BitVec.ofNat 32 s) _ k1 (c1.mpr (by omega))) x6 x7 x8 x17 := if_pos (by omega)
      have e14 : ∀ u v, next14 (F := F) s (b 0) i u v x14 = x14 := fun u v => if_neg (by omega)
      have e15 : ∀ u v, next15 (F := F) s (b 0) i u v x15 = x15 := fun u v => if_neg (by omega)
      unfold zT zS
      rw [e14, e15, e17]
      exact runC c b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q x2 x3 x4 x5 x6 x7 x8 x9 x10 x11 x12 x13 x14 x15 x16 x17 x18 x19 x20 x21 k1 k2 (c1.mpr hl) (fun h => hc (ci.mp h)) (c3.mpr hn) (fun h => by have := c4.mp h; omega) K
    · have e17 : next17 hp i x6 x7 x8 x17 = x17 := if_neg hl
      have e14 : ∀ u v, next14 (F := F) s (b 0) i u v x14 = out14 i u v x14 := fun u v => if_pos (by omega)
      have e15 : ∀ u v, next15 (F := F) s (b 0) i u v x15 = out15 i u v x15 := fun u v => if_pos (by omega)
      unfold zT zS
      rw [e14, e15, e17]
      exact runD c b i (BitVec.ofNat 32 s) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q x2 x3 x4 x5 x6 x7 x8 x9 x10 x11 x12 x13 x14 x15 x16 x17 x18 x19 x20 x21 k1 k2 (fun h => hl (c1.mp h)) (fun h => hc (ci.mp h)) (c3.mpr hn) (c4.mpr (by omega)) K

end Cert.Kernel.Hand
end
-- ==== Proof.K.Data.lean ====
module

public import proofs.«01_k».proof.Proof.K.Point

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The proof data of the launch, for any invariant of the scratch buffers -/

/-- The six arrays the invariant speaks of are the weight tiles and the four running statistics; a result's relation says what a
    point leaves in the result's staging buffer. -/
structure Track (F : FTy → Type) where
  Inv : Nat → Vec F S2x2560x1024 .bf16 → Vec F S7680x128 .f32 → Vec F S7680x128 .f32 → Vec F S7680x128 .f32 → Vec F S7680x128 .f32 → Prop
  R11 : Nat → Vec F S384x128 .f32 → Vec F S384x128 .f32 → Prop
  R12 : Nat → Vec F S384x128 .f32 → Vec F S384x128 .f32 → Prop

variable (m : (ℓ : Loc nD τ sig) → Buf (Elt F) ℓ) (a : (pcfg0 (F := F)).Adm) (T : Track F)

/-- What a point may leave in each window's staging buffer: an input as it was found, the logits and the dequantised student tile
    anything, the two results as tracked. -/
def afterD : (w : Fin 14) → Fin (cfg0 a).N → ((((cfg0 a).win w).block.Idx → Elt F ((cfg0 a).win w).elt)) → ((((cfg0 a).win w).block.Idx → Elt F ((cfg0 a).win w).elt)) → Prop
  | 0 => fun t Y X => X = Y
  | 1 => fun t Y X => X = Y
  | 2 => fun t Y X => X = Y
  | 3 => fun t Y X => X = Y
  | 4 => fun t Y X => X = Y
  | 5 => fun t Y X => X = Y
  | 6 => fun t Y X => X = Y
  | 7 => fun t Y X => X = Y
  | 8 => fun t Y X => X = Y
  | 9 => fun t Y X => True
  | 10 => fun t Y X => True
  | 11 => fun t Y X => T.R11 t.val Y X
  | 12 => fun t Y X => T.R12 t.val Y X
  | 13 => fun t Y X => True

/-- The launch contents of a core's buffers. -/
def V (c : Dev nD) (b : Ref sig .tc) : Buf (Elt F) ((c : Thread nD τ).loc b) := m ((c : Thread nD τ).loc b)

/-- The invariant between points: the table's half share, the scratch buffers at contents satisfying `Inv`, the generator register. -/
def PhiD (c : Dev nD) (k : Nat) : sProp 𝕄 :=
  iprop((∃ w17 w18 w19 w20 w21, ⌜T.Inv k w17 w18 w19 w20 w21⌝ ∗ owns (c : Thread nD τ) (Memref.whole cc0_scratch0) fullShare w17
      ∗ owns (c : Thread nD τ) (Memref.whole cc0_scratch1) fullShare w18 ∗ owns (c : Thread nD τ) (Memref.whole cc0_scratch2) fullShare w19
      ∗ owns (c : Thread nD τ) (Memref.whole cc0_scratch3) fullShare w20 ∗ owns (c : Thread nD τ) (Memref.whole cc0_scratch4) fullShare w21)
    ∗ owns (c : Thread nD τ) (Memref.whole main_arg9) fullShare.right (a.1 1) ∗ (∃ r, prngReg c r))

def dat (c : Dev nD) : Pipeline.RDat τ (Elt F) Unit ℕ (UR sig nD τ) ℕ (cfg0 a) c where
  A w := V m c (Pipeline.arrRef spec0 w)
  after := afterD a T
  Φ k := PhiD (F := F) a T c k.val
  q _ := fullShare
  owed _ := 0

/-- The step and the token block of point `t`. -/
abbrev stepOf (t : Fin (cfg0 a).N) : Nat := ((cfg0 a).grid.coords t 0).val
abbrev blkOf (t : Fin (cfg0 a).N) : grid0.Static := Pipeline.Grid.Coords.static grid0 ((cfg0 a).grid.coords t)

theorem pt_of (hg : Good a.1) (t : Fin (cfg0 a).N) : Pt (stepOf a t) (dynb0 a.1 0) := by
  have h1 := hg.steps; have h2 := hg.le_149; have h3 := hg.one_le
  have h4 : dynb0 a.1 0 = (nsteps a.1).toNat := rfl
  have h5 : stepOf a t < dynb0 a.1 0 := ((cfg0 a).grid.coords t 0).isLt
  refine ⟨h5, ?_, ?_⟩ <;> omega

/-- One point keeps the invariant and the results' relations, at the blocks `Y0`, …, `Y7` of the inputs. -/
def KeepsAt (hg : Good a.1) (t : Fin (cfg0 a).N) (Y0 : Vec F S384x2560 .bf16) (Y1 : Vec F S384x1024 .fp8e4m3) (Y2 : Vec F S384x128 .f32) (Y3 : Vec F S64x1024 .i8) (Y4 : Vec F S20x1024 .f32) (Y5 : Vec F S20x1024 .f32) (Y6 : Vec F S1024x1024 .fp8e4m3) (Y7 : Vec F S1x1024 .f32) (Y11 : Vec F S384x128 .f32) (Y12 : Vec F S384x128 .f32) : Prop :=
  ∀ w17 w18 w19 w20 w21, T.Inv t.val w17 w18 w19 w20 w21 →
      T.Inv (t.val + 1) (next17 (pt_of a hg t) (blkOf a t) Y3 Y4 Y5 w17) (next18 (stepOf a t) (blkOf a t) (zT (pt_of a hg t) (blkOf a t) (a.1 1) Y0 Y3 Y4 Y5 w17) w18) (next19 (stepOf a t) (blkOf a t) (zT (pt_of a hg t) (blkOf a t) (a.1 1) Y0 Y3 Y4 Y5 w17) w18 w19)
          (next20 (stepOf a t) (blkOf a t) (zS (stepOf a t) (a.1 1) Y1 Y2 Y6 Y7) w20) (next21 (stepOf a t) (blkOf a t) (zS (stepOf a t) (a.1 1) Y1 Y2 Y6 Y7) w20 w21)
        ∧ T.R11 t.val Y11 (next14 (stepOf a t) (dynb0 a.1 0) (blkOf a t) (next18 (stepOf a t) (blkOf a t) (zT (pt_of a hg t) (blkOf a t) (a.1 1) Y0 Y3 Y4 Y5 w17) w18) (next19 (stepOf a t) (blkOf a t) (zT (pt_of a hg t) (blkOf a t) (a.1 1) Y0 Y3 Y4 Y5 w17) w18 w19) Y11)
        ∧ T.R12 t.val Y12 (next15 (stepOf a t) (dynb0 a.1 0) (blkOf a t) (next20 (stepOf a t) (blkOf a t) (zS (stepOf a t) (a.1 1) Y1 Y2 Y6 Y7) w20) (next21 (stepOf a t) (blkOf a t) (zS (stepOf a t) (a.1 1) Y1 Y2 Y6 Y7) w20 w21) Y12)

/-- And at any blocks the windows may find. -/
def Keeps (hg : Good a.1) (c : Dev nD) : Prop :=
  ∀ (t : Fin (cfg0 a).N) (Y : (w : Fin 14) → ((cfg0 a).win w).block.Idx → Elt F ((cfg0 a).win w).elt), (∀ w, (dat m a T c).Finds w t (Y w)) →
    KeepsAt a T hg t (Y 0) (Y 1) (Y 2) (Y 3) (Y 4) (Y 5) (Y 6) (Y 7) (Y 11) (Y 12)

/-- The body as the pipeline calls it at point `t`. -/
def bodyAt (t : Fin (cfg0 a).N) : Prog (TpuEff nD τ sig (Elt F) Λ₀ .tc) PUnit :=
  cc0_forward (dynb0 a.1) (blkOf a t) (BitVec.ofNat 32 (stepOf a t)) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.Kernel.Hand
end
-- ==== Proof.K.Row.lean ====
module

public import proofs.«01_k».proof.Proof.K.Data

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (a : (pcfg0 (F := F)).Adm) (T : Track F)

theorem defs₀_row (t : Fin (cfg0 a).N) : defs₀ (F := F) .tc (cfg0 a).body ((cfg0 a).bodyArgs t ((cfg0 a).slots t)) = bodyAt a t := by
  unfold defs₀; rw [Defs.onTc_tc]; rfl

end Cert.Kernel.Hand
end
-- ==== Proof.K.Body.lean ====
module

public import proofs.«01_k».proof.Proof.K.Row

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (a : (pcfg0 (F := F)).Adm) (T : Track F)

/-- What the body is called with at point `t`, and what it returns. -/
def bodyPre (c : Dev nD) (t : Fin (cfg0 a).N) (Y0 : Vec F S384x2560 .bf16) (Y1 : Vec F S384x1024 .fp8e4m3) (Y2 : Vec F S384x128 .f32) (Y3 : Vec F S64x1024 .i8) (Y4 : Vec F S20x1024 .f32) (Y5 : Vec F S20x1024 .f32) (Y6 : Vec F S1024x1024 .fp8e4m3) (Y7 : Vec F S1x1024 .f32) (Y8 : Vec F S1024x128 .f32) (Y9 : Vec F S384x1024 .f32) (Y10 : Vec F S384x1024 .f32) (Y11 : Vec F S384x128 .f32) (Y12 : Vec F S384x128 .f32) (Y13 : Vec F S1024x1024 .bf16) : sProp 𝕄 :=
  iprop(PhiD (F := F) a T c t.val ∗ (dat m a T c).owesAt () t.castSucc ∗ owns (c : Thread nD τ) (spec0_0.stage ((cfg0 a).slots t 0)) fullShare Y0 ∗ owns (c : Thread nD τ) (spec0_1.stage ((cfg0 a).slots t 1)) fullShare Y1 ∗ owns (c : Thread nD τ) (spec0_2.stage ((cfg0 a).slots t 2)) fullShare Y2 ∗ owns (c : Thread nD τ) (spec0_3.stage ((cfg0 a).slots t 3)) fullShare Y3 ∗ owns (c : Thread nD τ) (spec0_4.stage ((cfg0 a).slots t 4)) fullShare Y4 ∗ owns (c : Thread nD τ) (spec0_5.stage ((cfg0 a).slots t 5)) fullShare Y5 ∗ owns (c : Thread nD τ) (spec0_6.stage ((cfg0 a).slots t 6)) fullShare Y6 ∗ owns (c : Thread nD τ) (spec0_7.stage ((cfg0 a).slots t 7)) fullShare Y7 ∗ owns (c : Thread nD τ) (spec0_8.stage ((cfg0 a).slots t 8)) fullShare Y8 ∗ owns (c : Thread nD τ) (spec0_9.stage ((cfg0 a).slots t 9)) fullShare Y9 ∗ owns (c : Thread nD τ) (spec0_10.stage ((cfg0 a).slots t 10)) fullShare Y10 ∗ owns (c : Thread nD τ) (spec0_11.stage ((cfg0 a).slots t 11)) fullShare Y11 ∗ owns (c : Thread nD τ) (spec0_12.stage ((cfg0 a).slots t 12)) fullShare Y12 ∗ owns (c : Thread nD τ) (spec0_13.stage ((cfg0 a).slots t 13)) fullShare Y13)
def bodyPost (c : Dev nD) (t : Fin (cfg0 a).N) (Y0 : Vec F S384x2560 .bf16) (Y1 : Vec F S384x1024 .fp8e4m3) (Y2 : Vec F S384x128 .f32) (Y3 : Vec F S64x1024 .i8) (Y4 : Vec F S20x1024 .f32) (Y5 : Vec F S20x1024 .f32) (Y6 : Vec F S1024x1024 .fp8e4m3) (Y7 : Vec F S1x1024 .f32) (Y8 : Vec F S1024x128 .f32) (Y9 : Vec F S384x1024 .f32) (Y10 : Vec F S384x1024 .f32) (Y11 : Vec F S384x128 .f32) (Y12 : Vec F S384x128 .f32) (Y13 : Vec F S1024x1024 .bf16) : sProp 𝕄 :=
  iprop(PhiD (F := F) a T c (t.val + 1) ∗ (dat m a T c).owesAt () t.castSucc ∗ (∃ X, ⌜X = Y0⌝ ∗ owns (c : Thread nD τ) (spec0_0.stage ((cfg0 a).slots t 0)) fullShare X) ∗ (∃ X, ⌜X = Y1⌝ ∗ owns (c : Thread nD τ) (spec0_1.stage ((cfg0 a).slots t 1)) fullShare X) ∗ (∃ X, ⌜X = Y2⌝ ∗ owns (c : Thread nD τ) (spec0_2.stage ((cfg0 a).slots t 2)) fullShare X) ∗ (∃ X, ⌜X = Y3⌝ ∗ owns (c : Thread nD τ) (spec0_3.stage ((cfg0 a).slots t 3)) fullShare X) ∗ (∃ X, ⌜X = Y4⌝ ∗ owns (c : Thread nD τ) (spec0_4.stage ((cfg0 a).slots t 4)) fullShare X) ∗ (∃ X, ⌜X = Y5⌝ ∗ owns (c : Thread nD τ) (spec0_5.stage ((cfg0 a).slots t 5)) fullShare X) ∗ (∃ X, ⌜X = Y6⌝ ∗ owns (c : Thread nD τ) (spec0_6.stage ((cfg0 a).slots t 6)) fullShare X) ∗ (∃ X, ⌜X = Y7⌝ ∗ owns (c : Thread nD τ) (spec0_7.stage ((cfg0 a).slots t 7)) fullShare X) ∗ (∃ X, ⌜X = Y8⌝ ∗ owns (c : Thread nD τ) (spec0_8.stage ((cfg0 a).slots t 8)) fullShare X) ∗ (∃ X, ⌜True⌝ ∗ owns (c : Thread nD τ) (spec0_9.stage ((cfg0 a).slots t 9)) fullShare X) ∗ (∃ X, ⌜True⌝ ∗ owns (c : Thread nD τ) (spec0_10.stage ((cfg0 a).slots t 10)) fullShare X) ∗ (∃ X, ⌜T.R11 t.val Y11 X⌝ ∗ owns (c : Thread nD τ) (spec0_11.stage ((cfg0 a).slots t 11)) fullShare X) ∗ (∃ X, ⌜T.R12 t.val Y12 X⌝ ∗ owns (c : Thread nD τ) (spec0_12.stage ((cfg0 a).slots t 12)) fullShare X) ∗ (∃ X, ⌜True⌝ ∗ owns (c : Thread nD τ) (spec0_13.stage ((cfg0 a).slots t 13)) fullShare X))

set_option maxHeartbeats 2000000 in
theorem sound_body (hg : Good a.1) (c : Dev nD) (t : Fin (cfg0 a).N) (Y0 : Vec F S384x2560 .bf16) (Y1 : Vec F S384x1024 .fp8e4m3) (Y2 : Vec F S384x128 .f32) (Y3 : Vec F S64x1024 .i8) (Y4 : Vec F S20x1024 .f32) (Y5 : Vec F S20x1024 .f32) (Y6 : Vec F S1024x1024 .fp8e4m3) (Y7 : Vec F S1x1024 .f32) (Y8 : Vec F S1024x128 .f32) (Y9 : Vec F S384x1024 .f32) (Y10 : Vec F S384x1024 .f32) (Y11 : Vec F S384x128 .f32) (Y12 : Vec F S384x128 .f32) (Y13 : Vec F S1024x1024 .bf16)
    (hk : KeepsAt a T hg t Y0 Y1 Y2 Y3 Y4 Y5 Y6 Y7 Y11 Y12) :
    bodyPre m a T c t Y0 Y1 Y2 Y3 Y4 Y5 Y6 Y7 Y8 Y9 Y10 Y11 Y12 Y13 ⊢ wp frame (wpE (defs₀ (F := F)) Variants.none c none) Set.univ (bodyAt a t) (fun _ => bodyPost m a T c t Y0 Y1 Y2 Y3 Y4 Y5 Y6 Y7 Y8 Y9 Y10 Y11 Y12 Y13) := by
  unfold bodyPre bodyPost PhiD bodyAt
  iintro ⟨⟨⟨%w17, %w18, %w19, %w20, %w21, %hI, S0, S1, S2, S3, S4⟩, HT, Hg⟩, HO, H0, H1, H2, H3, H4, H5, H6, H7, H8, H9, H10, H11, H12, H13⟩
  have hkk := hk w17 w18 w19 w20 w21 hI
  iapply (point c (dynb0 a.1) (blkOf a t) (stepOf a t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) fullShare.right (a.1 1) Y0 Y1 Y2 Y3 Y4 Y5 Y6 Y7 Y8 Y9 Y10 Y11 Y12 Y13 w17 w18 w19 w20 w21 (pt_of a hg t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  isplitl [S3]; · iexact S3
  isplitl [S4]; · iexact S4
  iintro ⟨HT, H0, H1, H2, H3, H4, H5, H6, H7, H8, ⟨%y9, H9⟩, ⟨%y10, H10⟩, H11, H12, ⟨%y13, H13⟩, S0, S1, S2, S3, S4⟩
  isplitl [S0 S1 S2 S3 S4 HT Hg]
  · isplitl [S0 S1 S2 S3 S4]
    · iexists _, _, _, _, _
      isplitr; swap
      · isplitl [S0]; · iexact S0
        isplitl [S1]; · iexact S1
        isplitl [S2]; · iexact S2
        isplitl [S3]; · iexact S3
        iexact S4
      ipureintro; exact hkk.1
    isplitl [HT]; · iexact HT
    iexact Hg
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact trivial
  isplitl [H10]
  · iexists _; isplitr; swap; · iexact H10
    ipureintro; exact trivial
  isplitl [H11]
  · iexists _; isplitr; swap; · iexact H11
    ipureintro; exact hkk.2.1
  isplitl [H12]
  · iexists _; isplitr; swap; · iexact H12
    ipureintro; exact hkk.2.2
  iexists _; isplitr; swap; · iexact H13
  ipureintro; exact trivial

end Cert.Kernel.Hand
end
-- ==== Proof.K.Oblig.lean ====
module

public import proofs.«01_k».proof.Proof.K.Body

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (a : (pcfg0 (F := F)).Adm) (T : Track F)

theorem body_obligation (hg : Good a.1) (c : Dev nD) (hk : Keeps m a T hg c) :
    (dat m a T c).BodyObligation (defs₀ (F := F)) Variants.none () Set.univ := by
  intro t Y hY
  rw [bigSep_W0, bigSep_W0, defs₀_row,
    show (dat m a T c).Φ t.castSucc = PhiD (F := F) a T c t.val from congrArg (PhiD (F := F) a T c) (Fin.val_castSucc t)]
  exact triple_restated (sound_body m a T hg c t (Y 0) (Y 1) (Y 2) (Y 3) (Y 4) (Y 5) (Y 6) (Y 7) (Y 8) (Y 9) (Y 10) (Y 11) (Y 12) (Y 13) (hk t Y hY)) rfl .rfl fun _ => .rfl

end Cert.Kernel.Hand
end
-- ==== Proof.K.Launch.lean ====
module

public import proofs.«01_k».proof.Proof.K.Oblig

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (a : (pcfg0 (F := F)).Adm) (T : Track F)

/-! ## The launch -/

variable (ρ : Dev nD → PrngReg)

theorem bigSep_two {M : Type} [URA M] (Φ : Fin 2 → sProp M) : bigSep Finset.univ Φ = iprop(Φ 0 ∗ Φ 1) :=
  BI.bigSep_univ_eq_bigSepL [(0 : Fin 2), (1 : Fin 2)] (by decide) (by decide) Φ

theorem hin0 (c : Dev nD) (h0 : ∀ w17 w18 w19 w20 w21, T.Inv 0 w17 w18 w19 w20 w21) :
    iprop(Pipeline.ΦA (cfg0 a).spec c ∗ Pipeline.ΦT pre0 a.1 c) ⊢ PhiD (F := F) a T c 0 := by
  unfold PhiD Pipeline.ΦA Pipeline.ΦT Pipeline.prefHeld
  rw [show (cfg0 a).spec = spec0 from rfl, scopedRest0_eq]
  simp only [owns_whole]
  rw [bigSep_two]
  iintro ⟨⟨⟨⟨%f0, S0⟩, ⟨%f1, S1⟩, ⟨%f2, S2⟩, ⟨%f3, S3⟩, ⟨%f4, S4⟩⟩, Hg⟩, ⟨-, HT⟩⟩
  isplitl [S0 S1 S2 S3 S4]
  · iexists f0, f1, f2, f3, f4
    isplitr; · ipureintro; exact h0 _ _ _ _ _
    isplitl [S0]; · iexact S0
    isplitl [S1]; · iexact S1
    isplitl [S2]; · iexact S2
    isplitl [S3]; · iexact S3
    iexact S4
  isplitl [HT]; · iapply (Entails.of_eq (owns_whole (c : Thread nD τ) main_arg9 fullShare.right (a.1 1)).symm); iexact HT
  iexact Hg

theorem hout0 (c : Dev nD) (k : Nat) : PhiD (F := F) a T c k ⊢ Pipeline.ΦA (cfg0 a).spec c := by
  unfold PhiD Pipeline.ΦA
  rw [show (cfg0 a).spec = spec0 from rfl, scopedRest0_eq]
  simp only [owns_whole]
  iintro ⟨⟨%w17, %w18, %w19, %w20, %w21, -, S0, S1, S2, S3, S4⟩, -, Hg⟩
  isplitr [Hg]
  · isplitl [S0]; · iexists _; iexact S0
    isplitl [S1]; · iexists _; iexact S1
    isplitl [S2]; · iexists _; iexact S2
    isplitl [S3]; · iexists _; iexact S3
    iexists _; iexact S4
  iexact Hg

set_option backward.isDefEq.respectTransparency.types false in
/-- The launch: every execution terminates, the arrays stand in the data's relations, the other buffers are unchanged. -/
theorem run_main (hg : Good a.1) (hpf : ∀ c k, V m c (pre0.ref k) = a.1 k) (h0 : ∀ w17 w18 w19 w20 w21, T.Inv 0 w17 w18 w19 w20 w21)
    (hk : ∀ c, Keeps m a T hg c) :
    θ_run defs (onTc (τ := τ) (main (F := F))) (s₀ m ρ)
      (fun r => Pipeline.RDat.FramePost (cfg0 a) (dat m a T) (V m) r ∧ r.2.sem = fun _ => 0) :=
  Pipeline.RDat.θ_run_frameP_track (Q' := _) pcfgs (fun _ => a) (0 : Fin 1) launch0 defs₀ Variants.none (dat m a T) m ρ main
    (hbody := fun c => body_obligation m a T hg c (hk c)) (hshare := fun c => (dat m a T c).share_full fun _ => rfl)
    (howed := fun _ _ => rfl) (V := V m)
    (hmain := Pipeline.hmainP_region pcfgs 0 defs₀ Variants.none m main fun c => (main_chain c).trans rfl)
    (hA := fun _ _ => rfl) (hpf := hpf) (hin := fun c => hin0 a T c h0) (hout := fun c => hout0 a T c _)

end Cert.Kernel.Hand
end
-- ==== Proof.K.Pre.lean ====
module

public import proofs.«01_k».proof.Proof.K.Launch
public import proofs.«01_k».proof.Pre_launched
public import Idealize.ShloMosaic.Lib.Affine

/-! What the precondition says of the two tables, read back from the printed function. -/

@[expose] public section

set_option maxRecDepth 16384
noncomputable section

namespace Cert.Kernel.Hand

open Cert.Kernel Cert.Kernel.Gen
open Idealize.ShloMosaic Idealize.ShloMosaic.TcCoe

variable {F : FTy → Type} [FloatOps F]

/-- An entry of the table, cut out and reshaped to a scalar. -/
theorem entry (v : IVec Cert.Pre_launched.S5 32) (k : Fin 5) (off : Fin 1 → Nat) (ho : off 0 = k.val)
    (h : Cert.Pre_launched.S5.Slices off Cert.Pre_launched.S1) (h' : Cert.Pre_launched.S1.ShapeCasts Cert.Pre_launched.S_) (j : Cert.Pre_launched.S_.Idx) :
    shapeCast Cert.Pre_launched.S_ (extractStridedSlice Cert.Pre_launched.S1 off v h) h' j = v (ix5 k) := by
  unfold shapeCast extractStridedSlice
  congr 1
  funext a
  apply Fin.ext
  fin_cases a
  have hz : ∀ x : Cert.Pre_launched.S1.Idx, (x 0).val = 0 := fun x => by have := (x 0).isLt; simp at this; omega
  simp [ix5, ho, hz]

/-- The precondition's word, taken apart. -/
theorem decode [Cert.Pre_launched.Facts] (x0 : FVec F ⟨2, ![7680, 2560]⟩ .bf16) (x1 : FVec F ⟨2, ![7680, 1024]⟩ .fp8e4m3)
    (x2 : FVec F ⟨2, ![7680, 128]⟩ .f32) (x3 : IVec ⟨2, ![1280, 151936]⟩ 8) (x4 x5 : FVec F ⟨2, ![20, 151936]⟩ .f32)
    (x6 : FVec F ⟨2, ![151936, 1024]⟩ .fp8e4m3) (x7 : FVec F ⟨2, ![1, 151936]⟩ .f32) (x8 : FVec F ⟨2, ![151936, 128]⟩ .f32)
    (v : IVec Cert.Pre_launched.S5 32) (n : IVec Cert.Pre_launched.S_ 32)
    (h : Cert.Pre_launched.fn (F := F) x0 x1 x2 x3 x4 x5 x6 x7 x8 v n = fun _ => 1#1) :
    ((((IntOp.cmpi .sge (v (ix5 2)) 1#32 = 1#1 ∧ IntOp.cmpi .sle (v (ix5 2)) 149#32 = 1#1)
      ∧ IntOp.cmpi .eq (n fun a => a.elim0) (v (ix5 2) + 1#32) = 1#1) ∧ IntOp.cmpi .sge (v (ix5 1)) 0#32 = 1#1)
      ∧ IntOp.cmpi .sle (v (ix5 0)) 151936#32 = 1#1) ∧ IntOp.cmpi .sle (v (ix5 0)) (v (ix5 2) * 1024#32) = 1#1 := by
  have h := congrFun h fun a => a.elim0
  simp only [Cert.Pre_launched.fn, Cert.Pre_launched.fn_part1, andi, cmpi, addi, muli, constantI, IntOp.andi_eq_one] at h
  rw [entry v 2 ![2] rfl, entry v 1 ![1] rfl, entry v 0 ![0] rfl] at h
  exact h

/-- What the six comparisons say of the words. -/
theorem words {a0 a1 a2 n : BitVec 32}
    (h : ((((IntOp.cmpi .sge a2 1#32 = 1#1 ∧ IntOp.cmpi .sle a2 149#32 = 1#1)
      ∧ IntOp.cmpi .eq n (a2 + 1#32) = 1#1) ∧ IntOp.cmpi .sge a1 0#32 = 1#1)
      ∧ IntOp.cmpi .sle a0 151936#32 = 1#1) ∧ IntOp.cmpi .sle a0 (a2 * 1024#32) = 1#1) :
    1 ≤ a2.toNat ∧ a2.toNat ≤ 149 ∧ n.toNat = a2.toNat + 1 ∧ a1.toNat < 2 ^ 31 ∧ a0.toInt ≤ 151936 ∧ a0.toInt ≤ a2.toNat * 1024 := by
  obtain ⟨⟨⟨⟨⟨h1, h2⟩, h3⟩, h4⟩, h5⟩, h6⟩ := h
  rw [IntOp.cmpi_sge] at h1 h4
  rw [IntOp.cmpi_sle] at h2 h5 h6
  rw [IntOp.cmpi_eq] at h3
  have e1 : (1#32 : BitVec 32).toInt = 1 := by decide
  have e2 : (149#32 : BitVec 32).toInt = 149 := by decide
  have e3 : (151936#32 : BitVec 32).toInt = 151936 := by decide
  have e4 : (0#32 : BitVec 32).toInt = 0 := by decide
  rw [e1] at h1; rw [e2] at h2; rw [e3] at h5; rw [e4] at h4
  have k1 : 1 ≤ a2.toNat ∧ a2.toNat ≤ 149 := by
    have := a2.isLt
    rw [BitVec.toInt_eq_toNat_cond] at h1 h2
    split at h1 <;> omega
  have k2 : (a2 * 1024#32).toNat = a2.toNat * 1024 := by
    rw [BitVec.toNat_mul, show (1024#32 : BitVec 32).toNat = 1024 from rfl, Nat.mod_eq_of_lt]; omega
  refine ⟨k1.1, k1.2, ?_, ?_, h5, ?_⟩
  · rw [h3, BitVec.toNat_add, show (1#32 : BitVec 32).toNat = 1 from rfl, Nat.mod_eq_of_lt]; omega
  · have := a1.isLt
    rw [BitVec.toInt_eq_toNat_cond] at h4
    split at h4 <;> omega
  · have e : (a2 * 1024#32).toInt = ((a2 * 1024#32).toNat : Int) := BitVec.toInt_eq_toNat_of_lt (by omega)
    rw [e, k2] at h6
    push_cast at h6
    exact h6

/-- The precondition's word is one only for good tables. -/
theorem good_of [Cert.Pre_launched.Facts] (pf : pre0.Contents (Elt F)) (x0 : FVec F ⟨2, ![7680, 2560]⟩ .bf16) (x1 : FVec F ⟨2, ![7680, 1024]⟩ .fp8e4m3)
    (x2 : FVec F ⟨2, ![7680, 128]⟩ .f32) (x3 : IVec ⟨2, ![1280, 151936]⟩ 8) (x4 x5 : FVec F ⟨2, ![20, 151936]⟩ .f32)
    (x6 : FVec F ⟨2, ![151936, 1024]⟩ .fp8e4m3) (x7 : FVec F ⟨2, ![1, 151936]⟩ .f32) (x8 : FVec F ⟨2, ![151936, 128]⟩ .f32)
    (h : Cert.Pre_launched.fn (F := F) x0 x1 x2 x3 x4 x5 x6 x7 x8 (pf 1) (pf 0) = fun _ => 1#1) : Good pf :=
  have k := words (decode x0 x1 x2 x3 x4 x5 x6 x7 x8 (pf 1) (pf 0) h)
  ⟨k.1, k.2.1, k.2.2.1, k.2.2.2.1, k.2.2.2.2.1, k.2.2.2.2.2⟩

end Cert.Kernel.Hand
end
-- ==== Proof.K.Frame.lean ====
module

public import proofs.«01_k».proof.Proof.K.Pre

/-! The frame of the launch: it terminates, its arguments end unchanged, every counter ends at zero. -/

@[expose] public section

set_option maxRecDepth 16384
noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ)

/-- The tables as the launch finds them. -/
def pf0 : pre0.Contents (Elt F) := fun k => m (((0 : Dev nD) : Thread nD τ).loc (pre0.ref k))

/-- There is one device. -/
theorem dev_eq (c : Dev nD) : c = 0 := Subsingleton.elim (α := Fin 1) c 0

omit [FloatOps F] in
theorem pf0_eq (c : Dev nD) (k : Fin 2) : V m c (pre0.ref k) = pf0 m k := by
  rw [dev_eq c]; rfl

/-- The argument arrays end as they began. -/
def Unchanged (r : PUnit × MemSt nD τ sig (Elt F)) : Prop := ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)
  ∧ r.2.mem ((c : Thread nD τ).loc main_arg7) = m ((c : Thread nD τ).loc main_arg7)
  ∧ r.2.mem ((c : Thread nD τ).loc main_arg8) = m ((c : Thread nD τ).loc main_arg8)
  ∧ r.2.mem ((c : Thread nD τ).loc main_arg9) = m ((c : Thread nD τ).loc main_arg9)
  ∧ r.2.mem ((c : Thread nD τ).loc main_arg10) = m ((c : Thread nD τ).loc main_arg10)

variable (a : (pcfg0 (F := F)).Adm) (T : Track F)

/-- The launch's post keeps the arguments. -/
theorem unchanged_of {r : PUnit × MemSt nD τ sig (Elt F)} (h : Pipeline.RDat.FramePost (cfg0 a) (dat m a T) (V m) r) : Unchanged m r := by
  intro c
  have hi : ∀ w : Fin 14, ((cfg0 a).win w).isOut = false → r.2.mem ((c : Thread nD τ).loc (Pipeline.arrRef spec0 w)) = V m c (Pipeline.arrRef spec0 w) := by
    intro w hw
    have h1 := (h c).1 w
    rw [Pipeline.RDat.ArrAt_in (dat m a T c) w hw] at h1
    exact h1
  have hr : ∀ b : Ref sig .tc, b ∈ Pipeline.restRefs sig spec0 → r.2.mem ((c : Thread nD τ).loc b) = V m c b := (h c).2
  refine ⟨hi 0 rfl, hi 1 rfl, hi 2 rfl, hi 3 rfl, hi 4 rfl, hi 5 rfl, hi 6 rfl, hi 7 rfl, hi 8 rfl,
    hr main_arg9 (Pipeline.mem_restRefs_of _ (by decide) (by decide)), hr main_arg10 (Pipeline.mem_restRefs_of _ (by decide) (by decide))⟩

/-- No tracking at all. -/
def track0 (F : FTy → Type) : Track F := ⟨fun _ _ _ _ _ _ => True, fun _ _ _ => True, fun _ _ _ => True⟩

/-- The launch with good tables terminates, keeps its arguments and leaves every counter at zero. -/
theorem frame_run (ρ : Dev nD → PrngReg) (hg : Good (pf0 m)) :
    θ_run defs (onTc (τ := τ) (main (F := F))) ⟨m, fun _ => 0, ρ⟩ (fun r => Unchanged m r ∧ r.2.sem = fun _ => 0) :=
  (θ_run defs _ _).mono (fun _ h => ⟨unchanged_of m ⟨pf0 m, ok_good _ hg⟩ (track0 F) h.1, h.2⟩)
    (run_main m ⟨pf0 m, ok_good _ hg⟩ (track0 F) ρ hg (pf0_eq m) (fun _ _ _ _ _ => trivial)
      (fun _ _ _ _ _ _ _ _ _ _ => ⟨trivial, trivial, trivial⟩))

end Cert.Kernel.Hand
end
-- ==== Proof.KI.Claims.lean ====
module

public import proofs.«01_k».proof.Defs
public import proofs.«01_k».proof.Proof.KI.Frame
public import proofs.«01_k».proof.Proof.K.Frame
public import proofs.«01_k».proof.Proof.Gen.ReferenceIdeal.Frame

/-! The frames of the three programs, and the kernel's named constants. -/

@[expose] public section

set_option maxRecDepth 16384
noncomputable section

namespace Cert.Proof.Claims

open Idealize.ShloMosaic Idealize.ShloMosaic.TcCoe Idealize.SL.Sem

section
variable [Cert.Pre_launched.Facts]

theorem good_Kernel {m} (h : Cert.Pre_Kernel m) : Cert.Kernel.Hand.Good (F := Bits) (Cert.Kernel.Hand.pf0 m) :=
  Cert.Kernel.Hand.good_of (Cert.Kernel.Hand.pf0 m) _ _ _ _ _ _ _ _ _ (h 0)

theorem good_KernelIdeal {m} (h : Cert.Pre_KernelIdeal m) : Cert.KernelIdeal.Hand.Good (F := Ideal) (Cert.KernelIdeal.Hand.pf0 m) :=
  Cert.KernelIdeal.Hand.good_of (Cert.KernelIdeal.Hand.pf0 m) _ _ _ _ _ _ _ _ _ (h 0)

theorem frame_Kernel : Cert.quiescent_Kernel := fun m ρ h => Cert.Kernel.Hand.frame_run m ρ (good_Kernel h)

theorem frame_KernelIdeal : Cert.quiescent_KernelIdeal := fun m ρ h => Cert.KernelIdeal.Hand.frame_run m ρ (good_KernelIdeal h)

theorem frame_ReferenceIdeal : Cert.quiescent_ReferenceIdeal := fun m ρ _ => Cert.ReferenceIdeal.Gen.frame m ρ

end

/-- Each named constant stands for its number in the kernel's table of names. -/
theorem preserves : Cert.preserves_Kernel_KernelIdeal :=
  ⟨IdealRules.named_const.statement Cert.KernelIdeal.κ "masked" .f32 0xF149F2CA#32 ⊥ rfl,
   IdealRules.named_const.statement Cert.KernelIdeal.κ "z_scale" .f32 0x3F38AA3B#32 (((2 * (Real.log 2))⁻¹ : ℝ) : EReal) rfl,
   IdealRules.named_const.statement Cert.KernelIdeal.κ "log2e" .f32 0x3FB8AA3B#32 (((Real.log 2)⁻¹ : ℝ) : EReal) rfl⟩

end Cert.Proof.Claims
end
-- ==== Proof.KI.Lse.lean ====
module

public import Idealize.ShloMosaic.PureOps.Ideal
public import Mathlib.Analysis.SpecialFunctions.Pow.Real

/-! The running log-sum-exp over the extended reals.

`Run f K m s` says that `m` is the supremum of the first `K` values of `f` and `s` the sum of `2 ^ (f k - m)` over them. Eight
more values are folded in by `Run.step`; `lanes` folds the lanes together; `base` changes the base. All of it holds for every
extended real, infinities included. -/

@[expose] public section

noncomputable section

namespace Cert.Lse

open Idealize.ShloMosaic Finset

theorem bot_sub (x : EReal) : ⊥ - x = ⊥ := by rw [sub_eq_add_neg, EReal.bot_add]

theorem exp2_nonneg (x : EReal) : 0 ≤ Ideal.exp2 x := by
  induction x with
  | bot => exact le_rfl
  | top => exact le_top
  | coe r => exact EReal.coe_nonneg.mpr (Real.rpow_nonneg (by norm_num) r)

/-- Moving the reference point of a power from `a` up to `b`. -/
theorem exp2_move {z a b : EReal} (h : z ≤ a) (h' : a ≤ b) :
    Ideal.exp2 (z - a) * Ideal.exp2 (a - b) = Ideal.exp2 (z - b) := by
  induction z with
  | bot => simp [bot_sub]
  | top =>
    have ha : a = ⊤ := top_le_iff.mp h
    subst ha
    have hb : b = ⊤ := top_le_iff.mp h'
    subst hb
    simp
  | coe z =>
    induction a with
    | bot => simp at h
    | top =>
      have hb : b = ⊤ := top_le_iff.mp h'
      subst hb
      simp
    | coe a =>
      induction b with
      | bot => simp at h'
      | top => simp
      | coe b =>
        rw [← EReal.coe_sub, ← EReal.coe_sub, ← EReal.coe_sub, Ideal.exp2_coe, Ideal.exp2_coe, Ideal.exp2_coe, ← EReal.coe_mul]
        congr 1
        show (2 : ℝ) ^ (z - a) * (2 : ℝ) ^ (a - b) = (2 : ℝ) ^ (z - b)
        rw [← Real.rpow_add (by norm_num)]
        congr 1
        ring

/-- The sum of `2 ^ (f k - b)` over a set. -/
def tot {ι : Type} (S : Finset ι) (f : ι → EReal) (b : EReal) : EReal := ∑ k ∈ S, Ideal.exp2 (f k - b)

theorem sum_mul {ι : Type} (S : Finset ι) (f : ι → EReal) (c : EReal) (h : ∀ k, 0 ≤ f k) : (∑ k ∈ S, f k) * c = ∑ k ∈ S, f k * c := by
  classical
  induction S using Finset.induction_on with
  | empty => simp
  | insert a S ha ih =>
    rw [sum_insert ha, sum_insert ha, EReal.right_distrib_of_nonneg (h a) (sum_nonneg fun k _ => h k), ih]

theorem tot_move {ι : Type} (S : Finset ι) (f : ι → EReal) {a b : EReal} (h : ∀ k ∈ S, f k ≤ a) (h' : a ≤ b) :
    tot S f a * Ideal.exp2 (a - b) = tot S f b := by
  unfold tot
  rw [sum_mul _ _ _ fun k => exp2_nonneg _]
  exact sum_congr rfl fun k hk => exp2_move (h k hk) h'

/-- The running maximum and the running sum of the first `K` values. -/
structure Run (f : ℕ → EReal) (K : ℕ) (m s : EReal) : Prop where
  max : m = (range K).sup f
  sum : s = tot (range K) f m

theorem Run.zero (f : ℕ → EReal) : Run f 0 ⊥ 0 := ⟨by simp, by simp [tot]⟩

theorem Run.le {f : ℕ → EReal} {K : ℕ} {m s : EReal} (h : Run f K m s) : ∀ k ∈ range K, f k ≤ m := by
  rw [h.max]; exact fun k hk => le_sup hk

theorem sup_succ (f : ℕ → EReal) (K : ℕ) : (range (K + 1)).sup f = Max.max ((range K).sup f) (f K) := by
  rw [range_add_one, sup_insert, sup_comm]

theorem tot_succ (f : ℕ → EReal) (K : ℕ) (b : EReal) : tot (range (K + 1)) f b = tot (range K) f b + Ideal.exp2 (f K - b) := by
  unfold tot
  rw [sum_range_succ]

/-- Folding in eight more values. -/
theorem Run.step {f : ℕ → EReal} {K : ℕ} {m s m' : EReal} (h : Run f K m s)
    (hm : m' = Max.max (Max.max (Max.max (Max.max (Max.max (Max.max (Max.max (Max.max m (f K)) (f (K + 1))) (f (K + 2))) (f (K + 3))) (f (K + 4))) (f (K + 5))) (f (K + 6))) (f (K + 7))) :
    Run f (K + 8) m' (s * Ideal.exp2 (m - m') + Ideal.exp2 (f K - m') + Ideal.exp2 (f (K + 1) - m') + Ideal.exp2 (f (K + 2) - m')
      + Ideal.exp2 (f (K + 3) - m') + Ideal.exp2 (f (K + 4) - m') + Ideal.exp2 (f (K + 5) - m') + Ideal.exp2 (f (K + 6) - m')
      + Ideal.exp2 (f (K + 7) - m')) := by
  have hle : m ≤ m' := by
    rw [hm]; simp only [le_max_iff, le_refl, true_or]
  refine ⟨?_, ?_⟩
  · rw [hm, h.max]
    simp only [← sup_succ]
  · rw [h.sum, tot_move _ _ h.le hle]
    simp only [← tot_succ]

/-- The columns of all lanes together are the columns. -/
theorem sum_lanes (g : ℕ → EReal) (n K : ℕ) : ∑ l : Fin n, ∑ k ∈ range K, g (n * k + l.val) = ∑ v ∈ range (n * K), g v := by
  induction K with
  | zero => simp
  | succ K ih =>
    have h : ∑ v ∈ range (n * (K + 1)), g v = ∑ v ∈ range (n * K), g v + ∑ l ∈ range n, g (n * K + l) := by
      rw [Nat.mul_succ, sum_range_add]
    rw [h, ← ih, ← Fin.sum_univ_eq_sum_range (fun l => g (n * K + l)), ← sum_add_distrib]
    exact sum_congr rfl fun l _ => sum_range_succ _ _

theorem sup_lanes (g : ℕ → EReal) (n K : ℕ) : (univ : Finset (Fin n)).sup (fun l => (range K).sup fun k => g (n * k + l.val)) = (range (n * K)).sup g := by
  apply le_antisymm
  · refine Finset.sup_le fun l _ => Finset.sup_le fun k hk => le_sup (f := g) (mem_range.mpr ?_)
    have hl := l.isLt
    have hk := mem_range.mp hk
    calc n * k + l.val < n * k + n := by omega
      _ = n * (k + 1) := by ring
      _ ≤ n * K := Nat.mul_le_mul_left _ hk
  · refine Finset.sup_le fun v hv => ?_
    have hv := mem_range.mp hv
    have hn : 0 < n := Nat.pos_of_ne_zero fun h => by simp [h] at hv
    have e : g v = (fun k => g (n * k + v % n)) (v / n) := by simp only [Nat.div_add_mod]
    rw [e]
    refine le_trans (le_sup (f := fun k => g (n * k + v % n)) (mem_range.mpr (Nat.div_lt_of_lt_mul hv))) ?_
    exact le_sup (f := fun l : Fin n => (range K).sup fun k => g (n * k + l.val)) (mem_univ (⟨v % n, Nat.mod_lt _ hn⟩ : Fin n))

/-- The log-sum-exp to base two of the first `N` values, in the units `c` of the logarithm. -/
def lse (Z : ℕ → EReal) (N : ℕ) (c : EReal) : EReal := (range N).sup Z + Ideal.log (tot (range N) Z ((range N).sup Z)) * c

/-- The lanes' running maxima and sums folded together. -/
theorem lanes {Z : ℕ → EReal} {n K : ℕ} {m s : Fin n → EReal} {c T : EReal} (h : ∀ l : Fin n, Run (fun k => Z (n * k + l.val)) K (m l) (s l))
    (hT : T = (univ : Finset (Fin n)).sup m) : T + Ideal.log (∑ l : Fin n, s l * Ideal.exp2 (m l - T)) * c = lse Z (n * K) c := by
  have hm : T = (range (n * K)).sup Z := by
    rw [hT, ← sup_lanes]
    exact Finset.sup_congr rfl fun l _ => (h l).max
  have hs : ∑ l : Fin n, s l * Ideal.exp2 (m l - T) = tot (range (n * K)) Z T := by
    unfold tot
    rw [← sum_lanes (fun v => Ideal.exp2 (Z v - T))]
    refine sum_congr rfl fun l _ => ?_
    rw [(h l).sum, tot_move _ _ (h l).le (by rw [hT]; exact le_sup (mem_univ l))]
    rfl
  unfold lse
  rw [hs, ← hm]

/-- Values at `-∞` do not count. -/
theorem lse_ext {Z : ℕ → EReal} {N M : ℕ} (h : N ≤ M) (hZ : ∀ v, N ≤ v → Z v = ⊥) (c : EReal) : lse Z M c = lse Z N c := by
  induction M, h using Nat.le_induction with
  | base => rfl
  | succ M hM ih =>
    have e : (range (M + 1)).sup Z = (range M).sup Z := by rw [sup_succ, hZ M hM, max_eq_left bot_le]
    have e' : ∀ b, tot (range (M + 1)) Z b = tot (range M) Z b := fun b => by rw [tot_succ, hZ M hM, bot_sub, Ideal.exp2_bot, add_zero]
    rw [← ih]
    unfold lse
    rw [e, e']

/-- A power of two of a number in units of `log 2` is its exponential. -/
theorem exp2_unit (x : EReal) : Ideal.exp2 (x * (((Real.log 2)⁻¹ : ℝ) : EReal)) = Ideal.exp x := by
  have hl : 0 < Real.log 2 := Real.log_pos (by norm_num)
  have hi : 0 < (Real.log 2)⁻¹ := inv_pos.mpr hl
  induction x with
  | bot => rw [EReal.bot_mul_coe_of_pos hi]; rfl
  | top => rw [EReal.top_mul_coe_of_pos hi]; rfl
  | coe r =>
    rw [← EReal.coe_mul, Ideal.exp2_coe, Ideal.exp_coe]
    congr 1
    show (2 : ℝ) ^ (r * (Real.log 2)⁻¹) = Real.exp r
    rw [Real.rpow_def_of_pos (by norm_num)]
    congr 1
    field_simp

theorem unit_nonneg : (0 : EReal) ≤ (((Real.log 2)⁻¹ : ℝ) : EReal) :=
  EReal.coe_nonneg.mpr (inv_nonneg.mpr (Real.log_nonneg (by norm_num)))

theorem sup_mul_unit (Y : ℕ → EReal) (N : ℕ) :
    (range N).sup (fun v => Y v * (((Real.log 2)⁻¹ : ℝ) : EReal)) = (range N).sup Y * (((Real.log 2)⁻¹ : ℝ) : EReal) := by
  induction N with
  | zero => simp [EReal.bot_mul_coe_of_pos (inv_pos.mpr (Real.log_pos (by norm_num : (1 : ℝ) < 2)))]
  | succ N ih =>
    rw [sup_succ, sup_succ, ih]
    exact ((monotone_mul_right_of_nonneg unit_nonneg).map_max).symm

/-- The log-sum-exp to base two of `Y` in units of `log 2` is the natural one of `Y`, in those units. -/
theorem base (Y : ℕ → EReal) (N : ℕ) :
    lse (fun v => Y v * (((Real.log 2)⁻¹ : ℝ) : EReal)) N (((Real.log 2)⁻¹ : ℝ) : EReal)
      = ((range N).sup Y + Ideal.log (∑ v ∈ range N, Ideal.exp (Y v - (range N).sup Y))) * (((Real.log 2)⁻¹ : ℝ) : EReal) := by
  have hd : ∀ a b : EReal, (a + b) * (((Real.log 2)⁻¹ : ℝ) : EReal) = a * (((Real.log 2)⁻¹ : ℝ) : EReal) + b * (((Real.log 2)⁻¹ : ℝ) : EReal) :=
    fun a b => EReal.right_distrib_of_nonneg_of_ne_top unit_nonneg (EReal.coe_ne_top _) a b
  unfold lse tot
  rw [sup_mul_unit, hd]
  congr 3
  refine sum_congr rfl fun v _ => ?_
  rw [← exp2_unit, sub_eq_add_neg, sub_eq_add_neg, hd, EReal.neg_mul]

end Cert.Lse
end
-- ==== Proof.KI.Stats.lean ====
module

public import proofs.«01_k».proof.Proof.KI.Lse
public import proofs.«01_k».proof.Proof.KI.Base
public import Idealize.ShloMosaic.Lib.Pipeline.Value
public import Idealize.ShloMosaic.Lib.ValueIdx
public import Idealize.ShloMosaic.Lib.ValueLayout
public import Idealize.ShloMosaic.PureOps.Ideal.Laws
public import Idealize.ShloMosaic.PureOps.IdealRules

/-! The running statistics of one grid point, read over the extended reals.

`step_tea` and `step_stu`: folding a tile's eight slices of 128 columns into a lane's running maximum and sum is `Lse.Run.step`.
`out_tea` and `out_stu`: what the last point writes is the log-sum-exp of the whole row, in every lane. -/

@[expose] public section

set_option maxRecDepth 16384
noncomputable section

namespace Cert.KernelIdeal.Hand

open Cert.KernelIdeal Cert.KernelIdeal.Gen Cert.Lse
open Idealize.ShloMosaic Idealize.ShloMosaic.ValueIdx

/-- `1 / ln 2`. -/
abbrev unit2 : EReal := (((Real.log 2)⁻¹ : ℝ) : EReal)

theorem log2e_eq : Named.named (F := Ideal) κ "log2e" (φ := .f32) 0x3FB8AA3B#32 = unit2 :=
  IdealRules.named_const.ideal_named_scalar _ _ _ _ rfl
theorem masked_eq : Named.named (F := Ideal) κ "masked" (φ := .f32) 0xF149F2CA#32 = (⊥ : EReal) :=
  IdealRules.named_const.ideal_named_scalar _ _ _ _ rfl
theorem z_scale_eq : Named.named (F := Ideal) κ "z_scale" (φ := .f32) 0x3F38AA3B#32 = (((2 * Real.log 2)⁻¹ : ℝ) : EReal) :=
  IdealRules.named_const.ideal_named_scalar _ _ _ _ rfl

theorem slice_apply (o : ℕ) (Z : FVec Ideal S384x1024 .f32) (h : S384x1024.Slices ![0, o] S384x128) (p : Fin 384) (l : Fin 128)
    (q : Fin 1024) (hq : q.val = o + l.val) : extractStridedSlice S384x128 ![0, o] Z h (ix2 p l) = Z (ix2 p q) :=
  extractStridedSlice_apply _ _ _ _ _ fun a => match a with
    | ⟨0, _⟩ => (Nat.zero_add _).symm
    | ⟨1, _⟩ => hq

/-- Folding one tile into a lane's statistics, teacher. -/
theorem step_tea (Z : FVec Ideal S384x1024 .f32) (m s : Vec Ideal S384x128 .f32) (p : Fin 384) (l : Fin 128) (g : ℕ → EReal) (K : ℕ)
    (hg : ∀ c q : ℕ, c < 8 → ∀ hq : q < 1024, q = 128 * c + l.val → g (K + c) = Z (ix2 p ⟨q, hq⟩))
    (h : Run g K (m (ix2 p l)) (s (ix2 p l))) :
    Run g (K + 8) (k0_pay26 (k0_pay24 Z m) (ix2 p l)) (k0_pay27 (k0_pay25 Z m s) (ix2 p l)) := by
  have hl := l.isLt
  have e0 : k0_pay16 Z (ix2 p l) = g K := (slice_apply _ Z slices_S384x1024_o0_0_S384x128 p l ⟨l.val, by omega⟩ (by simp)).trans (hg 0 _ (by omega) _ (by omega)).symm
  have e1 : k0_pay17 Z (ix2 p l) = g (K + 1) := (slice_apply _ Z slices_S384x1024_o0_128_S384x128 p l ⟨128 + l.val, by omega⟩ rfl).trans (hg 1 _ (by omega) _ (by omega)).symm
  have e2 : k0_pay18 Z (ix2 p l) = g (K + 2) := (slice_apply _ Z slices_S384x1024_o0_256_S384x128 p l ⟨256 + l.val, by omega⟩ rfl).trans (hg 2 _ (by omega) _ (by omega)).symm
  have e3 : k0_pay19 Z (ix2 p l) = g (K + 3) := (slice_apply _ Z slices_S384x1024_o0_384_S384x128 p l ⟨384 + l.val, by omega⟩ rfl).trans (hg 3 _ (by omega) _ (by omega)).symm
  have e4 : k0_pay20 Z (ix2 p l) = g (K + 4) := (slice_apply _ Z slices_S384x1024_o0_512_S384x128 p l ⟨512 + l.val, by omega⟩ rfl).trans (hg 4 _ (by omega) _ (by omega)).symm
  have e5 : k0_pay21 Z (ix2 p l) = g (K + 5) := (slice_apply _ Z slices_S384x1024_o0_640_S384x128 p l ⟨640 + l.val, by omega⟩ rfl).trans (hg 5 _ (by omega) _ (by omega)).symm
  have e6 : k0_pay22 Z (ix2 p l) = g (K + 6) := (slice_apply _ Z slices_S384x1024_o0_768_S384x128 p l ⟨768 + l.val, by omega⟩ rfl).trans (hg 6 _ (by omega) _ (by omega)).symm
  have e7 : k0_pay23 Z (ix2 p l) = g (K + 7) := (slice_apply _ Z slices_S384x1024_o0_896_S384x128 p l ⟨896 + l.val, by omega⟩ rfl).trans (hg 7 _ (by omega) _ (by omega)).symm
  have em : k0_pay24 Z m (ix2 p l) = max (max (max (max (max (max (max (max (m (ix2 p l)) (k0_pay16 Z (ix2 p l))) (k0_pay17 Z (ix2 p l)))
      (k0_pay18 Z (ix2 p l))) (k0_pay19 Z (ix2 p l))) (k0_pay20 Z (ix2 p l))) (k0_pay21 Z (ix2 p l))) (k0_pay22 Z (ix2 p l))) (k0_pay23 Z (ix2 p l)) := rfl
  rw [e0, e1, e2, e3, e4, e5, e6, e7] at em
  have es : k0_pay25 Z m s (ix2 p l) = s (ix2 p l) * Ideal.exp2 (m (ix2 p l) - k0_pay24 Z m (ix2 p l))
      + Ideal.exp2 (k0_pay16 Z (ix2 p l) - k0_pay24 Z m (ix2 p l)) + Ideal.exp2 (k0_pay17 Z (ix2 p l) - k0_pay24 Z m (ix2 p l))
      + Ideal.exp2 (k0_pay18 Z (ix2 p l) - k0_pay24 Z m (ix2 p l)) + Ideal.exp2 (k0_pay19 Z (ix2 p l) - k0_pay24 Z m (ix2 p l))
      + Ideal.exp2 (k0_pay20 Z (ix2 p l) - k0_pay24 Z m (ix2 p l)) + Ideal.exp2 (k0_pay21 Z (ix2 p l) - k0_pay24 Z m (ix2 p l))
      + Ideal.exp2 (k0_pay22 Z (ix2 p l) - k0_pay24 Z m (ix2 p l)) + Ideal.exp2 (k0_pay23 Z (ix2 p l) - k0_pay24 Z m (ix2 p l)) := rfl
  rw [e0, e1, e2, e3, e4, e5, e6, e7] at es
  have h26 : k0_pay26 (k0_pay24 Z m) = k0_pay24 Z m := shapeCast_self _ _
  have h27 : k0_pay27 (k0_pay25 Z m s) = k0_pay25 Z m s := shapeCast_self _ _
  rw [h26, h27, es]
  exact h.step em

/-- Folding one tile into a lane's statistics, student. -/
theorem step_stu (Z : FVec Ideal S384x1024 .f32) (m s : Vec Ideal S384x128 .f32) (p : Fin 384) (l : Fin 128) (g : ℕ → EReal) (K : ℕ)
    (hg : ∀ c q : ℕ, c < 8 → ∀ hq : q < 1024, q = 128 * c + l.val → g (K + c) = Z (ix2 p ⟨q, hq⟩))
    (h : Run g K (m (ix2 p l)) (s (ix2 p l))) :
    Run g (K + 8) (k0_pay6 (k0_pay36 Z m) (ix2 p l)) (k0_pay7 (k0_pay37 Z m s) (ix2 p l)) := by
  have h36 : k0_pay6 (k0_pay36 Z m) = k0_pay26 (k0_pay24 Z m) := rfl
  have h37 : k0_pay7 (k0_pay37 Z m s) = k0_pay27 (k0_pay25 Z m s) := rfl
  rw [h36, h37]
  exact step_tea Z m s p l g K hg h

theorem ofBits_neginf : (FloatOps.ofBits (F := Ideal) .f32 0xFF800000#32 : EReal) = ⊥ := by
  rw [Ideal.ofBits_def]; simp [Ideal.ofBits, Ideal.ieee]

theorem lift_row (p : Fin 384) (k : Fin 128) (h : S384x128.Reduces [1] S384) : h.lift (ix1 p) k = ix2 p k :=
  funext fun a => Fin.ext (match a with | ⟨0, _⟩ => rfl | ⟨1, _⟩ => rfl)

theorem rowMax (m : FVec Ideal S384x128 .f32) (p : Fin 384) (h : S384x128.Reduces [1] S384) (h1) (h2) :
    multiReduction .maximumf [1] S384 m 0xFF800000#32 h h1 h2 (ix1 p) = (Finset.univ : Finset (Fin 128)).sup fun l => m (ix2 p l) := by
  refine (Ideal.multiReduction_maximumf_single m _ h h1 h2 (ix1 p)).trans ?_
  rw [ofBits_neginf]
  refine Eq.trans ?_ (Finset.sup_congr rfl fun l _ => congrArg m (lift_row p l h))
  rfl

theorem rowSum (m : FVec Ideal S384x128 .f32) (p : Fin 384) (h : S384x128.Reduces [1] S384) (h1) (h2) :
    multiReduction .add [1] S384 m 0x00000000#32 h h1 h2 (ix1 p) = ∑ l : Fin 128, m (ix2 p l) := by
  refine (Ideal.multiReduction_add_single m _ h h1 h2 (ix1 p)).trans ?_
  exact Finset.sum_congr rfl fun l _ => congrArg m (lift_row p l h)

theorem column {α : Type} (x : S384.Idx → α) (h : S384.ShapeCasts S384x1) (p : Fin 384) (z : Fin 1) : shapeCast S384x1 x h (ix2 p z) = x (ix1 p) :=
  shapeCast_apply x h (ix2 p z) (ix1 p) (by
    rw [Shape.rowMajor_val_one, Shape.rowMajor_val_two]
    show p.val = p.val * 1 + z.val
    omega)

theorem spread {α : Type} (x : S384x1.Idx → α) (h : S384x1.Broadcasts S384x128) (p : Fin 384) (l : Fin 128) :
    broadcastTo S384x128 x h (ix2 p l) = x (ix2 p 0) :=
  broadcastTo_apply x h (ix2 p l) (ix2 p 0) fun a => match a with | ⟨0, _⟩ => rfl | ⟨1, _⟩ => rfl

/-- What the last point of a row tile writes for the teacher: the row's log-sum-exp in every lane. -/
theorem out_tea (m s : Vec Ideal S384x128 .f32) (p : Fin 384) (l : Fin 128) (Z : ℕ → EReal) (K : ℕ)
    (h : ∀ l : Fin 128, Run (fun k => Z (128 * k + l.val)) K (m (ix2 p l)) (s (ix2 p l))) :
    k0_pay9 m s (ix2 p l) = lse Z (128 * K) unit2 := by
  have hT := rowMax m p reduces_S384x128_S384 (.inl rfl) rfl
  refine Eq.trans ?_ (lanes (c := unit2) h hT)
  unfold k0_pay9
  rw [spread, shapeCast_self, log2e_eq]
  show shapeCast S384x1 _ _ (ix2 p 0) + Ideal.log (shapeCast S384x1 _ _ (ix2 p 0)) * unit2 = _
  rw [column, column]
  refine congrArg (fun t => _ + Ideal.log t * unit2) ((rowSum _ p reduces_S384x128_S384 (.inl rfl) rfl).trans (Finset.sum_congr rfl fun k _ => ?_))
  show s (ix2 p k) * Ideal.exp2 (m (ix2 p k) - broadcastTo S384x128 _ _ (ix2 p k)) = _
  rw [spread, column]

/-- The same for the student. -/
theorem out_stu (m s : Vec Ideal S384x128 .f32) (p : Fin 384) (l : Fin 128) (Z : ℕ → EReal) (K : ℕ)
    (h : ∀ l : Fin 128, Run (fun k => Z (128 * k + l.val)) K (m (ix2 p l)) (s (ix2 p l))) :
    k0_pay10 m s (ix2 p l) = lse Z (128 * K) unit2 := by
  have e : k0_pay10 m s = k0_pay9 m s := rfl
  rw [e]
  exact out_tea m s p l Z K h

end Cert.KernelIdeal.Hand
end
-- ==== Proof.KI.Dequant.lean ====
module

public import proofs.«01_k».proof.Proof.KI.Stats
public import Idealize.ShloMosaic.Lib.BitcastPair

/-! The dequantisation of one group of packed codes, read over the extended reals. -/

@[expose] public section

set_option maxRecDepth 16384
noncomputable section

namespace Cert.KernelIdeal.Hand

open Cert.KernelIdeal Cert.KernelIdeal.Gen Cert.Lse
open Idealize.ShloMosaic Idealize.ShloMosaic.ValueIdx

/-- The low or the high half of a packed byte. -/
def nib (w : BitVec 8) (par : ℕ) : ℕ := if par = 0 then w.toNat % 16 else w.toNat / 16

/-- The two bfloat16 patterns the kernel makes of a byte. -/
theorem pair_bits (w : BitVec 8) (par : ℕ) (hp : par < 2) :
    ((((w.setWidth 32 &&& 15#32) ||| ((w.setWidth 32 &&& 240#32) <<< 12)) ||| 1124090624#32).extractLsb' (16 * par) 16)
      = BitVec.ofNat 16 (0x4300 + nib w par) := by
  have h0 : ∀ w : BitVec 8, ((((w.setWidth 32 &&& 15#32) ||| ((w.setWidth 32 &&& 240#32) <<< 12)) ||| 1124090624#32).extractLsb' 0 16)
      = BitVec.ofNat 16 (0x4300 + w.toNat % 16) := by decide
  have h1 : ∀ w : BitVec 8, ((((w.setWidth 32 &&& 15#32) ||| ((w.setWidth 32 &&& 240#32) <<< 12)) ||| 1124090624#32).extractLsb' 16 16)
      = BitVec.ofNat 16 (0x4300 + w.toNat / 16) := by decide
  interval_cases par
  · exact h0 w
  · exact h1 w

theorem nib_lt (w : BitVec 8) (par : ℕ) : nib w par < 16 := by
  have := w.isLt
  unfold nib; split <;> omega

/-- The pattern's value is 128 plus the code. -/
theorem code_value (n : ℕ) (hn : n < 16) : Ideal.ofBits .bf16 (BitVec.ofNat 16 (0x4300 + n)) - Ideal.ofBits .bf16 0x4300#16 = ((n : ℝ) : EReal) := by
  have h : ∀ n < 16, Ideal.ofBits .bf16 (BitVec.ofNat 16 (0x4300 + n)) = (((128 : ℝ) + (n : ℝ) : ℝ) : EReal) := by
    intro n hn
    interval_cases n <;> (simp [Ideal.ofBits, Ideal.ieee, -EReal.coe_mul, -EReal.coe_add]; try norm_num)
  have h' : Ideal.ofBits .bf16 0x4300#16 = ((128 : ℝ) : EReal) := by
    have := h 0 (by omega); simpa using this
  rw [h n hn, h', ← EReal.coe_sub]
  congr 1
  ring

theorem unit_row {α : Type} (x : S1x1024.Idx → α) (h : S1x1024.Broadcasts S128x1024) (r : Fin 128) (q : Fin 1024) :
    broadcastTo S128x1024 x h (ix2 r q) = x (ix2 0 q) := broadcastTo_1b_ab_apply x h r q

/-- One dequantised weight: the code less the zero point, times the scale. -/
theorem pay1_apply (x : Vec Ideal S64x1024 .i8) (z s : Vec Ideal S1x1024 .f32) (g : Fin 1) (r : Fin 128) (q : Fin 1024) (b : Fin 64) (hb : b.val = r.val / 2) :
    k0_pay1 (F := Ideal) x z s (ix3 g r q) = (((nib (x (ix2 b q)) (r.val % 2) : ℝ) : EReal) - z (ix2 0 q)) * s (ix2 0 q) := by
  have hg : g = ⟨0, Nat.one_pos⟩ := Fin.ext (by omega)
  subst hg
  unfold k0_pay1
  refine (shapeCast_apply _ shapeCasts_S128x1024_S1x128x1024 (ix3 ⟨0, Nat.one_pos⟩ r q) (ix2 r q) (by
    rw [Shape.rowMajor_val_three, Shape.rowMajor_val_two]
    show r.val * 1024 + q.val = (0 * 128 + r.val) * 1024 + q.val
    omega)).trans ?_
  show (Ideal.ofBits .bf16 (bitcast S128x1024 16 _ bitcasts_S64x1024_w32_S128x1024_w16 (ix2 r q)) - Ideal.ofBits .bf16 0x4300#16
    - broadcastTo S128x1024 _ _ (ix2 r q)) * broadcastTo S128x1024 _ _ (ix2 r q) = _
  rw [unit_row, unit_row, bitcast_32_16]
  refine congrArg (fun t => (t - z (ix2 0 q)) * s (ix2 0 q)) ?_
  refine Eq.trans ?_ (code_value _ (nib_lt _ _))
  refine congrArg (fun t => Ideal.ofBits .bf16 t - _) ?_
  have hrow : S128x1024.row (ix2 r q) = r.val := rfl
  have hi : ∀ h, bitcasts_S64x1024_w32_S128x1024_w16.srcIdx (ix2 r q) (S128x1024.row (ix2 r q) / 2) h = ix2 b q := fun h => by
    refine Shape.idx_ext₂ ?_ ?_
    · rw [Shape.Bitcasts.srcIdx_row _ _ _ _ _ rfl, hrow]; exact hb.symm
    · rw [Shape.Bitcasts.srcIdx_other _ _ _ _ _ (by decide)]; rfl
  rw [hi, hrow]
  exact pair_bits (x (ix2 b q)) (r.val % 2) (Nat.mod_lt _ (by omega))

end Cert.KernelIdeal.Hand
end
-- ==== Proof.KI.Tile.lean ====
module

public import proofs.«01_k».proof.Proof.KI.Point
public import proofs.«01_k».proof.Proof.KI.Dequant
public import proofs.«01_k».proof.Proof.KI.Stats

/-! The two scratch invariants and how one grid point moves them on: the double-buffered teacher weight tiles, and the running
maxima and sums. -/

@[expose] public section

set_option maxRecDepth 16384
noncomputable section

namespace Cert.KernelIdeal.Hand

open Cert.KernelIdeal Cert.KernelIdeal.Gen Cert.Lse
open Idealize.ShloMosaic Idealize.ShloMosaic.ValueIdx

/-! ### A store of a block, at one position -/

theorem overlay_in {S : Shape} {e : EltTy} {off size : Fin S.rank → Nat} {inb : ∀ a, off a + size a ≤ S.size a} (X : S.Idx → Elt Ideal e)
    (G : (Rect.unit off size inb).shape.Idx → Elt Ideal e) (y : S.Idx) (x : (Rect.unit off size inb).shape.Idx)
    (h : ∀ a, (y a).val = off a + (x a).val) : (Rect.unit off size inb).overlay X G y = G x := by
  have e : y = (Rect.unit off size inb).emb x := funext fun a => Fin.ext (by
    rw [Rect.emb_apply, h a]
    show off a + (x a).val = off a + 1 * (x a).val
    omega)
  rw [e, Rect.overlay_emb]

theorem overlay_out {S : Shape} {e : EltTy} {off size : Fin S.rank → Nat} {inb : ∀ a, off a + size a ≤ S.size a} (X : S.Idx → Elt Ideal e)
    (G : (Rect.unit off size inb).shape.Idx → Elt Ideal e) (y : S.Idx) (a : Fin S.rank)
    (h : (y a).val < off a ∨ off a + size a ≤ (y a).val) : (Rect.unit off size inb).overlay X G y = X y := by
  refine Rect.overlay_of_not_mem _ _ _ fun hm => ?_
  have := Rect.mem_set_unit.mp hm a
  omega

theorem ld_at {S : Shape} {e : EltTy} {off size : Fin S.rank → Nat} {inb : ∀ a, off a + size a ≤ S.size a} (X : S.Idx → Elt Ideal e)
    (y : S.Idx) (x : (Rect.unit off size inb).shape.Idx)
    (h : ∀ a, (y a).val = off a + (x a).val) : View.ld X (Rect.unit off size inb) x = X y :=
  congrArg X (funext fun a => Fin.ext ((congrArg (off a + ·) (Nat.one_mul (x a).val)).trans (h a).symm))

theorem off1_eq (i : grid0.Static) : k0_off1 i = ![(i 1).val, 0] := by
  have h : ∀ k : Fin 20, (Scalar.indexCast (Scalar.minsi (BitVec.ofNat 32 k.val) 19#32)).toNat = k.val := by decide
  exact congrArg (fun x => ![x, 0]) (h (i 1))

theorem off4_eq (i : grid0.Static) : k0_off4 i = ![384 * (i 1).val, 0] := by
  have h : ∀ k : Fin 20, (Scalar.indexCast (Scalar.muli (BitVec.ofNat 32 k.val) 384#32)).toNat = 384 * k.val := by decide
  exact congrArg (fun x => ![x, 0]) (h (i 1))

/-! ### The weight tiles -/

/-- Before block `i` of step `s` of `n`: one slot holds the whole tile before this step's, the other this step's first `i` groups. -/
def Tiles (W : Fin 2560 → Fin 151936 → EReal) (n s i : ℕ) (x : Vec Ideal S2x2560x1024 .bf16) : Prop :=
  (∀ (sl : Fin 2) (k : Fin 2560) (q : Fin 1024) (v : Fin 151936), 1 ≤ s → s < n → sl.val = (s + 1) % 2 → v.val = 1024 * (s - 1) + q.val →
      x (ix3 sl k q) = W k v)
    ∧ ∀ (sl : Fin 2) (k : Fin 2560) (q : Fin 1024) (v : Fin 151936), k.val < 128 * i → s + 1 < n → sl.val = s % 2 → v.val = 1024 * s + q.val →
      x (ix3 sl k q) = W k v

theorem Tiles.zero (W : Fin 2560 → Fin 151936 → EReal) (n : ℕ) (x : Vec Ideal S2x2560x1024 .bf16) : Tiles W n 0 0 x :=
  ⟨fun _ _ _ _ h => by omega, fun _ _ _ _ h => by omega⟩

theorem Tiles.next {W : Fin 2560 → Fin 151936 → EReal} {n s : ℕ} {x : Vec Ideal S2x2560x1024 .bf16} (h : Tiles W n s 20 x) : Tiles W n (s + 1) 0 x :=
  ⟨fun sl k q v _ h2 h3 h4 => h.2 sl k q v (by have := k.isLt; omega) h2 (by omega) (by rw [h4]; omega), fun _ _ _ _ h => by omega⟩

/-- One more group dequantised. -/
theorem Tiles.step {W : Fin 2560 → Fin 151936 → EReal} {n s : ℕ} (hp : Pt s n) (i : grid0.Static) (x6 : Vec Ideal S64x1024 .i8)
    (x7 x8 : Vec Ideal S20x1024 .f32) (x : Vec Ideal S2x2560x1024 .bf16) (g : Fin 20) (hgi : g.val = (i 1).val) (h : Tiles W n s (i 1).val x)
    (hW : s + 1 < n → ∀ (k : Fin 2560) (r : Fin 128) (b : Fin 64) (q : Fin 1024) (v : Fin 151936), v.val = 1024 * s + q.val → b.val = r.val / 2 →
      k.val = 128 * (i 1).val + r.val →
      (((nib (x6 (ix2 b q)) (r.val % 2) : ℝ) : EReal) - x8 (ix2 g q)) * x7 (ix2 g q) = W k v) :
    Tiles W n s ((i 1).val + 1) (next17 hp i x6 x7 x8 x) := by
  unfold next17
  split
  · rename_i hs
    unfold tile17
    have o := off2_eq hp.1 hp.2.1 hp.2.2 i
    refine ⟨fun sl k q v h1 h2 h3 h4 => ?_, fun sl k q v h1 h2 h3 h4 => ?_⟩
    · refine (overlay_out _ _ _ 0 ?_).trans (h.1 sl k q v h1 h2 h3 h4)
      have o0 := congrFun o 0
      show sl.val < k0_off2 i (BitVec.ofNat 32 s) 0 ∨ k0_off2 i (BitVec.ofNat 32 s) 0 + 1 ≤ sl.val
      rw [o0]
      show sl.val < s % 2 ∨ s % 2 + 1 ≤ sl.val
      omega
    · by_cases hk : k.val < 128 * (i 1).val
      · refine (overlay_out _ _ _ 1 ?_).trans (h.2 sl k q v hk h2 h3 h4)
        have o1 := congrFun o 1
        show k.val < k0_off2 i (BitVec.ofNat 32 s) 1 ∨ k0_off2 i (BitVec.ofNat 32 s) 1 + 128 ≤ k.val
        rw [o1]
        exact .inl hk
      · have hr : k.val - 128 * (i 1).val < 128 := by omega
        refine (overlay_in _ _ (ix3 sl k q) (ix3 ⟨0, Nat.one_pos⟩ ⟨k.val - 128 * (i 1).val, hr⟩ q) ?_).trans ?_
        · refine (show ∀ a : Fin 3, ((ix3 sl k q : S2x2560x1024.Idx) a).val = k0_off2 i (BitVec.ofNat 32 s) a
            + ((ix3 ⟨0, Nat.one_pos⟩ ⟨k.val - 128 * (i 1).val, hr⟩ q : S1x128x1024.Idx) a).val from ?_)
          rw [o]
          intro a
          match a with
          | 0 => show sl.val = s % 2 + 0; omega
          | 1 => show k.val = 128 * (i 1).val + (k.val - 128 * (i 1).val); omega
          | 2 => show q.val = 0 + q.val; omega
        · refine (pay1_apply _ _ _ _ _ q ⟨(k.val - 128 * (i 1).val) / 2, by omega⟩ rfl).trans ?_
          refine Eq.trans ?_ (hW hs k ⟨k.val - 128 * (i 1).val, hr⟩ ⟨(k.val - 128 * (i 1).val) / 2, by omega⟩ q v h4 rfl (by simp only; omega))
          have e8 : ∀ y : Vec Ideal S20x1024 .f32, View.ld y (Rect.unit (s := S20x1024) (k0_off1 i) S1x1024.size (k0_off1_inb i)) (ix2 0 q) = y (ix2 g q) := by
            intro y
            refine ld_at y (ix2 g q) (ix2 0 q) ?_
            refine (show ∀ a : Fin 2, ((ix2 g q : S20x1024.Idx) a).val = k0_off1 i a + ((ix2 0 q : S1x1024.Idx) a).val from ?_)
            rw [off1_eq]
            refine Fin.forall_fin_two.mpr ⟨?_, ?_⟩
            · show g.val = (i 1).val + 0; omega
            · show q.val = 0 + q.val; omega
          have e6 := congrFun (View.ld_unit_zero (off := ![0, 0]) (funext fun a => by fin_cases a <;> rfl) inb_S64x1024_S64x1024_0_0 x6)
            (ix2 ⟨(k.val - 128 * (i 1).val) / 2, by omega⟩ q)
          exact congrArg₂ (· * ·) (congrArg₂ (· - ·) (congrArg (fun w => ((nib w ((k.val - 128 * (i 1).val) % 2) : ℝ) : EReal)) e6) (e8 x8)) (e8 x7)
  · exact ⟨h.1, fun _ _ _ _ _ h2 => by omega⟩

end Cert.KernelIdeal.Hand
end
-- ==== Proof.KI.Running.lean ====
module

public import proofs.«01_k».proof.Proof.KI.Tile

/-! The running maxima and sums of one operand, point by point. -/

@[expose] public section

set_option maxRecDepth 16384
noncomputable section

namespace Cert.KernelIdeal.Hand

open Cert.KernelIdeal Cert.KernelIdeal.Gen Cert.Lse
open Idealize.ShloMosaic Idealize.ShloMosaic.ValueIdx

/-- How many chunks of 128 columns row `R` has behind it before block `i` of step `s`. -/
def seen (s i R : ℕ) : ℕ := 8 * ((s - 1) + if 1 ≤ s ∧ R / 384 < i then 1 else 0)

/-- Every row and lane holds the maximum and the sum over the columns seen. -/
def Stat (Z : Fin 7680 → ℕ → EReal) (s i : ℕ) (xm xs : Vec Ideal S7680x128 .f32) : Prop :=
  ∀ (R : Fin 7680) (l : Fin 128), Run (fun k => Z R (128 * k + l.val)) (seen s i R.val) (xm (ix2 R l)) (xs (ix2 R l))

theorem Stat.next {Z : Fin 7680 → ℕ → EReal} {s : ℕ} {xm xs : Vec Ideal S7680x128 .f32} (h : Stat Z s 20 xm xs) : Stat Z (s + 1) 0 xm xs := by
  intro R l
  have e : seen (s + 1) 0 R.val = seen s 20 R.val := by
    have := R.isLt
    unfold seen
    by_cases h1 : 1 ≤ s
    · rw [if_neg (by omega), if_pos (by omega)]; omega
    · rw [if_neg (by omega), if_neg (by omega)]; omega
  rw [e]
  exact h R l

/-- Step zero only clears. -/
theorem Stat.clear {Z : Fin 7680 → ℕ → EReal} {i : ℕ} {xm xs xm' xs' : Vec Ideal S7680x128 .f32} (h : i ≠ 0 → Stat Z 0 i xm xs)
    (hm : xm' = if i = 0 then (fun _ => (⊥ : EReal)) else xm) (hs : xs' = if i = 0 then (fun _ => (0 : EReal)) else xs) : Stat Z 0 (i + 1) xm' xs' := by
  intro R l
  have e : ∀ j, seen 0 j R.val = 0 := fun j => by unfold seen; rw [if_neg (by omega)]
  rw [e]
  by_cases h0 : i = 0
  · rw [if_pos h0] at hm hs; subst hm hs; exact Run.zero _
  · rw [if_neg h0] at hm hs; subst hm hs
    have := h h0 R l
    rw [e] at this
    exact this

/-- The rows of a block, loaded. -/
theorem rows_at (i : grid0.Static) (x : Vec Ideal S7680x128 .f32) (R : Fin 7680) (p : Fin 384) (l : Fin 128) (h : R.val = 384 * (i 1).val + p.val) :
    View.ld x (rows i) (ix2 p l) = x (ix2 R l) := by
  refine ld_at x (ix2 R l) (ix2 p l) ?_
  refine (show ∀ a : Fin 2, ((ix2 R l : S7680x128.Idx) a).val = k0_off4 i a + ((ix2 p l : S384x128.Idx) a).val from ?_)
  rw [off4_eq]
  refine Fin.forall_fin_two.mpr ⟨?_, ?_⟩
  · show R.val = 384 * (i 1).val + p.val; omega
  · show l.val = 0 + l.val; omega

theorem rows_in (i : grid0.Static) (x : Vec Ideal S7680x128 .f32) (G : Vec Ideal S384x128 .f32) (R : Fin 7680) (p : Fin 384) (l : Fin 128)
    (h : R.val = 384 * (i 1).val + p.val) : (rows i).overlay x G (ix2 R l) = G (ix2 p l) := by
  refine overlay_in x G (ix2 R l) (ix2 p l) ?_
  refine (show ∀ a : Fin 2, ((ix2 R l : S7680x128.Idx) a).val = k0_off4 i a + ((ix2 p l : S384x128.Idx) a).val from ?_)
  rw [off4_eq]
  refine Fin.forall_fin_two.mpr ⟨?_, ?_⟩
  · show R.val = 384 * (i 1).val + p.val; omega
  · show l.val = 0 + l.val; omega

theorem rows_out (i : grid0.Static) (x : Vec Ideal S7680x128 .f32) (G : Vec Ideal S384x128 .f32) (R : Fin 7680) (l : Fin 128)
    (h : R.val / 384 ≠ (i 1).val) : (rows i).overlay x G (ix2 R l) = x (ix2 R l) := by
  refine overlay_out x G (ix2 R l) 0 ?_
  show R.val < k0_off4 i 0 ∨ k0_off4 i 0 + 384 ≤ R.val
  rw [off4_eq]
  show R.val < 384 * (i 1).val ∨ 384 * (i 1).val + 384 ≤ R.val
  omega

/-- One block of rows takes in one tile's columns: `upM`, `upS` are the updates of a block's maxima and sums. -/
theorem Stat.step {Z : Fin 7680 → ℕ → EReal} {s : ℕ} (hs : 1 ≤ s) (i : grid0.Static) (xm xs : Vec Ideal S7680x128 .f32) (L : FVec Ideal S384x1024 .f32)
    (upM : Vec Ideal S384x128 .f32 → Vec Ideal S384x128 .f32) (upS : Vec Ideal S384x128 .f32 → Vec Ideal S384x128 .f32 → Vec Ideal S384x128 .f32)
    (hup : ∀ (m x : Vec Ideal S384x128 .f32) (p : Fin 384) (l : Fin 128) (g : ℕ → EReal) (K : ℕ),
      (∀ c q : ℕ, c < 8 → ∀ hq : q < 1024, q = 128 * c + l.val → g (K + c) = L (ix2 p ⟨q, hq⟩)) → Run g K (m (ix2 p l)) (x (ix2 p l)) →
      Run g (K + 8) (upM m (ix2 p l)) (upS m x (ix2 p l)))
    (hL : ∀ (R : Fin 7680) (p : Fin 384) (q : Fin 1024), R.val = 384 * (i 1).val + p.val → L (ix2 p q) = Z R (1024 * (s - 1) + q.val))
    (h : Stat Z s (i 1).val xm xs) :
    Stat Z s ((i 1).val + 1) ((rows i).overlay xm (upM (View.ld xm (rows i)))) ((rows i).overlay xs (upS (View.ld xm (rows i)) (View.ld xs (rows i)))) := by
  intro R l
  by_cases hR : R.val / 384 = (i 1).val
  · have hp : R.val - 384 * (i 1).val < 384 := by omega
    have hRp : R.val = 384 * (i 1).val + (⟨R.val - 384 * (i 1).val, hp⟩ : Fin 384).val := by simp only; omega
    rw [rows_in i _ _ R ⟨_, hp⟩ l hRp, rows_in i _ _ R ⟨_, hp⟩ l hRp]
    have e0 : seen s (i 1).val R.val = 8 * (s - 1) := by unfold seen; rw [if_neg (by omega)]; omega
    have e1 : seen s ((i 1).val + 1) R.val = 8 * (s - 1) + 8 := by unfold seen; rw [if_pos (by omega)]; omega
    rw [e1]
    refine hup _ _ _ l _ _ (fun c q hc hq hql => ?_) ?_
    · rw [hL R _ ⟨q, hq⟩ hRp]
      show Z R _ = Z R _
      congr 1
      simp only
      omega
    · rw [rows_at i xm R _ l hRp, rows_at i xs R _ l hRp, ← e0]
      exact h R l
  · rw [rows_out i _ _ R l hR, rows_out i _ _ R l hR]
    have e : seen s ((i 1).val + 1) R.val = seen s (i 1).val R.val := by
      unfold seen
      congr 2
      exact if_congr (by omega) rfl rfl
    rw [e]
    exact h R l

/-- After the last step a block of rows reduces to its log-sum-exp. -/
theorem Stat.out {Z : Fin 7680 → ℕ → EReal} {s : ℕ} (hs : 1 ≤ s) (i : grid0.Static) (xm xs : Vec Ideal S7680x128 .f32)
    (h : Stat Z s ((i 1).val + 1) xm xs) (R : Fin 7680) (p : Fin 384) (l : Fin 128) (hR : R.val = 384 * (i 1).val + p.val) :
    k0_pay9 (View.ld xm (rows i)) (View.ld xs (rows i)) (ix2 p l) = lse (Z R) (1024 * s) unit2 := by
  have e : 1024 * s = 128 * seen s ((i 1).val + 1) R.val := by unfold seen; rw [if_pos (by have := p.isLt; omega)]; omega
  rw [e]
  refine out_tea _ _ p l (Z R) _ fun l' => ?_
  rw [rows_at i xm R p l' hR, rows_at i xs R p l' hR]
  exact h R l'

end Cert.KernelIdeal.Hand
end
-- ==== Proof.KI.Cells.lean ====
module

public import proofs.«01_k».proof.Proof.KI.Frame
public import Idealize.ShloMosaic.Lib.Pipeline.Value
public import Idealize.ShloMosaic.Lib.Pipeline.ArrRel
public import Idealize.ShloMosaic.Lib.Pipeline.FrameBody

/-! What a fetched block holds at one position, for any window: the array's element there, wherever the block lies inside the array. -/

@[expose] public section

set_option maxRecDepth 16384
noncomputable section

namespace Cert.KernelIdeal.Hand

open Idealize.ShloMosaic Idealize.ShloMosaic.TcCoe Idealize.ShloMosaic.Pipeline
open Idealize.SL Idealize.SL.RA

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD}

/-- An input block at position `y`, which stands at `z` in the array. -/
theorem found_cell [∀ e, Nonempty (Val e)] (rd : RDat τ Val Ix Name U Lvl cfg c)
    (w : Fin cfg.W) (hw : (cfg.win w).isOut = false)
    (hclip : ∀ t t' : Fin cfg.N, (cfg.win w).index t = (cfg.win w).index t' →
      (cfg.win w).clip (cfg.grid.coords t) = (cfg.win w).clip (cfg.grid.coords t'))
    (hkeep : ∀ t Y X, rd.after w t Y X → X = Y) (t : Fin cfg.N) (Y) (hY : rd.Finds w t Y)
    (y : (cfg.win w).block.Idx) (z : (cfg.win w).shape.Idx)
    (hz : ∀ a, (z a).val = (cfg.win w).kind.off ((cfg.win w).index t a) ((cfg.win w).size a) + (y a).val) :
    Y y = (cfg.win w).arr.view.read Val (rd.A w) z := by
  obtain ⟨d, rfl⟩ := rd.finds_in_eq_fetched w hw hclip hkeep t Y hY
  have hm : ∀ a, (y a).val < (cfg.win w).xsize (cfg.grid.coords t) a := by
    intro a
    have h1 := (cfg.win w).hclip (cfg.grid.coords t) a
    have h2 := hz a
    have h3 := (z a).isLt
    have h4 := (y a).isLt
    show (y a).val < ((cfg.win w).clip (cfg.grid.coords t) a).extent ((cfg.win w).size a)
    revert h1
    generalize (cfg.win w).clip (cfg.grid.coords t) a = k
    intro h1
    cases k with
    | none => exact h4
    | some n =>
      have h5 : (cfg.win w).kind.off ((cfg.win w).indexMap (cfg.grid.coords t) a) ((cfg.win w).size a) + n = (cfg.win w).shape.size a := h1.2.2
      have h6 : (cfg.win w).kind.off ((cfg.win w).index t a) ((cfg.win w).size a) + n = (cfg.win w).shape.size a := h5
      show (y a).val < n
      omega
  have h := (cfg.win w).fill_xinj (cfg.grid.coords t) d (rd.blockOf w t) (fun a => ⟨(y a).val, hm a⟩)
  refine h.trans ?_
  show (cfg.win w).arr.view.read Val (rd.A w) (((cfg.win w).rect t).emb _) = _
  congr 1
  funext a
  apply Fin.ext
  rw [Window.rect_emb_val_off, hz a]

end Cert.KernelIdeal.Hand
end
-- ==== Proof.KI.Blocks.lean ====
module

public import proofs.«01_k».proof.Proof.KI.Cells
public import Idealize.ShloMosaic.Lib.ValueIdx

/-! What each input's block holds at a grid point, in the array's own coordinates. -/

@[expose] public section

set_option maxRecDepth 16384
noncomputable section

namespace Cert.KernelIdeal.Hand

open Cert.KernelIdeal Cert.KernelIdeal.Gen
open Idealize.ShloMosaic Idealize.ShloMosaic.TcCoe Idealize.ShloMosaic.ValueIdx
open Idealize.SL Idealize.SL.RA

variable {F : FTy → Type} [FloatOps F] [Named F]

variable (m : (ℓ : Loc nD τ sig) → Buf (Elt F) ℓ) (a : (pcfg0 (F := F)).Adm) (T : Track F)

/-! ### A point's step and block from its place in the grid -/

theorem grid_N : (cfg0 a).N = dynb0 a.1 0 * 20 := by
  show (grid0.at (dynb0 a.1)).N = _
  unfold Pipeline.Grid.N
  exact (congrArg List.prod (List.ofFn_succ (n := 1) (f := (grid0.at (dynb0 a.1)).bound))).trans (by simp [Pipeline.Grid.at, List.ofFn_succ]; rfl)

theorem step_val (t : Fin (cfg0 a).N) : stepOf a t = t.val / 20 := by
  have h : t.val < dynb0 a.1 0 * 20 := lt_of_lt_of_eq t.isLt (grid_N a)
  have e := Pipeline.Grid.coords_val (G := (cfg0 a).grid) t 0 (S := 20) (B := dynb0 a.1 0)
    (by show (List.ofFn fun b : Fin 2 => if (0 : Fin 2) < b then (grid0.at (dynb0 a.1)).bound b else 1).prod = 20
        rw [List.ofFn_succ, List.ofFn_succ]; rfl) rfl
  rw [Nat.mod_eq_of_lt (by omega)] at e
  exact e

theorem blk_val (t : Fin (cfg0 a).N) : (blkOf a t 1).val = t.val % 20 := by
  have e := Pipeline.Grid.coords_val (G := (cfg0 a).grid) t 1 (S := 1) (B := 20)
    (by show (List.ofFn fun b : Fin 2 => if (1 : Fin 2) < b then (grid0.at (dynb0 a.1)).bound b else 1).prod = 1
        rw [List.ofFn_succ, List.ofFn_succ]; rfl) rfl
  rw [Nat.div_one] at e
  exact e

theorem pt_val (t : Fin (cfg0 a).N) : t.val = 20 * stepOf a t + (blkOf a t 1).val := by
  rw [step_val, blk_val]; omega

theorem if_sel (s : Fin 151) (b : BitVec 32) (i : Fin 20) (hb : b = BitVec.ofNat 32 i.val) (h : s.val ≠ 0) :
    (Scalar.select (Scalar.cmpi .eq (BitVec.ofNat 32 s.val) 0#32) 0#32 b).toNat = i.val := by
  subst hb
  revert h
  revert s i; decide

variable (c : Dev nD)

/-- The hidden states' block, past the first step. -/
theorem found0 (hg : Good a.1) (t : Fin (cfg0 a).N) (Y : Vec F S384x2560 .bf16) (hY : (dat m a T c).Finds 0 t Y)
    (hs : 0 < stepOf a t) (p : Fin 384) (q : Fin 2560) (P : Fin 7680) (hP : P.val = 384 * (blkOf a t 1).val + p.val) :
    Y (ix2 p q) = (V m c main_arg0 : Vec F S7680x2560 .bf16) (ix2 P q) := by
  have hpt := pt_of a hg t
  have hi : (blkOf a t 1).val < 20 := (blkOf a t 1).isLt
  refine found_cell (dat m a T c) 0 rfl (fun _ _ _ => rfl) (fun _ _ _ h => h) t Y hY (ix2 p q) (ix2 P q) ?_
  have e : cc0_transform_0 (dynb0 a.1) ((cfg0 a).grid.coords t) 0 = (blkOf a t 1).val :=
    if_sel ⟨stepOf a t, by have := hpt.1; have := hpt.2.2; omega⟩ _ ⟨_, hi⟩ rfl (by simp only; omega)
  refine (show ∀ k : Fin 2, ((ix2 P q : S7680x2560.Idx) k).val = cc0_transform_0 (dynb0 a.1) ((cfg0 a).grid.coords t) k * S384x2560.size k
    + ((ix2 p q : S384x2560.Idx) k).val from Fin.forall_fin_two.mpr ⟨?_, ?_⟩)
  · show P.val = cc0_transform_0 (dynb0 a.1) ((cfg0 a).grid.coords t) 0 * 384 + p.val
    rw [e]; omega
  · show q.val = 0 * 2560 + q.val; omega

/-- The student's codes' block, past the first step. -/
theorem found1 (hg : Good a.1) (t : Fin (cfg0 a).N) (Y : Vec F S384x1024 .fp8e4m3) (hY : (dat m a T c).Finds 1 t Y)
    (hs : 0 < stepOf a t) (p : Fin 384) (q : Fin 1024) (P : Fin 7680) (hP : P.val = 384 * (blkOf a t 1).val + p.val) :
    Y (ix2 p q) = (V m c main_arg1 : Vec F S7680x1024 .fp8e4m3) (ix2 P q) := by
  have hpt := pt_of a hg t
  have hi : (blkOf a t 1).val < 20 := (blkOf a t 1).isLt
  refine found_cell (dat m a T c) 1 rfl (fun _ _ _ => rfl) (fun _ _ _ h => h) t Y hY (ix2 p q) (ix2 P q) ?_
  have e : cc0_transform_1 (dynb0 a.1) ((cfg0 a).grid.coords t) 0 = (blkOf a t 1).val :=
    if_sel ⟨stepOf a t, by have := hpt.1; have := hpt.2.2; omega⟩ _ ⟨_, hi⟩ rfl (by simp only; omega)
  refine (show ∀ k : Fin 2, ((ix2 P q : S7680x1024.Idx) k).val = cc0_transform_1 (dynb0 a.1) ((cfg0 a).grid.coords t) k * S384x1024.size k
    + ((ix2 p q : S384x1024.Idx) k).val from Fin.forall_fin_two.mpr ⟨?_, ?_⟩)
  · show P.val = cc0_transform_1 (dynb0 a.1) ((cfg0 a).grid.coords t) 0 * 384 + p.val
    rw [e]; omega
  · show q.val = 0 * 1024 + q.val; omega

/-- The student's code scales' block, past the first step. -/
theorem found2 (hg : Good a.1) (t : Fin (cfg0 a).N) (Y : Vec F S384x128 .f32) (hY : (dat m a T c).Finds 2 t Y)
    (hs : 0 < stepOf a t) (p : Fin 384) (q : Fin 128) (P : Fin 7680) (hP : P.val = 384 * (blkOf a t 1).val + p.val) :
    Y (ix2 p q) = (V m c main_arg2 : Vec F S7680x128 .f32) (ix2 P q) := by
  have hpt := pt_of a hg t
  have hi : (blkOf a t 1).val < 20 := (blkOf a t 1).isLt
  refine found_cell (dat m a T c) 2 rfl (fun _ _ _ => rfl) (fun _ _ _ h => h) t Y hY (ix2 p q) (ix2 P q) ?_
  have e : cc0_transform_2 (dynb0 a.1) ((cfg0 a).grid.coords t) 0 = (blkOf a t 1).val :=
    if_sel ⟨stepOf a t, by have := hpt.1; have := hpt.2.2; omega⟩ _ ⟨_, hi⟩ rfl (by simp only; omega)
  refine (show ∀ k : Fin 2, ((ix2 P q : S7680x128.Idx) k).val = cc0_transform_2 (dynb0 a.1) ((cfg0 a).grid.coords t) k * S384x128.size k
    + ((ix2 p q : S384x128.Idx) k).val from Fin.forall_fin_two.mpr ⟨?_, ?_⟩)
  · show P.val = cc0_transform_2 (dynb0 a.1) ((cfg0 a).grid.coords t) 0 * 384 + p.val
    rw [e]; omega
  · show q.val = 0 * 128 + q.val; omega

/-- The packed weights' block: group `i` of this step's tile. -/
theorem found3 (hg : Good a.1) (t : Fin (cfg0 a).N) (Y : Vec F S64x1024 .i8) (hY : (dat m a T c).Finds 3 t Y)
    (hs : stepOf a t ≤ 148) (p : Fin 64) (q : Fin 1024) (P : Fin 1280) (Q : Fin 151936) (hP : P.val = 64 * (blkOf a t 1).val + p.val)
    (hQ : Q.val = 1024 * stepOf a t + q.val) :
    Y (ix2 p q) = (V m c main_arg3 : Vec F S1280x151936 .i8) (ix2 P Q) := by
  have hpt := pt_of a hg t
  have hs1 := hpt.1
  have hs2 := hpt.2.2
  have hi : (blkOf a t 1).val < 20 := (blkOf a t 1).isLt
  refine found_cell (dat m a T c) 3 rfl
    (fun t t' h => funext fun k => congrArg (fun x => Pipeline.Clip.of x (S64x1024.size k) (S1280x151936.size k)) (congrFun h k))
    (fun _ _ _ h => h) t Y hY (ix2 p q) (ix2 P Q) ?_
  have e0 : cc0_transform_3 (dynb0 a.1) ((cfg0 a).grid.coords t) 0 = (blkOf a t 1).val := min19 ⟨_, hi⟩
  have e1 : cc0_transform_3 (dynb0 a.1) ((cfg0 a).grid.coords t) 1 = stepOf a t :=
    (min148 ⟨stepOf a t, by omega⟩).trans (by simp only; omega)
  refine (show ∀ k : Fin 2, ((ix2 P Q : S1280x151936.Idx) k).val = cc0_transform_3 (dynb0 a.1) ((cfg0 a).grid.coords t) k * S64x1024.size k
    + ((ix2 p q : S64x1024.Idx) k).val from Fin.forall_fin_two.mpr ⟨?_, ?_⟩)
  · show P.val = cc0_transform_3 (dynb0 a.1) ((cfg0 a).grid.coords t) 0 * 64 + p.val
    rw [e0]; omega
  · show Q.val = cc0_transform_3 (dynb0 a.1) ((cfg0 a).grid.coords t) 1 * 1024 + q.val
    rw [e1]; omega

/-- The teacher's scales of this step's tile. -/
theorem found4 (hg : Good a.1) (t : Fin (cfg0 a).N) (Y : Vec F S20x1024 .f32) (hY : (dat m a T c).Finds 4 t Y)
    (hs : stepOf a t ≤ 148) (p : Fin 20) (q : Fin 1024) (P : Fin 20) (Q : Fin 151936) (hP : P.val = p.val)
    (hQ : Q.val = 1024 * stepOf a t + q.val) :
    Y (ix2 p q) = (V m c main_arg4 : Vec F S20x151936 .f32) (ix2 P Q) := by
  have hpt := pt_of a hg t
  have hs1 := hpt.1
  have hs2 := hpt.2.2
  have hi : (blkOf a t 1).val < 20 := (blkOf a t 1).isLt
  refine found_cell (dat m a T c) 4 rfl
    (fun t t' h => funext fun k => congrArg (fun x => Pipeline.Clip.of x (S20x1024.size k) (S20x151936.size k)) (congrFun h k))
    (fun _ _ _ h => h) t Y hY (ix2 p q) (ix2 P Q) ?_
  have e0 : cc0_transform_4 (dynb0 a.1) ((cfg0 a).grid.coords t) 0 = 0 := rfl
  have e1 : cc0_transform_4 (dynb0 a.1) ((cfg0 a).grid.coords t) 1 = stepOf a t :=
    (min148 ⟨stepOf a t, by omega⟩).trans (by simp only; omega)
  refine (show ∀ k : Fin 2, ((ix2 P Q : S20x151936.Idx) k).val = cc0_transform_4 (dynb0 a.1) ((cfg0 a).grid.coords t) k * S20x1024.size k
    + ((ix2 p q : S20x1024.Idx) k).val from Fin.forall_fin_two.mpr ⟨?_, ?_⟩)
  · show P.val = cc0_transform_4 (dynb0 a.1) ((cfg0 a).grid.coords t) 0 * 20 + p.val
    rw [e0]; omega
  · show Q.val = cc0_transform_4 (dynb0 a.1) ((cfg0 a).grid.coords t) 1 * 1024 + q.val
    rw [e1]; omega

/-- The teacher's zero points of this step's tile. -/
theorem found5 (hg : Good a.1) (t : Fin (cfg0 a).N) (Y : Vec F S20x1024 .f32) (hY : (dat m a T c).Finds 5 t Y)
    (hs : stepOf a t ≤ 148) (p : Fin 20) (q : Fin 1024) (P : Fin 20) (Q : Fin 151936) (hP : P.val = p.val)
    (hQ : Q.val = 1024 * stepOf a t + q.val) :
    Y (ix2 p q) = (V m c main_arg5 : Vec F S20x151936 .f32) (ix2 P Q) := by
  have hpt := pt_of a hg t
  have hs1 := hpt.1
  have hs2 := hpt.2.2
  have hi : (blkOf a t 1).val < 20 := (blkOf a t 1).isLt
  refine found_cell (dat m a T c) 5 rfl
    (fun t t' h => funext fun k => congrArg (fun x => Pipeline.Clip.of x (S20x1024.size k) (S20x151936.size k)) (congrFun h k))
    (fun _ _ _ h => h) t Y hY (ix2 p q) (ix2 P Q) ?_
  have e0 : cc0_transform_5 (dynb0 a.1) ((cfg0 a).grid.coords t) 0 = 0 := rfl
  have e1 : cc0_transform_5 (dynb0 a.1) ((cfg0 a).grid.coords t) 1 = stepOf a t :=
    (min148 ⟨stepOf a t, by omega⟩).trans (by simp only; omega)
  refine (show ∀ k : Fin 2, ((ix2 P Q : S20x151936.Idx) k).val = cc0_transform_5 (dynb0 a.1) ((cfg0 a).grid.coords t) k * S20x1024.size k
    + ((ix2 p q : S20x1024.Idx) k).val from Fin.forall_fin_two.mpr ⟨?_, ?_⟩)
  · show P.val = cc0_transform_5 (dynb0 a.1) ((cfg0 a).grid.coords t) 0 * 20 + p.val
    rw [e0]; omega
  · show Q.val = cc0_transform_5 (dynb0 a.1) ((cfg0 a).grid.coords t) 1 * 1024 + q.val
    rw [e1]; omega

/-- The student's weights of the tile before this step's. -/
theorem found6 (hg : Good a.1) (t : Fin (cfg0 a).N) (Y : Vec F S1024x1024 .fp8e4m3) (hY : (dat m a T c).Finds 6 t Y)
    (hs : 0 < stepOf a t) (p : Fin 1024) (q : Fin 1024) (P : Fin 151936) (Q : Fin 1024) (hP : P.val = 1024 * (stepOf a t - 1) + p.val)
    (hQ : Q.val = q.val) :
    Y (ix2 p q) = (V m c main_arg6 : Vec F S151936x1024 .fp8e4m3) (ix2 P Q) := by
  have hpt := pt_of a hg t
  have hs1 := hpt.1
  have hs2 := hpt.2.2
  have hi : (blkOf a t 1).val < 20 := (blkOf a t 1).isLt
  refine found_cell (dat m a T c) 6 rfl
    (fun t t' h => funext fun k => congrArg (fun x => Pipeline.Clip.of x (S1024x1024.size k) (S151936x1024.size k)) (congrFun h k))
    (fun _ _ _ h => h) t Y hY (ix2 p q) (ix2 P Q) ?_
  have e0 : cc0_transform_6 (dynb0 a.1) ((cfg0 a).grid.coords t) 0 = stepOf a t - 1 := max1 ⟨stepOf a t, by omega⟩
  have e1 : cc0_transform_6 (dynb0 a.1) ((cfg0 a).grid.coords t) 1 = 0 := rfl
  refine (show ∀ k : Fin 2, ((ix2 P Q : S151936x1024.Idx) k).val = cc0_transform_6 (dynb0 a.1) ((cfg0 a).grid.coords t) k * S1024x1024.size k
    + ((ix2 p q : S1024x1024.Idx) k).val from Fin.forall_fin_two.mpr ⟨?_, ?_⟩)
  · show P.val = cc0_transform_6 (dynb0 a.1) ((cfg0 a).grid.coords t) 0 * 1024 + p.val
    rw [e0]; omega
  · show Q.val = cc0_transform_6 (dynb0 a.1) ((cfg0 a).grid.coords t) 1 * 1024 + q.val
    rw [e1]; omega

/-- The student's weight scales of the tile before this step's. -/
theorem found7 (hg : Good a.1) (t : Fin (cfg0 a).N) (Y : Vec F S1x1024 .f32) (hY : (dat m a T c).Finds 7 t Y)
    (hs : 0 < stepOf a t) (p : Fin 1) (q : Fin 1024) (P : Fin 1) (Q : Fin 151936) (hP : P.val = p.val)
    (hQ : Q.val = 1024 * (stepOf a t - 1) + q.val) :
    Y (ix2 p q) = (V m c main_arg7 : Vec F S1x151936 .f32) (ix2 P Q) := by
  have hpt := pt_of a hg t
  have hs1 := hpt.1
  have hs2 := hpt.2.2
  have hi : (blkOf a t 1).val < 20 := (blkOf a t 1).isLt
  refine found_cell (dat m a T c) 7 rfl
    (fun t t' h => funext fun k => congrArg (fun x => Pipeline.Clip.of x (S1x1024.size k) (S1x151936.size k)) (congrFun h k))
    (fun _ _ _ h => h) t Y hY (ix2 p q) (ix2 P Q) ?_
  have e0 : cc0_transform_7 (dynb0 a.1) ((cfg0 a).grid.coords t) 0 = 0 := rfl
  have e1 : cc0_transform_7 (dynb0 a.1) ((cfg0 a).grid.coords t) 1 = stepOf a t - 1 := max1 ⟨stepOf a t, by omega⟩
  refine (show ∀ k : Fin 2, ((ix2 P Q : S1x151936.Idx) k).val = cc0_transform_7 (dynb0 a.1) ((cfg0 a).grid.coords t) k * S1x1024.size k
    + ((ix2 p q : S1x1024.Idx) k).val from Fin.forall_fin_two.mpr ⟨?_, ?_⟩)
  · show P.val = cc0_transform_7 (dynb0 a.1) ((cfg0 a).grid.coords t) 0 * 1 + p.val
    rw [e0]; omega
  · show Q.val = cc0_transform_7 (dynb0 a.1) ((cfg0 a).grid.coords t) 1 * 1024 + q.val
    rw [e1]; omega

end Cert.KernelIdeal.Hand
end
-- ==== Proof.KI.Logits.lean ====
module

public import proofs.«01_k».proof.Proof.KI.Stats

/-! The scaled, masked logits of one grid point, read over the extended reals. -/

@[expose] public section

set_option maxRecDepth 16384
noncomputable section

namespace Cert.KernelIdeal.Hand

open Cert.KernelIdeal Cert.KernelIdeal.Gen Cert.Lse
open Idealize.ShloMosaic Idealize.ShloMosaic.ValueIdx

/-- `1 / (2 ln 2)`: halving and the change of base together. -/
abbrev zsc : EReal := (((2 * Real.log 2)⁻¹ : ℝ) : EReal)

theorem addi_eq (a b : BitVec 32) : IntOp.addi a b = a + b := rfl

theorem mask_word (s q : ℕ) (h1 : 1 ≤ s) (h2 : s ≤ 149) (hq : q < 1024) :
    ((BitVec.ofNat 32 s - 1#32) * 1024#32 + BitVec.ofNat 32 q) = BitVec.ofNat 32 (1024 * (s - 1) + q) := by
  obtain ⟨t, rfl⟩ : ∃ t, s = t + 1 := ⟨s - 1, by omega⟩
  rw [show BitVec.ofNat 32 (t + 1) - 1#32 = BitVec.ofNat 32 t from by rw [BitVec.ofNat_add]; exact BitVec.add_sub_cancel _ _]
  rw [Nat.add_sub_cancel, Nat.mul_comm, BitVec.ofNat_add, BitVec.ofNat_mul]

theorem mask_apply (w : BitVec 32) (q : Fin 1024) (s : ℕ) (h1 : 1 ≤ s) (h2 : s ≤ 149) (z : Fin 1) :
    k0_pay11 (F := Ideal) (BitVec.ofNat 32 s) w (ix2 z q) = if ((1024 * (s - 1) + q.val : ℕ) : Int) < w.toInt then 1#1 else 0#1 := by
  unfold k0_pay11
  have hq := q.isLt
  have hi : (BitVec.ofNat 32 (1024 * (s - 1) + q.val)).toInt = ((1024 * (s - 1) + q.val : ℕ) : Int) := by
    rw [BitVec.toInt_eq_toNat_of_lt] <;> simp <;> omega
  show IntOp.cmpi .slt ((BitVec.ofNat 32 s - 1#32) * 1024#32 + iota .tc S1x1024 32 [1] iota_S1x1024_d1_w32 (ix2 z q)) w = _
  rw [iota_single_apply, show ((ix2 z q : S1x1024.Idx) 1).val = q.val from rfl, mask_word s q.val h1 h2 hq, ← hi]
  show BitVec.ofBool (BitVec.slt _ _) = _
  rw [BitVec.slt]
  by_cases h : (BitVec.ofNat 32 (1024 * (s - 1) + q.val)).toInt < w.toInt <;> simp [h]

theorem rowT {α : Type} (x : S1x1024.Idx → α) (h : S1x1024.Broadcasts S384x1024) (p : Fin 384) (q : Fin 1024) :
    broadcastTo S384x1024 x h (ix2 p q) = x (ix2 0 q) := broadcastTo_1b_ab_apply x h p q

theorem colT {α : Type} (x : S384x1.Idx → α) (h : S384x1.Broadcasts S384x1024) (p : Fin 384) (q : Fin 1024) :
    broadcastTo S384x1024 x h (ix2 p q) = x (ix2 p 0) :=
  broadcastTo_apply x h (ix2 p q) (ix2 p 0) fun a => match a with | ⟨0, _⟩ => rfl | ⟨1, _⟩ => rfl

theorem select_if {α : Type} (c : Prop) [Decidable c] (a b : α) : Scalar.select (if c then 1#1 else 0#1) a b = if c then a else b := by
  split <;> rfl

theorem if_eq {c : Prop} [Decidable c] {a a' b : EReal} (h : a = a') : (if c then a else b) = if c then a' else b := by rw [h]

theorem dotT (l : FVec Ideal S384x2560 .bf16) (r : FVec Ideal S2560x1024 .bf16) (p : Fin 384) (q : Fin 1024) :
    matmul dot_S384x2560_S2560x1024_S384x1024_1_0_0_1_n_n none l r (constant S384x1024 .f32 0x00000000#32) (ix2 p q)
      = ∑ k : Fin 2560, l (ix2 p k) * r (ix2 k q) := by
  refine (Ideal.matmul_constant_zero_apply _ none l r (ix2 p q)).trans ?_
  rw [← Equiv.sum_comp (contrEquiv1 dot_S384x2560_S2560x1024_S384x1024_1_0_0_1_n_n 2560 rfl rfl).symm]
  refine Finset.sum_congr rfl fun k _ => ?_
  have hk := contrEquiv1_symm_val dot_S384x2560_S2560x1024_S384x1024_1_0_0_1_n_n 2560 rfl rfl k
  refine congrArg₂ (· * ·) (congrArg l (Shape.idx_ext₂ rfl ?_)) (congrArg r (Shape.idx_ext₂ ?_ rfl))
  · exact hk
  · exact hk

theorem dotS (l : FVec Ideal S384x1024 .fp8e4m3) (r : FVec Ideal S1024x1024 .fp8e4m3) (p : Fin 384) (q : Fin 1024) :
    matmul dot_S384x1024_S1024x1024_S384x1024_1_1_0_0_n_n none l r (constant S384x1024 .f32 0x00000000#32) (ix2 p q)
      = ∑ k : Fin 1024, l (ix2 p k) * r (ix2 q k) := by
  refine (Ideal.matmul_constant_zero_apply _ none l r (ix2 p q)).trans ?_
  rw [← Equiv.sum_comp (contrEquiv1 dot_S384x1024_S1024x1024_S384x1024_1_1_0_0_n_n 1024 rfl rfl).symm]
  refine Finset.sum_congr rfl fun k _ => ?_
  have hk := contrEquiv1_symm_val dot_S384x1024_S1024x1024_S384x1024_1_1_0_0_n_n 1024 rfl rfl k
  refine congrArg₂ (· * ·) (congrArg l (Shape.idx_ext₂ rfl ?_)) (congrArg r (Shape.idx_ext₂ rfl ?_))
  · exact hk
  · exact hk

theorem origin2 {f : Fin 2 → ℕ} (h0 : f 0 = 0) (h1 : f 1 = 0) : f = fun _ => 0 := funext fun a => match a with | ⟨0, _⟩ => h0 | ⟨1, _⟩ => h1

/-- The teacher's logits of a point past the first step. -/
theorem zTea_apply (s : ℕ) (h1 : 1 ≤ s) (h2 : s ≤ 149) (hb : ∀ a, k0_off3 (BitVec.ofNat 32 s) a + S1x2560x1024.size a ≤ S2x2560x1024.size a)
    (x2 : Vec Ideal S5 .i32) (x3 : Vec Ideal S384x2560 .bf16) (x17 : Vec Ideal S2x2560x1024 .bf16) (sl : Fin 2)
    (hsl : k0_off3 (BitVec.ofNat 32 s) = ![sl.val, 0, 0]) (p : Fin 384) (q : Fin 1024) :
    zTea (BitVec.ofNat 32 s) hb x2 x3 x17 (ix2 p q)
      = if ((1024 * (s - 1) + q.val : ℕ) : Int) < (word x2).toInt then (∑ k : Fin 2560, x3 (ix2 p k) * x17 (ix3 sl k q)) * zsc else ⊥ := by
  unfold zTea k0_pay12
  rw [masked_eq, z_scale_eq]
  show Scalar.select (broadcastTo S384x1024 _ _ (ix2 p q)) ((matmul (F := Ideal) dot_S384x2560_S2560x1024_S384x1024_1_0_0_1_n_n none _ _ (constant S384x1024 .f32 0x00000000#32) (ix2 p q) : EReal) * zsc) (⊥ : EReal) = _
  rw [rowT, shapeCast_self, mask_apply _ q s h1 h2, select_if, dotT]
  refine if_eq (congrArg (fun t : EReal => t * zsc) (Finset.sum_congr rfl fun k _ => ?_))
  refine congrArg₂ (· * ·) (congrFun (View.ld_unit_zero (origin2 rfl rfl) inb_S384x2560_S384x2560_0_0 x3) (ix2 p k)) ?_
  refine (shapeCast_apply _ shapeCasts_S1x2560x1024_S2560x1024 (ix2 k q) (ix3 ⟨0, Nat.one_pos⟩ k q) (by
    rw [Shape.rowMajor_val_three, Shape.rowMajor_val_two]
    show (0 * 2560 + k.val) * 1024 + q.val = k.val * 1024 + q.val
    omega)).trans ?_
  refine congrArg x17 (funext fun a => Fin.ext ?_)
  show k0_off3 (BitVec.ofNat 32 s) a + 1 * _ = _
  refine (congrArg (· + 1 * _) (congrFun hsl a)).trans ?_
  match a with
  | ⟨0, _⟩ => rfl
  | ⟨1, _⟩ => show 0 + 1 * k.val = k.val; omega
  | ⟨2, _⟩ => show 0 + 1 * q.val = q.val; omega

/-- The student's. -/
theorem zStu_apply (s : ℕ) (h1 : 1 ≤ s) (h2 : s ≤ 149) (x2 : Vec Ideal S5 .i32) (x4 : Vec Ideal S384x1024 .fp8e4m3) (x5 : Vec Ideal S384x128 .f32)
    (x9 : Vec Ideal S1024x1024 .fp8e4m3) (x10 : Vec Ideal S1x1024 .f32) (p : Fin 384) (q : Fin 1024) :
    zStu (BitVec.ofNat 32 s) x2 x4 x5 x9 x10 (ix2 p q)
      = if ((1024 * (s - 1) + q.val : ℕ) : Int) < (word x2).toInt
        then (∑ k : Fin 1024, x4 (ix2 p k) * x9 (ix2 q k)) * (x5 (ix2 p 0) * zsc) * x10 (ix2 0 q) else ⊥ := by
  unfold zStu k0_pay15 k0_pay14 k0_pay13
  rw [masked_eq, z_scale_eq]
  show Scalar.select (broadcastTo S384x1024 _ _ (ix2 p q)) ((matmul (F := Ideal) dot_S384x1024_S1024x1024_S384x1024_1_1_0_0_n_n none _ _ (constant S384x1024 .f32 0x00000000#32) (ix2 p q) : EReal)
    * broadcastTo S384x1024 _ _ (ix2 p q) * broadcastTo S384x1024 _ _ (ix2 p q)) (⊥ : EReal) = _
  rw [rowT, shapeCast_self, mask_apply _ q s h1 h2, select_if, dotS, colT, rowT]
  refine if_eq ?_
  rw [View.ld_unit_zero (origin2 rfl rfl) inb_S384x1024_S384x1024_0_0 x4, View.ld_unit_zero (origin2 rfl rfl) inb_S1024x1024_S1024x1024_0_0 x9,
    View.ld_unit_zero (origin2 rfl rfl) inb_S1x1024_S1x1024_0_0 x10]
  refine congrArg (fun t => _ * t * _) (congrArg (· * zsc) ?_)
  refine congrArg x5 (Shape.idx_ext₂ ?_ rfl)
  show 0 + 1 * p.val = p.val
  omega

end Cert.KernelIdeal.Hand
end
-- ==== Proof.KI.Value.lean ====
module

public import proofs.«01_k».proof.Proof.KI.Running
public import proofs.«01_k».proof.Proof.KI.Blocks
public import proofs.«01_k».proof.Proof.KI.Logits

/-! What the launch computes, over the extended reals, and that every grid point keeps to it. -/

@[expose] public section

set_option maxRecDepth 16384
noncomputable section

namespace Cert.KernelIdeal.Hand

open Cert.KernelIdeal Cert.KernelIdeal.Gen Cert.Lse
open Idealize.ShloMosaic Idealize.ShloMosaic.TcCoe Idealize.ShloMosaic.ValueIdx
open Idealize.SL Idealize.SL.RA

/-! ### The mathematics -/

/-- The teacher's weight in row `k`, column `v`: its nibble less its group's zero point, times its group's scale. -/
def weight (pk : Vec Ideal S1280x151936 .i8) (sc zz : Vec Ideal S20x151936 .f32) (k : Fin 2560) (v : Fin 151936) : EReal :=
  (((nib (pk (ix2 ⟨64 * (k.val / 128) + k.val % 128 / 2, by omega⟩ v)) (k.val % 2) : ℝ) : EReal) - zz (ix2 ⟨k.val / 128, by omega⟩ v))
    * sc (ix2 ⟨k.val / 128, by omega⟩ v)

/-- The teacher's logit of token `R` and column `v`. -/
def logitT (ht : Vec Ideal S7680x2560 .bf16) (pk : Vec Ideal S1280x151936 .i8) (sc zz : Vec Ideal S20x151936 .f32) (R : Fin 7680) (v : Fin 151936) : EReal :=
  ∑ k : Fin 2560, ht (ix2 R k) * weight pk sc zz k v

/-- The student's product of codes, and its two scales. -/
def codesS (cd : Vec Ideal S7680x1024 .fp8e4m3) (ws : Vec Ideal S151936x1024 .fp8e4m3) (R : Fin 7680) (v : Fin 151936) : EReal :=
  ∑ k : Fin 1024, cd (ix2 R k) * ws (ix2 v k)

/-- Masked past the valid columns, in units of `2 ln 2`: what the kernel sums powers of two of. -/
def maskedT (n0 : Int) (ht : Vec Ideal S7680x2560 .bf16) (pk : Vec Ideal S1280x151936 .i8) (sc zz : Vec Ideal S20x151936 .f32) (R : Fin 7680) (v : ℕ) : EReal :=
  if (v : Int) < n0 then (if h : v < 151936 then logitT ht pk sc zz R ⟨v, h⟩ * zsc else ⊥) else ⊥

def maskedS (n0 : Int) (cd : Vec Ideal S7680x1024 .fp8e4m3) (cs : Vec Ideal S7680x128 .f32) (ws : Vec Ideal S151936x1024 .fp8e4m3) (wr : Vec Ideal S1x151936 .f32)
    (R : Fin 7680) (v : ℕ) : EReal :=
  if (v : Int) < n0 then (if h : v < 151936 then codesS cd ws R ⟨v, h⟩ * (cs (ix2 R 0) * zsc) * wr (ix2 0 ⟨v, h⟩) else ⊥) else ⊥

variable (m : (ℓ : Loc nD τ sig) → Buf (Elt Ideal) ℓ) (a : (pcfg0 (F := Ideal)).Adm) (c : Dev nD)

/-- Of the launch's own arrays. -/
def WT : Fin 2560 → Fin 151936 → EReal := weight (V m c main_arg3) (V m c main_arg4) (V m c main_arg5)
def ZT : Fin 7680 → ℕ → EReal := maskedT (info0 a.1).toInt (V m c main_arg0) (V m c main_arg3) (V m c main_arg4) (V m c main_arg5)
def ZS : Fin 7680 → ℕ → EReal := maskedS (info0 a.1).toInt (V m c main_arg1) (V m c main_arg2) (V m c main_arg6) (V m c main_arg7)

/-! ### The invariant -/

/-- A last-step block of a result: its rows' log-sum-exps. -/
def Res (Z : Fin 7680 → ℕ → EReal) (n t : ℕ) (X : Vec Ideal S384x128 .f32) : Prop :=
  t / 20 + 1 = n → ∀ (R : Fin 7680) (p : Fin 384) (l : Fin 128), R.val = 384 * (t % 20) + p.val → X (ix2 p l) = lse (Z R) (1024 * (n - 1)) unit2

def trackV : Track Ideal where
  Inv k w17 w18 w19 w20 w21 := Tiles (WT m c) (dynb0 a.1 0) (k / 20) (k % 20) w17
    ∧ (k ≠ 0 → Stat (ZT m a c) (k / 20) (k % 20) w18 w19 ∧ Stat (ZS m a c) (k / 20) (k % 20) w20 w21)
  R11 t _ X := Res (ZT m a c) (dynb0 a.1 0) t X
  R12 t _ X := Res (ZS m a c) (dynb0 a.1 0) t X

theorem track_zero (w17 : Vec Ideal S2x2560x1024 .bf16) (w18 w19 w20 w21 : Vec Ideal S7680x128 .f32) : (trackV m a c).Inv 0 w17 w18 w19 w20 w21 :=
  ⟨Tiles.zero _ _ _, fun h => absurd rfl h⟩

theorem word_eq : word (F := Ideal) (a.1 1) = info0 a.1 := by
  unfold word info0
  refine ld_at (S := S5) (e := .i32) (a.1 1) (ix5 0) _ fun k => ?_
  fin_cases k
  rfl

/-- The statistics' four updates. -/
theorem cleared (x : Vec Ideal S7680x128 .f32) (G : Vec Ideal S7680x128 .f32) (g : EReal) (hG : ∀ j, G j = g) : wholeS.overlay x G = fun _ => g := by
  funext j
  refine (overlay_in x G j j fun k => ?_).trans (hG j)
  fin_cases k
  · show (j 0).val = 0 + (j 0).val; omega
  · show (j 1).val = 0 + (j 1).val; omega

theorem pay2_bot (j : S7680x128.Idx) : k0_pay2 (F := Ideal) j = (⊥ : EReal) := ofBits_neginf
theorem pay4_zero (j : S7680x128.Idx) : k0_pay4 (F := Ideal) j = (0 : EReal) := by
  show Ideal.ofBits .f32 0x00000000#32 = _
  simp [Ideal.ofBits, Ideal.ieee]
theorem pay3_bot (j : S7680x128.Idx) : k0_pay3 (F := Ideal) j = (⊥ : EReal) := ofBits_neginf
theorem pay5_zero (j : S7680x128.Idx) : k0_pay5 (F := Ideal) j = (0 : EReal) := by
  show Ideal.ofBits .f32 0x00000000#32 = _
  simp [Ideal.ofBits, Ideal.ieee]

theorem stat_tea {Z : Fin 7680 → ℕ → EReal} (s : ℕ) (i : grid0.Static) (x18 x19 : Vec Ideal S7680x128 .f32) (L : FVec Ideal S384x1024 .f32)
    (hL : 1 ≤ s → ∀ (R : Fin 7680) (p : Fin 384) (q : Fin 1024), R.val = 384 * (i 1).val + p.val → L (ix2 p q) = Z R (1024 * (s - 1) + q.val))
    (h : ¬(s = 0 ∧ (i 1).val = 0) → Stat Z s (i 1).val x18 x19) : Stat Z s ((i 1).val + 1) (next18 s i L x18) (next19 s i L x18 x19) := by
  by_cases h0 : s = 0
  · subst h0
    refine Stat.clear (xm := x18) (xs := x19) (fun hi => h fun e => hi e.2) ?_ ?_
    · unfold next18
      by_cases hi : (i 1).val = 0
      · rw [if_pos ⟨rfl, hi⟩, if_pos hi]; exact cleared _ _ _ pay2_bot
      · rw [if_neg fun e => hi e.2, if_neg hi, if_neg (by omega)]
    · unfold next19
      by_cases hi : (i 1).val = 0
      · rw [if_pos ⟨rfl, hi⟩, if_pos hi]; exact cleared _ _ _ pay4_zero
      · rw [if_neg fun e => hi e.2, if_neg hi, if_neg (by omega)]
  · unfold next18 next19
    have h00 : ¬(s = 0 ∧ (i 1).val = 0) := fun e => h0 e.1
    have h01 : 0 < s := by omega
    rw [if_neg h00, if_neg h00, if_pos h01, if_pos h01]
    unfold max18 sum19
    exact Stat.step (by omega) i x18 x19 L (fun y => k0_pay26 (k0_pay24 L y)) (fun y x => k0_pay27 (k0_pay25 L y x))
      (fun y x p l g K => step_tea L y x p l g K) (hL (by omega)) (h fun e => h0 e.1)

theorem stat_stu {Z : Fin 7680 → ℕ → EReal} (s : ℕ) (i : grid0.Static) (x20 x21 : Vec Ideal S7680x128 .f32) (L : FVec Ideal S384x1024 .f32)
    (hL : 1 ≤ s → ∀ (R : Fin 7680) (p : Fin 384) (q : Fin 1024), R.val = 384 * (i 1).val + p.val → L (ix2 p q) = Z R (1024 * (s - 1) + q.val))
    (h : ¬(s = 0 ∧ (i 1).val = 0) → Stat Z s (i 1).val x20 x21) : Stat Z s ((i 1).val + 1) (next20 s i L x20) (next21 s i L x20 x21) := by
  by_cases h0 : s = 0
  · subst h0
    refine Stat.clear (xm := x20) (xs := x21) (fun hi => h fun e => hi e.2) ?_ ?_
    · unfold next20
      by_cases hi : (i 1).val = 0
      · rw [if_pos ⟨rfl, hi⟩, if_pos hi]; exact cleared _ _ _ pay3_bot
      · rw [if_neg fun e => hi e.2, if_neg hi, if_neg (by omega)]
    · unfold next21
      by_cases hi : (i 1).val = 0
      · rw [if_pos ⟨rfl, hi⟩, if_pos hi]; exact cleared _ _ _ pay5_zero
      · rw [if_neg fun e => hi e.2, if_neg hi, if_neg (by omega)]
  · unfold next20 next21
    have h00 : ¬(s = 0 ∧ (i 1).val = 0) := fun e => h0 e.1
    have h01 : 0 < s := by omega
    rw [if_neg h00, if_neg h00, if_pos h01, if_pos h01]
    unfold max20 sum21
    exact Stat.step (by omega) i x20 x21 L (fun y => k0_pay6 (k0_pay36 L y)) (fun y x => k0_pay7 (k0_pay37 L y x))
      (fun y x p l g K => step_stu L y x p l g K) (hL (by omega)) (h fun e => h0 e.1)

/-- A last-step block, from the statistics the step leaves. -/
theorem res_of {Z : Fin 7680 → ℕ → EReal} {n s t : ℕ} (i : grid0.Static) (xm xs : Vec Ideal S7680x128 .f32) (X Y : Vec Ideal S384x128 .f32)
    (hst : s = t / 20) (hit : (i 1).val = t % 20) (h2 : 2 ≤ n) (h : Stat Z s ((i 1).val + 1) xm xs)
    (hX : s + 1 = n → X = whole12.overlay Y (k0_pay9 (View.ld xm (rows i)) (View.ld xs (rows i)))) : Res Z n t X := by
  intro hn R p l hR
  rw [hX (by omega)]
  refine (overlay_in _ _ (ix2 p l) (ix2 p l) (Fin.forall_fin_two.mpr ⟨?_, ?_⟩)).trans ?_
  · show p.val = 0 + p.val; omega
  · show l.val = 0 + l.val; omega
  · rw [Stat.out (by omega) i xm xs h R p l (by rw [hR, hit]), show n - 1 = s by omega]

end Cert.KernelIdeal.Hand
end
-- ==== Proof.KI.Keep.lean ====
module

public import proofs.«01_k».proof.Proof.KI.Value

/-! Every grid point keeps the invariant and leaves the tracked results. -/

@[expose] public section

set_option maxRecDepth 16384
noncomputable section

namespace Cert.KernelIdeal.Hand

open Cert.KernelIdeal Cert.KernelIdeal.Gen Cert.Lse
open Idealize.ShloMosaic Idealize.ShloMosaic.TcCoe Idealize.ShloMosaic.ValueIdx
open Idealize.SL Idealize.SL.RA

variable (m : (ℓ : Loc nD τ sig) → Buf (Elt Ideal) ℓ) (a : (pcfg0 (F := Ideal)).Adm) (c : Dev nD)

/-- The invariant after a point, from that before it. -/
theorem inv_next {t s i : ℕ} (hs : s = t / 20) (hi : i = t % 20) (w17 : Vec Ideal S2x2560x1024 .bf16) (w18 w19 w20 w21 : Vec Ideal S7680x128 .f32)
    (h17 : Tiles (WT m c) (dynb0 a.1 0) s (i + 1) w17) (h18 : Stat (ZT m a c) s (i + 1) w18 w19) (h20 : Stat (ZS m a c) s (i + 1) w20 w21) :
    (trackV m a c).Inv (t + 1) w17 w18 w19 w20 w21 := by
  by_cases h : i + 1 = 20
  · have e1 : (t + 1) / 20 = s + 1 := by omega
    have e2 : (t + 1) % 20 = 0 := by omega
    rw [h] at h17 h18 h20
    show Tiles (WT m c) (dynb0 a.1 0) ((t + 1) / 20) ((t + 1) % 20) w17 ∧ _
    rw [e1, e2]
    exact ⟨h17.next, fun _ => ⟨h18.next, h20.next⟩⟩
  · have e1 : (t + 1) / 20 = s := by omega
    have e2 : (t + 1) % 20 = i + 1 := by omega
    show Tiles (WT m c) (dynb0 a.1 0) ((t + 1) / 20) ((t + 1) % 20) w17 ∧ _
    rw [e1, e2]
    exact ⟨h17, fun _ => ⟨h18, h20⟩⟩

theorem keeps (hg : Good a.1) (hc : ∀ d : Dev nD, d = c) : ∀ d, Keeps m a (trackV m a c) hg d := by
  intro d
  obtain rfl := hc d
  intro t Y hY w17 w18 w19 w20 w21 hI
  have hp := pt_of a hg t
  have hsn := hp.1; have hn2 := hp.2.1; have hn150 := hp.2.2
  have hs := step_val a t
  have hi := blk_val a t
  have hi20 : (blkOf a t 1).val < 20 := (blkOf a t 1).isLt
  have hcols := hg.cols
  obtain ⟨hT, hS⟩ := hI
  rw [← hs, ← hi] at hT
  -- the weight tile
  have h17 : Tiles (WT m d) (dynb0 a.1 0) (stepOf a t) ((blkOf a t 1).val + 1) (next17 (pt_of a hg t) (blkOf a t) (Y 3) (Y 4) (Y 5) w17) := by
    refine Tiles.step hp (blkOf a t) (Y 3) (Y 4) (Y 5) w17 ⟨(blkOf a t 1).val, hi20⟩ rfl hT fun h k r b q v hv hb hk => ?_
    have hb64 := b.isLt
    have hr := r.isLt
    rw [found3 m a _ d hg t (Y 3) (hY 3) (by omega) b q ⟨64 * (blkOf a t 1).val + b.val, by omega⟩ v rfl hv,
      found5 m a _ d hg t (Y 5) (hY 5) (by omega) _ q ⟨(blkOf a t 1).val, hi20⟩ v rfl hv,
      found4 m a _ d hg t (Y 4) (hY 4) (by omega) _ q ⟨(blkOf a t 1).val, hi20⟩ v rfl hv]
    unfold WT weight
    have e1 : (⟨64 * (blkOf a t 1).val + b.val, by omega⟩ : Fin 1280) = ⟨64 * (k.val / 128) + k.val % 128 / 2, by omega⟩ := Fin.ext (by simp only; omega)
    have e2 : (⟨(blkOf a t 1).val, hi20⟩ : Fin 20) = ⟨k.val / 128, by omega⟩ := Fin.ext (by simp only; omega)
    rw [e1, e2, show r.val % 2 = k.val % 2 by omega]
  -- the teacher's logits
  have hLT : 1 ≤ stepOf a t → ∀ (R : Fin 7680) (p : Fin 384) (q : Fin 1024), R.val = 384 * (blkOf a t 1).val + p.val →
      zT (pt_of a hg t) (blkOf a t) (a.1 1) (Y 0) (Y 3) (Y 4) (Y 5) w17 (ix2 p q) = ZT m a d R (1024 * (stepOf a t - 1) + q.val) := by
    intro h1 R p q hR
    have hsl : (stepOf a t + 1) % 2 < 2 := Nat.mod_lt _ (by omega)
    unfold zT
    refine (zTea_apply (stepOf a t) h1 (by omega) _ _ _ _ ⟨(stepOf a t + 1) % 2, hsl⟩ (off3_eq hsn hn2 hn150) p q).trans ?_
    unfold ZT maskedT
    refine ite_congr (congrArg (fun w : BitVec 32 => ((1024 * (stepOf a t - 1) + q.val : ℕ) : Int) < w.toInt) (word_eq a)) (fun hv => ?_) fun _ => rfl
    have hV : 1024 * (stepOf a t - 1) + q.val < 151936 := by omega
    rw [dif_pos hV]
    unfold logitT
    refine congrArg (· * zsc) (Finset.sum_congr rfl fun k _ => ?_)
    rw [found0 m a _ d hg t (Y 0) (hY 0) (by omega) p k R hR]
    exact congrArg₂ (fun x y : EReal => x * y) rfl (h17.1 _ k q ⟨_, hV⟩ h1 hsn rfl rfl)
  have hLS : 1 ≤ stepOf a t → ∀ (R : Fin 7680) (p : Fin 384) (q : Fin 1024), R.val = 384 * (blkOf a t 1).val + p.val →
      zS (stepOf a t) (a.1 1) (Y 1) (Y 2) (Y 6) (Y 7) (ix2 p q) = ZS m a d R (1024 * (stepOf a t - 1) + q.val) := by
    intro h1 R p q hR
    unfold zS
    refine (zStu_apply (stepOf a t) h1 (by omega) _ _ _ _ _ p q).trans ?_
    unfold ZS maskedS
    refine ite_congr (congrArg (fun w : BitVec 32 => ((1024 * (stepOf a t - 1) + q.val : ℕ) : Int) < w.toInt) (word_eq a)) (fun hv => ?_) fun _ => rfl
    have hV : 1024 * (stepOf a t - 1) + q.val < 151936 := by omega
    rw [dif_pos hV]
    unfold codesS
    rw [found2 m a _ d hg t (Y 2) (hY 2) (by omega) p 0 R hR,
      found7 m a _ d hg t (Y 7) (hY 7) (by omega) 0 q 0 ⟨_, hV⟩ rfl rfl]
    refine congrArg (· * _) (congrArg (· * _) (Finset.sum_congr rfl fun k _ => ?_))
    rw [found1 m a _ d hg t (Y 1) (hY 1) (by omega) p k R hR, found6 m a _ d hg t (Y 6) (hY 6) (by omega) q k ⟨_, hV⟩ k rfl rfl]
  have hne : ¬(stepOf a t = 0 ∧ (blkOf a t 1).val = 0) → t.val ≠ 0 := by
    intro h e
    apply h
    rw [hs, hi, e]
    exact ⟨rfl, rfl⟩
  have h18 := stat_tea (Z := ZT m a d) (stepOf a t) (blkOf a t) w18 w19 _ hLT fun h => by
    have := (hS (hne h)).1
    rw [← hs, ← hi] at this
    exact this
  have h20 := stat_stu (Z := ZS m a d) (stepOf a t) (blkOf a t) w20 w21 _ hLS fun h => by
    have := (hS (hne h)).2
    rw [← hs, ← hi] at this
    exact this
  refine ⟨inv_next m a d hs hi _ _ _ _ _ h17 h18 h20, ?_, ?_⟩
  · refine res_of (blkOf a t) _ _ _ (Y 11) hs hi hn2 h18 fun hn => ?_
    unfold next14
    rw [if_pos hn]
    rfl
  · refine res_of (blkOf a t) _ _ _ (Y 12) hs hi hn2 h20 fun hn => ?_
    unfold next15
    rw [if_pos hn]
    rfl

end Cert.KernelIdeal.Hand
end
-- ==== Proof.KI.Final.lean ====
module

public import proofs.«01_k».proof.Proof.KI.Keep

/-! The two result arrays at the end of the launch. -/

@[expose] public section

set_option maxRecDepth 16384
noncomputable section

namespace Cert.KernelIdeal.Hand

open Cert.KernelIdeal Cert.KernelIdeal.Gen Cert.Lse
open Idealize.ShloMosaic Idealize.ShloMosaic.TcCoe Idealize.ShloMosaic.ValueIdx Idealize.ShloMosaic.Pipeline
open Idealize.SL Idealize.SL.RA

/-! ### Any output whose flushing points write different blocks -/

section
variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD}

/-- Position `z` of the array, inside the block point `t` writes back, ends at what some point state left there. -/
theorem left_cell [∀ e, Nonempty (Val e)] (rd : RDat τ Val Ix Name U Lvl cfg c) (w : Fin cfg.W) {G}
    (hG : rd.ArrAt w cfg.N G) (hk : (cfg.win w).kind = .blocked)
    (hinj : ∀ t t' : Fin cfg.N, (cfg.win w).flush t = true → (cfg.win w).flush t' = true → (cfg.win w).index t = (cfg.win w).index t' → t = t')
    (t : Fin cfg.N) (hf : (cfg.win w).flush t = true) (y : ((cfg.win w).xblock (cfg.grid.coords t)).Idx)
    (z : (cfg.win w).shape.Idx) (hz : ∀ a, (z a).val = (cfg.win w).kind.off ((cfg.win w).index t a) ((cfg.win w).size a) + (y a).val) :
    ∃ X, rd.Leaves w t X ∧ (cfg.win w).arr.view.read Val G z = X ((cfg.win w).xinj (cfg.grid.coords t) y) := by
  obtain ⟨X, hX, hA⟩ := hG.exists_exact
  refine ⟨X t, hX t t.isLt hf, ?_⟩
  have e := hA (Function.update (fun _ _ _ => Classical.arbitrary _) w X) fun u _ _ => by rw [Function.update_self]
  have h := congrFun ((rd.withAfter (Function.update (fun _ _ _ => Classical.arbitrary _) w X)).read_blk_arrAt_eq_flushed w
    (fun t t' h h' hne => (cfg.win w).disjoint_blk (fun he => hne (hinj t t' h h' he)) hk) cfg.N t t.isLt hf) y
  rw [← e] at h
  have hz' : z = ((cfg.win w).rect t).emb y := funext fun a => Fin.ext (by rw [Window.rect_emb_val_off, hz a])
  rw [hz']
  refine h.trans ?_
  show (Function.update (fun _ _ _ => Classical.arbitrary _) w X : (w' : Fin cfg.W) → Fin cfg.N → (cfg.win w').block.Idx → Val (cfg.win w').elt) w t _ = _
  rw [Function.update_self]
end

variable (m : (ℓ : Loc nD τ sig) → Buf (Elt Ideal) ℓ) (a : (pcfg0 (F := Ideal)).Adm) (c : Dev nD)

theorem sel_last (s i : ℕ) (hs : s < 2 ^ 32) (hi : i < 2 ^ 32) (w : BitVec 32) :
    (Scalar.select (Scalar.cmpi .eq (BitVec.ofNat 32 s) w) (BitVec.ofNat 32 i) 0#32).toNat = if s = w.toNat then i else 0 := by
  have e : Scalar.cmpi .eq (BitVec.ofNat 32 s) w = (1 : BitVec 1) ↔ s = w.toNat := by
    refine (IntOp.cmpi_eq).trans ⟨fun h => ?_, fun h => ?_⟩
    · rw [← h, BitVec.toNat_ofNat, Nat.mod_eq_of_lt hs]
    · rw [h, BitVec.ofNat_toNat, BitVec.setWidth_eq]
  unfold Scalar.select
  by_cases h : s = w.toNat
  · rw [if_pos (e.mpr h), if_pos h, BitVec.toNat_ofNat, Nat.mod_eq_of_lt hi]
  · rw [if_neg fun h' => h (e.mp h'), if_neg h]; rfl

theorem last_step (hg : Good a.1) (s : ℕ) : s = (info2 a.1).toNat ↔ s + 1 = dynb0 a.1 0 := by
  have h1 := hg.steps
  have h2 : dynb0 a.1 0 = (nsteps a.1).toNat := rfl
  omega

/-! ### Window 11 -/

theorem at11 (hg : Good a.1) (t : Fin (cfg0 a).N) :
    cc0_transform_11 inb_S5_S1_2 numel1_S1 a.1 (dynb0 a.1) ((cfg0 a).grid.coords t) 0 = if stepOf a t + 1 = dynb0 a.1 0 then (blkOf a t 1).val else 0 := by
  have hp := pt_of a hg t
  have hi : (blkOf a t 1).val < 20 := (blkOf a t 1).isLt
  refine (sel_last (stepOf a t) (blkOf a t 1).val (by have := hp.1; have := hp.2.2; omega) (by omega) _).trans ?_
  rw [at2_eq]
  exact if_congr (last_step a hg _) rfl rfl

theorem flush11 (hg : Good a.1) (t : Fin (cfg0 a).N) : ((cfg0 a).win 11).flush t = true ↔ stepOf a t + 1 = dynb0 a.1 0 := by
  have hp := pt_of a hg t
  have hN := grid_N a
  have htN := t.isLt
  have hst := step_val a t
  have hit := blk_val a t
  have e := at11 a hg t
  have hidx : ∀ h : t.val + 1 < (cfg0 a).N, ((cfg0 a).win 11).index ⟨t.val + 1, h⟩ ≠ ((cfg0 a).win 11).index t ↔
      cc0_transform_11 inb_S5_S1_2 numel1_S1 a.1 (dynb0 a.1) ((cfg0 a).grid.coords ⟨t.val + 1, h⟩) 0
        ≠ cc0_transform_11 inb_S5_S1_2 numel1_S1 a.1 (dynb0 a.1) ((cfg0 a).grid.coords t) 0 := by
    intro h
    refine not_congr ⟨fun he => congrFun he (0 : Fin 2), fun he => ?_⟩
    exact funext (Fin.forall_fin_two.mpr ⟨he, rfl⟩)
  have hfl : ((cfg0 a).win 11).flush t = true ↔ (t.val + 1 = (cfg0 a).N ∨ ∃ h : t.val + 1 < (cfg0 a).N, ((cfg0 a).win 11).index ⟨t.val + 1, h⟩ ≠ ((cfg0 a).win 11).index t) := by
    show (true && _) = true ↔ _
    rw [Bool.true_and, Bool.or_eq_true, decide_eq_true_iff, decide_eq_true_iff]
  rw [hfl]
  constructor
  · rintro (h | ⟨h, hne⟩)
    · have h' := h.trans hN; omega
    · rw [hidx h, at11 a hg, e, step_val a ⟨t.val + 1, h⟩, blk_val a ⟨t.val + 1, h⟩] at hne
      by_contra hs
      apply hne
      rw [if_neg hs]
      split
      · simp only at *; omega
      · rfl
  · intro hs
    by_cases h : t.val + 1 = (cfg0 a).N
    · exact .inl h
    · refine .inr ⟨by omega, ?_⟩
      rw [hidx, at11 a hg, e, step_val a ⟨t.val + 1, by omega⟩, blk_val a ⟨t.val + 1, by omega⟩, if_pos hs]
      have : t.val + 1 < dynb0 a.1 0 * 20 := by rw [← hN]; omega
      simp only
      rw [if_pos (by omega)]
      omega

/-- The array of window 11 at the end: every row's log-sum-exp, in every lane. -/
theorem final11 (hg : Good a.1) (G : Vec Ideal S7680x128 .f32) (hG : (dat m a (trackV m a c) c).ArrAt 11 (cfg0 a).N G) (R : Fin 7680) (l : Fin 128) :
    G (ix2 R l) = lse (ZT m a c R) (1024 * (dynb0 a.1 0 - 1)) unit2 := by
  have hN := grid_N a
  have hn : 2 ≤ dynb0 a.1 0 := by
    have h1 := hg.steps; have h2 := hg.one_le
    have h3 : dynb0 a.1 0 = (nsteps a.1).toNat := rfl
    omega
  have hR := R.isLt
  have ht : 20 * (dynb0 a.1 0 - 1) + R.val / 384 < (cfg0 a).N := by rw [hN]; omega
  have hst := step_val a ⟨_, ht⟩
  have hit := blk_val a ⟨_, ht⟩
  simp only at hst hit
  have hlast : stepOf a ⟨_, ht⟩ + 1 = dynb0 a.1 0 := by rw [hst]; omega
  obtain ⟨X, ⟨Y, -, hX⟩, hGX⟩ := left_cell (dat m a (trackV m a c) c) 11 hG rfl
    (fun t t' hf hf' he => by
      have h1 := (flush11 a hg t).mp hf
      have h2 := (flush11 a hg t').mp hf'
      have h3 := at11 a hg t
      have h4 := at11 a hg t'
      rw [if_pos h1] at h3
      rw [if_pos h2] at h4
      have h5 : cc0_transform_11 inb_S5_S1_2 numel1_S1 a.1 (dynb0 a.1) ((cfg0 a).grid.coords t) 0
        = cc0_transform_11 inb_S5_S1_2 numel1_S1 a.1 (dynb0 a.1) ((cfg0 a).grid.coords t') 0 := congrFun he (0 : Fin 2)
      have h6 := pt_val a t
      have h7 := pt_val a t'
      apply Fin.ext
      omega)
    ⟨_, ht⟩ ((flush11 a hg _).mpr hlast) (ix2 ⟨R.val % 384, by omega⟩ l : S384x128.Idx) (ix2 R l : S7680x128.Idx)
    (by
      refine (show ∀ k : Fin 2, ((ix2 R l : S7680x128.Idx) k).val = cc0_transform_11 inb_S5_S1_2 numel1_S1 a.1 (dynb0 a.1) ((cfg0 a).grid.coords ⟨_, ht⟩) k * S384x128.size k
        + ((ix2 ⟨R.val % 384, by omega⟩ l : S384x128.Idx) k).val from Fin.forall_fin_two.mpr ⟨?_, ?_⟩)
      · rw [at11 a hg, if_pos hlast, hit]
        show R.val = _ * 384 + R.val % 384
        omega
      · show l.val = 0 * 128 + l.val; omega)
  have hRes : Res (ZT m a c) (dynb0 a.1 0) (20 * (dynb0 a.1 0 - 1) + R.val / 384) X := hX
  refine (show G (ix2 R l) = X (ix2 ⟨R.val % 384, by omega⟩ l) from hGX).trans ?_
  exact hRes (by omega) R ⟨R.val % 384, by omega⟩ l (by simp only; omega)

/-! ### Window 12 -/

theorem at12 (hg : Good a.1) (t : Fin (cfg0 a).N) :
    cc0_transform_12 inb_S5_S1_2 numel1_S1 a.1 (dynb0 a.1) ((cfg0 a).grid.coords t) 0 = if stepOf a t + 1 = dynb0 a.1 0 then (blkOf a t 1).val else 0 := by
  have hp := pt_of a hg t
  have hi : (blkOf a t 1).val < 20 := (blkOf a t 1).isLt
  refine (sel_last (stepOf a t) (blkOf a t 1).val (by have := hp.1; have := hp.2.2; omega) (by omega) _).trans ?_
  rw [at2_eq]
  exact if_congr (last_step a hg _) rfl rfl

theorem flush12 (hg : Good a.1) (t : Fin (cfg0 a).N) : ((cfg0 a).win 12).flush t = true ↔ stepOf a t + 1 = dynb0 a.1 0 := by
  have hp := pt_of a hg t
  have hN := grid_N a
  have htN := t.isLt
  have hst := step_val a t
  have hit := blk_val a t
  have e := at12 a hg t
  have hidx : ∀ h : t.val + 1 < (cfg0 a).N, ((cfg0 a).win 12).index ⟨t.val + 1, h⟩ ≠ ((cfg0 a).win 12).index t ↔
      cc0_transform_12 inb_S5_S1_2 numel1_S1 a.1 (dynb0 a.1) ((cfg0 a).grid.coords ⟨t.val + 1, h⟩) 0
        ≠ cc0_transform_12 inb_S5_S1_2 numel1_S1 a.1 (dynb0 a.1) ((cfg0 a).grid.coords t) 0 := by
    intro h
    refine not_congr ⟨fun he => congrFun he (0 : Fin 2), fun he => ?_⟩
    exact funext (Fin.forall_fin_two.mpr ⟨he, rfl⟩)
  have hfl : ((cfg0 a).win 12).flush t = true ↔ (t.val + 1 = (cfg0 a).N ∨ ∃ h : t.val + 1 < (cfg0 a).N, ((cfg0 a).win 12).index ⟨t.val + 1, h⟩ ≠ ((cfg0 a).win 12).index t) := by
    show (true && _) = true ↔ _
    rw [Bool.true_and, Bool.or_eq_true, decide_eq_true_iff, decide_eq_true_iff]
  rw [hfl]
  constructor
  · rintro (h | ⟨h, hne⟩)
    · have h' := h.trans hN; omega
    · rw [hidx h, at12 a hg, e, step_val a ⟨t.val + 1, h⟩, blk_val a ⟨t.val + 1, h⟩] at hne
      by_contra hs
      apply hne
      rw [if_neg hs]
      split
      · simp only at *; omega
      · rfl
  · intro hs
    by_cases h : t.val + 1 = (cfg0 a).N
    · exact .inl h
    · refine .inr ⟨by omega, ?_⟩
      rw [hidx, at12 a hg, e, step_val a ⟨t.val + 1, by omega⟩, blk_val a ⟨t.val + 1, by omega⟩, if_pos hs]
      have : t.val + 1 < dynb0 a.1 0 * 20 := by rw [← hN]; omega
      simp only
      rw [if_pos (by omega)]
      omega

/-- The array of window 12 at the end: every row's log-sum-exp, in every lane. -/
theorem final12 (hg : Good a.1) (G : Vec Ideal S7680x128 .f32) (hG : (dat m a (trackV m a c) c).ArrAt 12 (cfg0 a).N G) (R : Fin 7680) (l : Fin 128) :
    G (ix2 R l) = lse (ZS m a c R) (1024 * (dynb0 a.1 0 - 1)) unit2 := by
  have hN := grid_N a
  have hn : 2 ≤ dynb0 a.1 0 := by
    have h1 := hg.steps; have h2 := hg.one_le
    have h3 : dynb0 a.1 0 = (nsteps a.1).toNat := rfl
    omega
  have hR := R.isLt
  have ht : 20 * (dynb0 a.1 0 - 1) + R.val / 384 < (cfg0 a).N := by rw [hN]; omega
  have hst := step_val a ⟨_, ht⟩
  have hit := blk_val a ⟨_, ht⟩
  simp only at hst hit
  have hlast : stepOf a ⟨_, ht⟩ + 1 = dynb0 a.1 0 := by rw [hst]; omega
  obtain ⟨X, ⟨Y, -, hX⟩, hGX⟩ := left_cell (dat m a (trackV m a c) c) 12 hG rfl
    (fun t t' hf hf' he => by
      have h1 := (flush12 a hg t).mp hf
      have h2 := (flush12 a hg t').mp hf'
      have h3 := at12 a hg t
      have h4 := at12 a hg t'
      rw [if_pos h1] at h3
      rw [if_pos h2] at h4
      have h5 : cc0_transform_12 inb_S5_S1_2 numel1_S1 a.1 (dynb0 a.1) ((cfg0 a).grid.coords t) 0
        = cc0_transform_12 inb_S5_S1_2 numel1_S1 a.1 (dynb0 a.1) ((cfg0 a).grid.coords t') 0 := congrFun he (0 : Fin 2)
      have h6 := pt_val a t
      have h7 := pt_val a t'
      apply Fin.ext
      omega)
    ⟨_, ht⟩ ((flush12 a hg _).mpr hlast) (ix2 ⟨R.val % 384, by omega⟩ l : S384x128.Idx) (ix2 R l : S7680x128.Idx)
    (by
      refine (show ∀ k : Fin 2, ((ix2 R l : S7680x128.Idx) k).val = cc0_transform_12 inb_S5_S1_2 numel1_S1 a.1 (dynb0 a.1) ((cfg0 a).grid.coords ⟨_, ht⟩) k * S384x128.size k
        + ((ix2 ⟨R.val % 384, by omega⟩ l : S384x128.Idx) k).val from Fin.forall_fin_two.mpr ⟨?_, ?_⟩)
      · rw [at12 a hg, if_pos hlast, hit]
        show R.val = _ * 384 + R.val % 384
        omega
      · show l.val = 0 * 128 + l.val; omega)
  have hRes : Res (ZS m a c) (dynb0 a.1 0) (20 * (dynb0 a.1 0 - 1) + R.val / 384) X := hX
  refine (show G (ix2 R l) = X (ix2 ⟨R.val % 384, by omega⟩ l) from hGX).trans ?_
  exact hRes (by omega) R ⟨R.val % 384, by omega⟩ l (by simp only; omega)

end Cert.KernelIdeal.Hand
end
-- ==== Proof.RI.Rows.lean ====
module

public import proofs.«01_k».proof.Proof.KI.Value

/-! From the kernel's statistics in base two to the plain log-sum-exp of a whole row. -/

@[expose] public section

set_option maxRecDepth 16384
noncomputable section

namespace Cert.Lse

open Finset Idealize.ShloMosaic
open Cert.KernelIdeal.Hand (unit2 zsc)

/-- The largest entry of a row, counted through `Fin` or through the naturals. -/
theorem sup_fin (Y : ℕ → EReal) (n : ℕ) : (univ : Finset (Fin n)).sup (fun i => Y i.val) = (range n).sup Y := by
  refine le_antisymm (Finset.sup_le fun i _ => Finset.le_sup (f := Y) (mem_range.mpr i.isLt)) (Finset.sup_le fun i hi => ?_)
  exact Finset.le_sup (f := fun i : Fin n => Y i.val) (mem_univ (⟨i, mem_range.mp hi⟩ : Fin n))

/-- A row of logits halved, and masked past the valid columns. -/
def halved (n0 : Int) (L : Fin 151936 → EReal) (v : ℕ) : EReal :=
  if (v : Int) < n0 then (if h : v < 151936 then L ⟨v, h⟩ * (((1 / 2 : ℝ)) : EReal) else ⊥) else ⊥

/-- The log-sum-exp of a row, in base two. -/
def plain (Y : ℕ → EReal) : EReal :=
  ((range 151936).sup Y + Ideal.log (∑ v ∈ range 151936, Ideal.exp (Y v - (range 151936).sup Y))) * unit2

theorem zsc_eq : (zsc : EReal) = (((1 / 2 : ℝ)) : EReal) * unit2 := by
  rw [← EReal.coe_mul]
  show (((2 * Real.log 2)⁻¹ : ℝ) : EReal) = _
  rw [mul_inv, one_div]

theorem unit2_pos : (0 : EReal) < unit2 := EReal.coe_pos.mpr (inv_pos.mpr (Real.log_pos (by norm_num)))

theorem halved_unit (n0 : Int) (L : Fin 151936 → EReal) (v : ℕ) :
    halved n0 L v * unit2 = if (v : Int) < n0 then (if h : v < 151936 then L ⟨v, h⟩ * zsc else ⊥) else ⊥ := by
  unfold halved
  split
  · split
    · rw [zsc_eq, mul_assoc]
    · exact EReal.bot_mul_of_pos unit2_pos
  · exact EReal.bot_mul_of_pos unit2_pos

/-- The padding past the valid columns counts for nothing, so that the kernel's row is the whole row. -/
theorem whole (n0 : Int) (L : Fin 151936 → EReal) (M : ℕ) (h : n0 ≤ (M : Int)) :
    lse (fun v => halved n0 L v * unit2) M unit2 = plain (halved n0 L) := by
  have hb : ∀ v, min n0.toNat 151936 ≤ v → halved n0 L v * unit2 = ⊥ := by
    intro v hv
    rw [halved_unit]
    split
    · rename_i h1
      rw [dif_neg (by omega)]
    · rfl
  have e1 : ∀ K, min n0.toNat 151936 ≤ K → lse (fun v => halved n0 L v * unit2) K unit2 = lse (fun v => halved n0 L v * unit2) (min n0.toNat 151936) unit2 :=
    fun K hK => lse_ext hK hb unit2
  rw [e1 M (by omega), ← e1 151936 (by omega)]
  exact base (halved n0 L) 151936

end Cert.Lse
end
-- ==== Proof.KI.Answer.lean ====
module

public import proofs.«01_k».proof.Proof.KI.Final
public import proofs.«01_k».proof.Proof.KI.Frame
public import proofs.«01_k».proof.Proof.RI.Rows

/-! What the launch leaves in its two result arrays: each token's plain log-sum-exp in base two, in every lane. -/

@[expose] public section

set_option maxRecDepth 16384
noncomputable section

namespace Cert.KernelIdeal.Hand

open Cert.KernelIdeal Cert.KernelIdeal.Gen Cert.Lse
open Idealize.ShloMosaic Idealize.ShloMosaic.TcCoe Idealize.ShloMosaic.ValueIdx Idealize.SL.Sem

/-- The teacher's answer, from its arrays and the number of valid columns. -/
def answerT (n0 : Int) (ht : Vec Ideal S7680x2560 .bf16) (pk : Vec Ideal S1280x151936 .i8) (sc zz : Vec Ideal S20x151936 .f32) : Vec Ideal S7680x128 .f32 :=
  fun j => plain (halved n0 (logitT ht pk sc zz (j 0)))

/-- The student's. -/
def answerS (n0 : Int) (cd : Vec Ideal S7680x1024 .fp8e4m3) (cs : Vec Ideal S7680x128 .f32) (ws : Vec Ideal S151936x1024 .fp8e4m3) (wr : Vec Ideal S1x151936 .f32) :
    Vec Ideal S7680x128 .f32 :=
  fun j => plain (halved n0 fun v => codesS cd ws (j 0) v * (cs (ix2 (j 0) 0) : EReal) * (wr (ix2 0 v) : EReal))

theorem pair_eq (j : S7680x128.Idx) : j = ix2 (j 0) (j 1) := funext fun a => match a with | ⟨0, _⟩ => rfl | ⟨1, _⟩ => rfl

variable (m : (ℓ : Loc nD τ sig) → Buf (Elt Ideal) ℓ) (a : (pcfg0 (F := Ideal)).Adm) (c : Dev nD)

theorem ZT_eq (R : Fin 7680) : ZT m a c R
    = fun v => halved (info0 a.1).toInt (logitT (V m c main_arg0) (V m c main_arg3) (V m c main_arg4) (V m c main_arg5) R) v * unit2 :=
  funext fun v => (halved_unit _ _ v).symm

theorem ZS_eq (R : Fin 7680) : ZS m a c R
    = fun v => halved (info0 a.1).toInt (fun v => codesS (V m c main_arg1) (V m c main_arg6) R v * ((V m c main_arg2 : Vec Ideal S7680x128 .f32) (ix2 R 0) : EReal)
        * ((V m c main_arg7 : Vec Ideal S1x151936 .f32) (ix2 0 v) : EReal)) v * unit2 := by
  funext v
  rw [halved_unit]
  unfold ZS maskedS
  split
  · split
    · show (_ * (_ * _) * _ : EReal) = _ * _ * _ * _
      ac_rfl
    · rfl
  · rfl

theorem tiles_eq (hg : Good a.1) : (info0 a.1).toInt ≤ ((1024 * (dynb0 a.1 0 - 1) : ℕ) : Int) := by
  have h1 := hg.steps
  have h2 := hg.cols_tiles
  have h3 : dynb0 a.1 0 = (nsteps a.1).toNat := rfl
  rw [h3, h1, Nat.add_sub_cancel]
  push_cast
  omega

theorem array11 (hg : Good a.1) (G : Vec Ideal S7680x128 .f32) (hG : (dat m a (trackV m a c) c).ArrAt 11 (cfg0 a).N G) :
    G = answerT (info0 a.1).toInt (V m c main_arg0) (V m c main_arg3) (V m c main_arg4) (V m c main_arg5) := by
  funext j
  rw [pair_eq j]
  refine (final11 m a c hg G hG (j 0) (j 1)).trans ?_
  refine (congrArg (fun z => lse z (1024 * (dynb0 a.1 0 - 1)) unit2) (ZT_eq m a c (j 0))).trans ?_
  exact whole _ _ _ (tiles_eq a hg)

theorem array12 (hg : Good a.1) (G : Vec Ideal S7680x128 .f32) (hG : (dat m a (trackV m a c) c).ArrAt 12 (cfg0 a).N G) :
    G = answerS (info0 a.1).toInt (V m c main_arg1) (V m c main_arg2) (V m c main_arg6) (V m c main_arg7) := by
  funext j
  rw [pair_eq j]
  refine (final12 m a c hg G hG (j 0) (j 1)).trans ?_
  refine (congrArg (fun z => lse z (1024 * (dynb0 a.1 0 - 1)) unit2) (ZS_eq m a c (j 0))).trans ?_
  exact whole _ _ _ (tiles_eq a hg)

/-- The launch with good tables ends with its two answers, and its arguments unchanged. -/
theorem answer_run (ρ : Dev nD → PrngReg) (hg : Good (pf0 m)) :
    θ_run defs (onTc (τ := τ) (main (F := Ideal))) ⟨m, fun _ => 0, ρ⟩ (fun r =>
      (∀ c : Dev nD, r.2.mem ((c : Thread nD τ).loc main_v0_2)
          = answerT ((m ((c : Thread nD τ).loc main_arg9) : Vec Ideal S5 .i32) (ix1 0)).toInt (m ((c : Thread nD τ).loc main_arg0)) (m ((c : Thread nD τ).loc main_arg3))
              (m ((c : Thread nD τ).loc main_arg4)) (m ((c : Thread nD τ).loc main_arg5))
        ∧ r.2.mem ((c : Thread nD τ).loc main_v0_3)
          = answerS ((m ((c : Thread nD τ).loc main_arg9) : Vec Ideal S5 .i32) (ix1 0)).toInt (m ((c : Thread nD τ).loc main_arg1)) (m ((c : Thread nD τ).loc main_arg2))
              (m ((c : Thread nD τ).loc main_arg6)) (m ((c : Thread nD τ).loc main_arg7)))
      ∧ Unchanged m r) := by
  refine (θ_run defs _ _).mono (fun r h => ⟨fun c => ?_, unchanged_of m ⟨pf0 m, ok_good _ hg⟩ (trackV m ⟨pf0 m, ok_good _ hg⟩ 0) h.1⟩)
    (run_main m ⟨pf0 m, ok_good _ hg⟩ (trackV m ⟨pf0 m, ok_good _ hg⟩ 0) ρ hg (pf0_eq m) (track_zero m _ 0) (keeps m _ 0 hg dev_eq))
  obtain rfl := dev_eq c
  have hw : info0 (pf0 m) = (m (((0 : Dev nD) : Thread nD τ).loc main_arg9) : Vec Ideal S5 .i32) (ix1 0) :=
    congrArg (m (((0 : Dev nD) : Thread nD τ).loc main_arg9) : Vec Ideal S5 .i32) (funext fun a => match a with | ⟨0, _⟩ => rfl)
  rw [← hw]
  exact ⟨array11 m ⟨pf0 m, ok_good _ hg⟩ 0 hg _ ((h.1 0).1 11), array12 m ⟨pf0 m, ok_good _ hg⟩ 0 hg _ ((h.1 0).1 12)⟩

end Cert.KernelIdeal.Hand
end
-- ==== Proof.RI.Host.lean ====
module

public import proofs.«01_k».proof.Proof.Gen.ReferenceIdeal.Frame
public import Idealize.ShloMosaic.Lib.StableHlo.RunRead

/-! The reference's teacher: the host operations' composed term, in named stages. -/

@[expose] public section

set_option maxRecDepth 16384
noncomputable section

namespace Cert.ReferenceIdeal.Hand

open Cert.ReferenceIdeal Cert.ReferenceIdeal.Gen
open Idealize.ShloMosaic Idealize.ShloMosaic.TcCoe

variable {F : FTy → Type} [FloatOps F]

/-- The packed bytes widened. -/
def wide (pk : Vec F S1280x151936 .i8) : IVec S1280x151936 32 := extui 32 pk natLt_8_32

/-- The low and the high halves, interleaved by rows. -/
def halves (pk : Vec F S1280x151936 .i8) : IVec S1280x2x151936 32 :=
  concatenate S1280x2x151936 1
    [⟨S1280x1x151936, broadcastInDim S1280x1x151936 ![0, 2] bcast_S1280x151936_S1280x1x151936_0_2
      (andi (wide pk) (broadcastInDim S1280x151936 ![] bcast_S_S1280x151936 (constantI S_ 32 15#32)))⟩,
     ⟨S1280x1x151936, broadcastInDim S1280x1x151936 ![0, 2] bcast_S1280x151936_S1280x1x151936_0_2
      (Host.shrui (wide pk) (broadcastInDim S1280x151936 ![] bcast_S_S1280x151936 (constantI S_ 32 4#32)))⟩]
    concatenates_S1280x1x151936_S1280x1x151936_S1280x2x151936_d1

/-- One value per group, spread over the group's rows. -/
def group (x : Vec F S20x151936 .f32) : FVec F S20x128x151936 .bf16 :=
  broadcastInDim S20x128x151936 ![0, 1, 2] bcast_S20x1x151936_S20x128x151936_0_1_2
    (broadcastInDim S20x1x151936 ![0, 2] bcast_S20x151936_S20x1x151936_0_2 (truncf .bf16 x bitsLt_bf16_f32))

/-- The teacher's weights. -/
def weights (pk : Vec F S1280x151936 .i8) (sc zz : Vec F S20x151936 .f32) : FVec F S2560x151936 .bf16 :=
  shapeCast S2560x151936
    (mulf (subf (sitofp .bf16 (shapeCast S20x128x151936 (halves pk) shapeCasts_S1280x2x151936_S20x128x151936)) (group zz)) (group sc))
    shapeCasts_S20x128x151936_S2560x151936

/-- Which columns count. -/
def valid (info : Vec F S5 .i32) : IVec S7680x151936 1 :=
  broadcastInDim S7680x151936 ![0, 1] bcast_S1x151936_S7680x151936_0_1
    (broadcastInDim S1x151936 ![1] bcast_S151936_S1x151936_1
      (cmpi .slt (iotaInDim S151936 32 0)
        (broadcastInDim S151936 ![] bcast_S_S151936 (shapeCast S_ (extractStridedSlice S1 ![0] info slices_S5_S1_0) shapeCasts_S1_S_))))

/-- The halved, masked logits. -/
def logits (ht : Vec F S7680x2560 .bf16) (pk : Vec F S1280x151936 .i8) (sc zz : Vec F S20x151936 .f32) (info : Vec F S5 .i32) : FVec F S7680x151936 .f32 :=
  select (valid info)
    (Host.divf (Host.dotGeneral dot_S7680x2560_S2560x151936_S7680x151936_1_0_0_1_n_n none ht (weights pk sc zz))
      (broadcastInDim S7680x151936 ![] bcast_S_S7680x151936 (constant S_ .f32 0x40000000#32)))
    (broadcastInDim S7680x151936 ![] bcast_S_S7680x151936 (constant S_ .f32 0xFF800000#32))

/-- A row's largest entry. -/
def top (y : FVec F S7680x151936 .f32) : FVec F S7680 .f32 :=
  Host.reduce FloatOps.maximumf y (constant S_ .f32 0xFF800000#32) reducesTo_S7680x151936_S7680_d1 h_S_

/-- A row's sum of exponentials, past its largest entry. -/
def mass (y : FVec F S7680x151936 .f32) : FVec F S7680 .f32 :=
  Host.reduceAdd (Host.exp (subf y (broadcastInDim S7680x151936 ![0, 1] bcast_S7680x1_S7680x151936_0_1
    (broadcastInDim S7680x1 ![0] bcast_S7680_S7680x1_0 (top y))))) (constant S_ .f32 0x00000000#32) reducesTo_S7680x151936_S7680_d1 h_S_

/-- The log-sum-exp in base two, in every lane. -/
def result (y : FVec F S7680x151936 .f32) : FVec F S7680x128 .f32 :=
  broadcastInDim S7680x128 ![0, 1] bcast_S7680x1_S7680x128_0_1 (broadcastInDim S7680x1 ![0] bcast_S7680_S7680x1_0
    (Host.divf (addf (top y) (Host.log (mass y)))
      (broadcastInDim S7680 ![] bcast_S_S7680 (Host.log (constant S_ .f32 0x40000000#32)))))

variable (m : (ℓ : Loc nD τ sig) → Buf (Elt F) ℓ)

theorem V_main_v42 (c : Dev nD) : V m c main_v42
    = result (logits (m ((c : Thread nD τ).loc main_arg0)) (m ((c : Thread nD τ).loc main_arg3)) (m ((c : Thread nD τ).loc main_arg4))
        (m ((c : Thread nD τ).loc main_arg5)) (m ((c : Thread nD τ).loc main_arg9))) := by
  unfold V
  simp only [hostOps0, hostOps0_1, hostOps0_2, List.flatten_cons, List.flatten_nil, List.append_nil, List.cons_append, List.nil_append]
  after_reads_simp
  rfl

end Cert.ReferenceIdeal.Hand
end
-- ==== Proof.RI.Weight.lean ====
module

public import proofs.«01_k».proof.Proof.RI.Host
public import proofs.«01_k».proof.Proof.KI.Value
public import Idealize.ShloMosaic.Lib.IdealHost

/-! The reference's teacher weights at an index, over the extended reals. -/

@[expose] public section

set_option maxRecDepth 16384
noncomputable section

namespace Cert.ReferenceIdeal.Hand

open Cert.ReferenceIdeal Cert.ReferenceIdeal.Gen
open Idealize.ShloMosaic Idealize.ShloMosaic.TcCoe Idealize.ShloMosaic.ValueIdx
open Cert.KernelIdeal.Hand (nib nib_lt weight)

/-- A value per row and column, given a middle axis of extent one. -/
theorem mid_apply {α : Type} (x : S1280x151936.Idx → α) (h : S1280x151936.BroadcastsInDim S1280x1x151936 ![0, 2]) (b : Fin 1280) (z : Fin 1) (v : Fin 151936) :
    broadcastInDim S1280x1x151936 ![0, 2] h x (ix3 b z v) = x (ix2 b v) :=
  broadcastInDim_apply _ h x (ix3 b z v) (ix2 b v) fun a => match a with | ⟨0, _⟩ => rfl | ⟨1, _⟩ => rfl

theorem low_word (w : BitVec 8) : ((w.setWidth 32 &&& 15#32).toInt) = ((nib w 0 : ℕ) : Int) := by
  revert w; decide

theorem high_word (w : BitVec 8) : ((w.setWidth 32 >>> 4#32).toInt) = ((nib w 1 : ℕ) : Int) := by
  revert w; decide

/-- The interleaved halves are the bytes' nibbles. -/
theorem halves_apply (pk : Vec Ideal S1280x151936 .i8) (b : Fin 1280) (p : Fin 2) (v : Fin 151936) :
    (halves (F := Ideal) pk (ix3 b p v)).toInt = ((nib (pk (ix2 b v)) p.val : ℕ) : Int) := by
  unfold halves
  match p with
  | ⟨0, _⟩ =>
    rw [concatenate_pair_apply_left (s₁ := S1280x1x151936) (s₂ := S1280x1x151936) 1 _ _ concatenates_S1280x1x151936_S1280x1x151936_S1280x2x151936_d1 _ rfl (ix3 b (0 : Fin 1) v)
      (fun a => match a with | ⟨0, _⟩ => rfl | ⟨1, _⟩ => rfl | ⟨2, _⟩ => rfl)]
    rw [mid_apply]
    exact low_word _
  | ⟨1, _⟩ =>
    rw [concatenate_pair_apply_right (s₁ := S1280x1x151936) (s₂ := S1280x1x151936) 1 _ _ concatenates_S1280x1x151936_S1280x1x151936_S1280x2x151936_d1 _ rfl rfl (ix3 b (0 : Fin 1) v)
      (fun a => match a with | ⟨0, _⟩ => fun _ => rfl | ⟨1, _⟩ => fun h => absurd rfl h | ⟨2, _⟩ => fun _ => rfl) rfl]
    rw [mid_apply]
    exact high_word _

/-- A group's value in each of its rows. -/
theorem group_apply (x : Vec Ideal S20x151936 .f32) (g : Fin 20) (r : Fin 128) (v : Fin 151936) : (group (F := Ideal) x (ix3 g r v) : EReal) = x (ix2 g v) := by
  unfold group
  refine (broadcastInDim_apply _ bcast_S20x1x151936_S20x128x151936_0_1_2 _ (ix3 g r v) (ix3 g (0 : Fin 1) v)
    (fun a => match a with | ⟨0, _⟩ => rfl | ⟨1, _⟩ => rfl | ⟨2, _⟩ => rfl)).trans ?_
  exact (broadcastInDim_apply _ bcast_S20x151936_S20x1x151936_0_2 _ (ix3 g (0 : Fin 1) v) (ix2 g v)
    (fun a => match a with | ⟨0, _⟩ => rfl | ⟨1, _⟩ => rfl))

/-- The reference's weights are the kernel's. -/
theorem weights_apply (pk : Vec Ideal S1280x151936 .i8) (sc zz : Vec Ideal S20x151936 .f32) (k : Fin 2560) (v : Fin 151936) :
    (weights (F := Ideal) pk sc zz (ix2 k v) : EReal) = weight pk sc zz k v := by
  have hk := k.isLt
  unfold weights
  refine (shapeCast_apply _ shapeCasts_S20x128x151936_S2560x151936 (ix2 k v) (ix3 (⟨k.val / 128, by omega⟩ : Fin 20) (⟨k.val % 128, by omega⟩ : Fin 128) v) (by
    rw [Shape.rowMajor_val_three, Shape.rowMajor_val_two]
    show (k.val / 128 * 128 + k.val % 128) * 151936 + v.val = k.val * 151936 + v.val
    omega)).trans ?_
  show ((_ : EReal) - (group (F := Ideal) zz (ix3 _ _ v) : EReal)) * (group (F := Ideal) sc (ix3 _ _ v) : EReal) = _
  rw [group_apply, group_apply]
  unfold weight
  refine congrArg (fun t : EReal => (t - _) * _) ?_
  show ((((shapeCast S20x128x151936 (halves (F := Ideal) pk) shapeCasts_S1280x2x151936_S20x128x151936 (ix3 _ _ v)).toInt : ℝ)) : EReal) = _
  rw [shapeCast_apply _ shapeCasts_S1280x2x151936_S20x128x151936 _ (ix3 (⟨64 * (k.val / 128) + k.val % 128 / 2, by omega⟩ : Fin 1280) (⟨k.val % 2, by omega⟩ : Fin 2) v) (by
    rw [Shape.rowMajor_val_three, Shape.rowMajor_val_three]
    show ((64 * (k.val / 128) + k.val % 128 / 2) * 2 + k.val % 2) * 151936 + v.val = (k.val / 128 * 128 + k.val % 128) * 151936 + v.val
    omega), halves_apply]
  exact congrArg (fun t : ℝ => (t : EReal)) (Int.cast_natCast _)

end Cert.ReferenceIdeal.Hand
end
-- ==== Proof.RI.Teacher.lean ====
module

public import proofs.«01_k».proof.Proof.RI.Weight
public import proofs.«01_k».proof.Proof.RI.Rows

/-! The reference's teacher result at an index, over the extended reals. -/

@[expose] public section

set_option maxRecDepth 16384
noncomputable section

namespace Cert.ReferenceIdeal.Hand

open Cert.ReferenceIdeal Cert.ReferenceIdeal.Gen Cert.Lse
open Idealize.ShloMosaic Idealize.ShloMosaic.TcCoe Idealize.ShloMosaic.ValueIdx
open Cert.KernelIdeal.Hand (nib nib_lt weight logitT unit2 ofBits_neginf select_if)

theorem lift_row (R : Fin 7680) (k : Fin 151936) (h : S7680x151936.Reduces [1] S7680) : h.lift (ix1 R) k = ix2 R k :=
  funext fun a => Fin.ext (match a with | ⟨0, _⟩ => rfl | ⟨1, _⟩ => rfl)

theorem ofBits_two : (Ideal.ofBits .f32 0x40000000#32 : EReal) = ((2 : ℝ) : EReal) := by
  simp [Ideal.ofBits, Ideal.ieee, -EReal.coe_mul, -EReal.coe_add]; try norm_num

theorem exp_at {s : Shape} (x : FVec Ideal s .f32) (i : s.Idx) : (Host.exp x i : EReal) = Ideal.exp (x i) := rfl
theorem log_at {s : Shape} (x : FVec Ideal s .f32) (i : s.Idx) : (Host.log x i : EReal) = Ideal.log (x i) := rfl
theorem sub_at {s : Shape} (x y : FVec Ideal s .f32) (i : s.Idx) : (subf x y i : EReal) = (x i : EReal) - (y i : EReal) := rfl
theorem add_at {s : Shape} (x y : FVec Ideal s .f32) (i : s.Idx) : (addf x y i : EReal) = (x i : EReal) + (y i : EReal) := rfl

/-- A value per row, as a column. -/
theorem col_apply {α : Type} (x : S7680.Idx → α) (h : S7680.BroadcastsInDim S7680x1 ![0]) (R : Fin 7680) (z : Fin 1) :
    broadcastInDim S7680x1 ![0] h x (ix2 R z) = x (ix1 R) :=
  broadcastInDim_apply _ h x (ix2 R z) (ix1 R) fun a => match a with | ⟨0, _⟩ => rfl

theorem reduces_row : S7680x151936.Reduces [1] S7680 := by decide

variable (y : FVec Ideal S7680x151936 .f32) (Y : ℕ → EReal) (R : Fin 7680)

theorem top_apply (h : ∀ v : Fin 151936, y (ix2 R v) = Y v.val) : (top (F := Ideal) y (ix1 R) : EReal) = (Finset.range 151936).sup Y := by
  unfold top
  refine (Host.reduce_eq_fold_single (FloatOps.maximumf (F := Ideal) (φ := .f32)) y _ reducesTo_S7680x151936_S7680_d1 reduces_row h_S_ (ix1 R)).trans ?_
  refine Eq.trans ?_ (sup_fin Y 151936)
  rw [show (constant (F := Ideal) S_ .f32 0xFF800000#32) (Shape.Idx.first h_S_) = (⊥ : EReal) from ofBits_neginf]
  refine Eq.trans ?_ (Finset.sup_congr rfl fun v _ => (congrArg y (lift_row R v reduces_row)).trans (h v))
  rfl

theorem mass_apply (h : ∀ v : Fin 151936, y (ix2 R v) = Y v.val) :
    (mass (F := Ideal) y (ix1 R) : EReal) = ∑ v ∈ Finset.range 151936, Ideal.exp (Y v - (Finset.range 151936).sup Y) := by
  unfold mass
  refine (hostReduceAdd_apply _ _ reducesTo_S7680x151936_S7680_d1 h_S_ (ix1 R)).trans ?_
  refine (Ideal.hostReduceAdd_single reducesTo_S7680x151936_S7680_d1 reduces_row _ _ (ix1 R)).trans ?_
  rw [show (constant (F := Ideal) S_ .f32 0x00000000#32) (Shape.Idx.first h_S_) = (0 : EReal) from by
    show Ideal.ofBits .f32 0x00000000#32 = 0
    simp [Ideal.ofBits, Ideal.ieee], zero_add]
  refine Eq.trans ?_ (Finset.sum_range _).symm
  refine Finset.sum_congr rfl fun v _ => ?_
  rw [lift_row R v reduces_row]
  refine (exp_at _ _).trans ((congrArg Ideal.exp (sub_at _ _ _)).trans ?_)
  rw [broadcastInDim_apply _ bcast_S7680x1_S7680x151936_0_1 _ (ix2 R v) (ix2 R (0 : Fin 1)) (fun a => match a with | ⟨0, _⟩ => rfl | ⟨1, _⟩ => rfl), col_apply, h v]
  exact congrArg (fun t : EReal => Ideal.exp (Y v.val - t)) (top_apply y Y R h)

theorem log_two : Ideal.log (((2 : ℝ)) : EReal) = ((Real.log 2 : ℝ) : EReal) := by
  exact (Ideal.log_coe 2).trans (if_neg (by norm_num))

theorem div_log_two (x : EReal) : Ideal.div x ((Real.log 2 : ℝ) : EReal) = x * unit2 := by
  rw [Ideal.div_coe (Real.log_pos (by norm_num)).ne', one_div]

theorem result_apply (h : ∀ v : Fin 151936, y (ix2 R v) = Y v.val) (l : Fin 128) : (result (F := Ideal) y (ix2 R l) : EReal) = plain Y := by
  unfold result
  refine (broadcastInDim_apply _ bcast_S7680x1_S7680x128_0_1 _ (ix2 R l) (ix2 R (0 : Fin 1)) (fun a => match a with | ⟨0, _⟩ => rfl | ⟨1, _⟩ => rfl)).trans ?_
  rw [col_apply]
  refine (hostDivf_apply _ _ _).trans ?_
  rw [add_at, log_at, broadcastInDim_scalar_apply, log_at]
  rw [show (constant (F := Ideal) S_ .f32 0x40000000#32 _ : EReal) = Ideal.ofBits .f32 0x40000000#32 from rfl]
  rw [top_apply y Y R h, mass_apply y Y R h, ofBits_two, log_two, div_log_two]
  rfl

/-! ### The masked logits -/

theorem index_lt (v : Fin 151936) (w : BitVec 32) :
    IntOp.cmpi .slt (BitVec.ofNat 32 v.val) w = if ((v.val : ℕ) : Int) < w.toInt then 1#1 else 0#1 := by
  have hv := v.isLt
  have hi : (BitVec.ofNat 32 v.val).toInt = ((v.val : ℕ) : Int) := by
    rw [BitVec.toInt_eq_toNat_of_lt] <;> simp <;> omega
  rw [← hi]
  show BitVec.ofBool (BitVec.slt _ _) = _
  rw [BitVec.slt]
  by_cases h : (BitVec.ofNat 32 v.val).toInt < w.toInt <;> simp [h]

theorem valid_apply (info : Vec Ideal S5 .i32) (v : Fin 151936) :
    valid (F := Ideal) info (ix2 R v) = if ((v.val : ℕ) : Int) < (info (ix1 (0 : Fin 5))).toInt then 1#1 else 0#1 := by
  unfold valid
  refine (broadcastInDim_apply _ bcast_S1x151936_S7680x151936_0_1 _ (ix2 R v) (ix2 (0 : Fin 1) v) (fun a => match a with | ⟨0, _⟩ => rfl | ⟨1, _⟩ => rfl)).trans ?_
  refine (broadcastInDim_apply _ bcast_S151936_S1x151936_1 _ (ix2 (0 : Fin 1) v) (ix1 v) (fun a => match a with | ⟨0, _⟩ => rfl)).trans ?_
  refine Eq.trans ?_ (index_lt v _)
  show IntOp.cmpi .slt (BitVec.ofNat 32 v.val) (shapeCast S_ (extractStridedSlice S1 ![0] info slices_S5_S1_0) shapeCasts_S1_S_ _) = _
  refine congrArg (IntOp.cmpi .slt (BitVec.ofNat 32 v.val)) ?_
  refine (shapeCast_apply _ shapeCasts_S1_S_ _ (ix1 (0 : Fin 1)) (by rfl)).trans ?_
  exact extractStridedSlice_apply _ _ _ _ _ fun a => match a with | ⟨0, _⟩ => rfl

theorem dot_apply (l : FVec Ideal S7680x2560 .bf16) (r : FVec Ideal S2560x151936 .bf16) (v : Fin 151936) :
    (Host.dotGeneral (F := Ideal) dot_S7680x2560_S2560x151936_S7680x151936_1_0_0_1_n_n none l r (ix2 R v) : EReal) = ∑ k : Fin 2560, l (ix2 R k) * r (ix2 k v) := by
  refine (Ideal.dotGeneral_apply dot_S7680x2560_S2560x151936_S7680x151936_1_0_0_1_n_n none _ l r (ix2 R v)).trans ?_
  rw [← Equiv.sum_comp (contrEquiv1 dot_S7680x2560_S2560x151936_S7680x151936_1_0_0_1_n_n 2560 rfl rfl).symm]
  refine Finset.sum_congr rfl fun k _ => ?_
  have hk := contrEquiv1_symm_val dot_S7680x2560_S2560x151936_S7680x151936_1_0_0_1_n_n 2560 rfl rfl k
  refine congrArg₂ (· * ·) (congrArg l (Shape.idx_ext₂ rfl ?_)) (congrArg r (Shape.idx_ext₂ ?_ rfl))
  · exact hk
  · exact hk

theorem div_two (x : EReal) : Ideal.div x (Ideal.ofBits .f32 0x40000000#32) = x * (((1 / 2 : ℝ)) : EReal) := by
  rw [ofBits_two, Ideal.div_coe (by norm_num)]

theorem logits_apply (ht : Vec Ideal S7680x2560 .bf16) (pk : Vec Ideal S1280x151936 .i8) (sc zz : Vec Ideal S20x151936 .f32) (info : Vec Ideal S5 .i32)
    (v : Fin 151936) : (logits (F := Ideal) ht pk sc zz info (ix2 R v) : EReal) = halved (info (ix1 (0 : Fin 5))).toInt (logitT ht pk sc zz R) v.val := by
  unfold logits
  show Scalar.select (valid (F := Ideal) info (ix2 R v))
    (Ideal.div (Host.dotGeneral (F := Ideal) dot_S7680x2560_S2560x151936_S7680x151936_1_0_0_1_n_n none ht (weights (F := Ideal) pk sc zz) (ix2 R v)) (Ideal.ofBits .f32 0x40000000#32))
    (FloatOps.ofBits (F := Ideal) .f32 0xFF800000#32 : EReal) = _
  rw [valid_apply, select_if, ofBits_neginf, div_two, dot_apply]
  unfold halved
  rw [dif_pos v.isLt]
  refine Cert.KernelIdeal.Hand.if_eq (congrArg (fun t : EReal => t * _) ?_)
  exact Finset.sum_congr rfl fun k _ => congrArg (fun t : EReal => (ht (ix2 R k) : EReal) * t) (weights_apply pk sc zz k v)

/-- The reference's teacher, in every lane. -/
theorem teacher_apply (ht : Vec Ideal S7680x2560 .bf16) (pk : Vec Ideal S1280x151936 .i8) (sc zz : Vec Ideal S20x151936 .f32) (info : Vec Ideal S5 .i32)
    (l : Fin 128) : (result (F := Ideal) (logits (F := Ideal) ht pk sc zz info) (ix2 R l) : EReal)
      = plain (halved (info (ix1 (0 : Fin 5))).toInt (logitT ht pk sc zz R)) :=
  result_apply _ _ R (logits_apply R ht pk sc zz info) l

end Cert.ReferenceIdeal.Hand
end
-- ==== Proof.RI.Student.lean ====
module

public import proofs.«01_k».proof.Proof.RI.Teacher

/-! The reference's student result at an index, over the extended reals. -/

@[expose] public section

set_option maxRecDepth 16384
noncomputable section

namespace Cert.ReferenceIdeal.Hand

open Cert.ReferenceIdeal Cert.ReferenceIdeal.Gen Cert.Lse
open Idealize.ShloMosaic Idealize.ShloMosaic.TcCoe Idealize.ShloMosaic.ValueIdx
open Cert.KernelIdeal.Hand (codesS unit2 ofBits_neginf select_if)

theorem rowB {α : Type} (x : S1x151936.Idx → α) (h : S1x151936.Broadcasts S7680x151936) (R : Fin 7680) (v : Fin 151936) :
    broadcastTo S7680x151936 x h (ix2 R v) = x (ix2 0 v) := broadcastTo_1b_ab_apply x h R v

theorem colB {α : Type} (x : S7680x1.Idx → α) (h : S7680x1.Broadcasts S7680x151936) (R : Fin 7680) (v : Fin 151936) :
    broadcastTo S7680x151936 x h (ix2 R v) = x (ix2 R 0) :=
  broadcastTo_apply x h (ix2 R v) (ix2 R 0) fun a => match a with | ⟨0, _⟩ => rfl | ⟨1, _⟩ => rfl

theorem lanes {α : Type} (x : S7680x1.Idx → α) (h : S7680x1.Broadcasts S7680x128) (R : Fin 7680) (l : Fin 128) :
    broadcastTo S7680x128 x h (ix2 R l) = x (ix2 R 0) :=
  broadcastTo_apply x h (ix2 R l) (ix2 R 0) fun a => match a with | ⟨0, _⟩ => rfl | ⟨1, _⟩ => rfl

theorem asColumn {α : Type} (x : S7680.Idx → α) (h : S7680.ShapeCasts S7680x1) (R : Fin 7680) (z : Fin 1) : shapeCast S7680x1 x h (ix2 R z) = x (ix1 R) :=
  shapeCast_apply x h (ix2 R z) (ix1 R) (by
    rw [Shape.rowMajor_val_one, Shape.rowMajor_val_two]
    show R.val = R.val * 1 + z.val
    omega)

variable (y : FVec Ideal S7680x151936 .f32) (Y : ℕ → EReal) (R : Fin 7680)

theorem rowTop (h : ∀ v : Fin 151936, y (ix2 R v) = Y v.val) (hr : S7680x151936.Reduces [1] S7680) (h1) (h2) :
    (multiReduction .maximumf [1] S7680 y 0xFF800000#32 hr h1 h2 (ix1 R) : EReal) = (Finset.range 151936).sup Y := by
  refine (Ideal.multiReduction_maximumf_single y _ hr h1 h2 (ix1 R)).trans ?_
  rw [ofBits_neginf]
  refine Eq.trans ?_ (sup_fin Y 151936)
  refine Eq.trans ?_ (Finset.sup_congr rfl fun v _ => (congrArg y (lift_row R v hr)).trans (h v))
  rfl

theorem rowMass (e : FVec Ideal S7680x151936 .f32) (E : ℕ → EReal) (h : ∀ v : Fin 151936, e (ix2 R v) = E v.val) (hr : S7680x151936.Reduces [1] S7680) (h1) (h2) :
    (multiReduction .add [1] S7680 e 0x00000000#32 hr h1 h2 (ix1 R) : EReal) = ∑ v ∈ Finset.range 151936, E v := by
  refine (Ideal.multiReduction_add_single e _ hr h1 h2 (ix1 R)).trans ?_
  refine Eq.trans ?_ (Finset.sum_range _).symm
  exact Finset.sum_congr rfl fun v _ => (congrArg e (lift_row R v hr)).trans (h v)

theorem kexp_at {s : Shape} (x : FVec Ideal s .f32) (i : s.Idx) : (exp x i : EReal) = Ideal.exp (x i) := rfl
theorem klog_at {s : Shape} (x : FVec Ideal s .f32) (i : s.Idx) : (log x i : EReal) = Ideal.log (x i) := rfl
theorem kdiv_at {s : Shape} (x y : FVec Ideal s .f32) (i : s.Idx) : (divf x y i : EReal) = Ideal.div (x i) (y i) := rfl
theorem kmul_at {s : Shape} (x y : FVec Ideal s .f32) (i : s.Idx) : (mulf x y i : EReal) = (x i : EReal) * (y i : EReal) := rfl
theorem select_at {s : Shape} {α : Type} (c : IVec s 1) (x y : s.Idx → α) (i : s.Idx) : select c x y i = Scalar.select (c i) (x i) (y i) := rfl

theorem dotB (l : FVec Ideal S7680x1024 .fp8e4m3) (r : FVec Ideal S151936x1024 .fp8e4m3) (v : Fin 151936) :
    (matmul dot_S7680x1024_S151936x1024_S7680x151936_1_1_0_0_n_n none l r (constant S7680x151936 .f32 0x00000000#32) (ix2 R v) : EReal)
      = ∑ k : Fin 1024, l (ix2 R k) * r (ix2 v k) := by
  refine (Ideal.matmul_constant_zero_apply _ none l r (ix2 R v)).trans ?_
  rw [← Equiv.sum_comp (contrEquiv1 dot_S7680x1024_S151936x1024_S7680x151936_1_1_0_0_n_n 1024 rfl rfl).symm]
  refine Finset.sum_congr rfl fun k _ => ?_
  have hk := contrEquiv1_symm_val dot_S7680x1024_S151936x1024_S7680x151936_1_1_0_0_n_n 1024 rfl rfl k
  refine congrArg₂ (· * ·) (congrArg l (Shape.idx_ext₂ rfl ?_)) (congrArg r (Shape.idx_ext₂ rfl ?_))
  · exact hk
  · exact hk

/-- The body's halved, masked logits. -/
def stu (v0 : Vec Ideal S7680x1024 .fp8e4m3) (v1 : Vec Ideal S151936x1024 .fp8e4m3) (v3 : Vec Ideal S7680x1 .f32) (v6 : Vec Ideal S1x151936 .f32) (v10 : BitVec 32) :
    FVec Ideal S7680x151936 .f32 :=
  select (broadcastTo S7680x151936 (shapeCast S1x151936 (cmpi .slt (iota .tc S1x151936 32 [1] iota_S1x151936_d1_w32) (broadcast S1x151936 v10))
      shapeCasts_S1x151936_S1x151936) broadcasts_S1x151936_S7680x151936)
    (divf (mulf (mulf (matmul (φ₁ := .fp8e4m3) (φ₂ := .fp8e4m3) dot_S7680x1024_S151936x1024_S7680x151936_1_1_0_0_n_n none v0 v1 (constant S7680x151936 .f32 0x00000000#32))
      (broadcastTo S7680x151936 v3 broadcasts_S7680x1_S7680x151936)) (broadcastTo S7680x151936 v6 broadcasts_S1x151936_S7680x151936))
      (broadcast S7680x151936 (Scalar.ofBits (F := Ideal) .f32 0x40000000#32)))
    (broadcast S7680x151936 (Scalar.ofBits (F := Ideal) .f32 0xFF800000#32))

theorem stu_apply (v0 : Vec Ideal S7680x1024 .fp8e4m3) (v1 : Vec Ideal S151936x1024 .fp8e4m3) (v3 : Vec Ideal S7680x1 .f32) (v6 : Vec Ideal S1x151936 .f32) (v10 : BitVec 32)
    (v : Fin 151936) : (stu v0 v1 v3 v6 v10 (ix2 R v) : EReal)
      = halved v10.toInt (fun v => codesS v0 v1 R v * (v3 (ix2 R 0) : EReal) * (v6 (ix2 0 v) : EReal)) v.val := by
  unfold stu
  rw [select_at, rowB, shapeCast_self, kdiv_at, kmul_at, kmul_at, dotB, colB, rowB]
  rw [show cmpi .slt (iota .tc S1x151936 32 [1] iota_S1x151936_d1_w32) (broadcast S1x151936 v10) (ix2 (0 : Fin 1) v)
    = IntOp.cmpi .slt (BitVec.ofNat 32 v.val) v10 from congrArg (fun t => IntOp.cmpi .slt t v10) (iota_single_apply _ _ _ _ _ _), index_lt, select_if]
  rw [show (broadcast S7680x151936 (Scalar.ofBits (F := Ideal) .f32 0x40000000#32) (ix2 R v) : EReal) = Ideal.ofBits .f32 0x40000000#32 from rfl, div_two]
  rw [show (broadcast S7680x151936 (Scalar.ofBits (F := Ideal) .f32 0xFF800000#32) (ix2 R v) : EReal) = ⊥ from ofBits_neginf]
  unfold halved
  rw [dif_pos v.isLt]
  rfl

/-- The body's result, in every lane. -/
theorem body_apply (v0 : Vec Ideal S7680x1024 .fp8e4m3) (v1 : Vec Ideal S151936x1024 .fp8e4m3) (v3 : Vec Ideal S7680x1 .f32) (v6 : Vec Ideal S1x151936 .f32) (v10 : BitVec 32)
    (l : Fin 128) : (k0_pay1 (F := Ideal) v0 v1 v3 v6 v10 (ix2 R l) : EReal)
      = plain (halved v10.toInt (fun v => codesS v0 v1 R v * (v3 (ix2 R 0) : EReal) * (v6 (ix2 0 v) : EReal))) := by
  have hy := stu_apply R v0 v1 v3 v6 v10
  generalize hY : halved v10.toInt (fun v => codesS v0 v1 R v * (v3 (ix2 R 0) : EReal) * (v6 (ix2 0 v) : EReal)) = Y at hy ⊢
  have ht := rowTop (stu v0 v1 v3 v6 v10) Y R hy reduces_S7680x151936_S7680 (.inl rfl) rfl
  show (broadcastTo S7680x128 (shapeCast S7680x1 (divf (addf (shapeCast S7680x1 (multiReduction .maximumf [1] S7680 (stu v0 v1 v3 v6 v10) 0xFF800000#32 reduces_S7680x151936_S7680 (.inl rfl) rfl) shapeCasts_S7680_S7680x1)
    (log (shapeCast S7680x1 (multiReduction .add [1] S7680 (exp (subf (stu v0 v1 v3 v6 v10) (broadcastTo S7680x151936 (shapeCast S7680x1 (multiReduction .maximumf [1] S7680 (stu v0 v1 v3 v6 v10) 0xFF800000#32 reduces_S7680x151936_S7680 (.inl rfl) rfl)
      shapeCasts_S7680_S7680x1) broadcasts_S7680x1_S7680x151936))) 0x00000000#32 reduces_S7680x151936_S7680 (.inl rfl) rfl) shapeCasts_S7680_S7680x1)))
    (log (broadcast S7680x1 (Scalar.ofBits (F := Ideal) .f32 0x40000000#32)))) shapeCasts_S7680x1_S7680x1) broadcasts_S7680x1_S7680x128 (ix2 R l) : EReal) = _
  rw [lanes, shapeCast_self, kdiv_at, add_at, klog_at, klog_at, asColumn, asColumn, ht]
  rw [rowMass R _ (fun v => Ideal.exp (Y v - (Finset.range 151936).sup Y)) (fun v => by
    rw [kexp_at, sub_at, colB, asColumn, ht, hy v]) reduces_S7680x151936_S7680 (.inl rfl) rfl]
  rw [show (broadcast S7680x1 (Scalar.ofBits (F := Ideal) .f32 0x40000000#32) (ix2 R (0 : Fin 1)) : EReal) = Ideal.ofBits .f32 0x40000000#32 from rfl]
  rw [ofBits_two, log_two, div_log_two]
  rfl

end Cert.ReferenceIdeal.Hand
end
-- ==== Proof.RI.Run.lean ====
module

public import proofs.«01_k».proof.Proof.Gen.ReferenceIdeal.Frame
public import Idealize.ShloMosaic.Lib.Pipeline.ValueKit
public import Idealize.ShloMosaic.Lib.Pointwise

/-! What the reference's student array ends at, as a term over the arguments. -/

@[expose] public section

set_option maxRecDepth 16384
noncomputable section

namespace Cert.ReferenceIdeal.Hand

open Cert.ReferenceIdeal Cert.ReferenceIdeal.Gen
open Idealize.ShloMosaic Idealize.ShloMosaic.TcCoe
open Idealize.ShloMosaic.Pipeline (Dat)

variable {F : FTy → Type} [FloatOps F]
variable (m : (ℓ : Loc nD τ sig) → Buf (Elt F) ℓ)

/-- Every window's block index at the one point. -/
theorem idx : ∀ t : Fin cfg0.N, win0_0.index t = ![0, 0] ∧ win0_1.index t = ![0, 0] ∧ win0_2.index t = ![0, 0] ∧ win0_3.index t = ![0, 0]
    ∧ win0_4.index t = ![0] ∧ win0_5.index t = ![0, 0] :=
  (by decide +kernel : ∀ t : Fin grid0.N, _)

theorem iblk0 (c : Dev nD) : iblk m c 0 t0_0 = V m c main_arg1 := by blk_ext! [iblk, idx t0_0]
theorem iblk1 (c : Dev nD) : iblk m c 1 t0_0 = V m c main_arg2 := by blk_ext! [iblk, idx t0_0]
theorem iblk2 (c : Dev nD) : iblk m c 2 t0_0 = V m c main_arg6 := by blk_ext! [iblk, idx t0_0]
theorem iblk3 (c : Dev nD) : iblk m c 3 t0_0 = V m c main_arg7 := by blk_ext! [iblk, idx t0_0]
theorem iblk4 (c : Dev nD) : iblk m c 4 t0_0 = V m c main_arg9 := by blk_ext! [iblk, idx t0_0]

theorem final (c : Dev nD) (G : Vec F S7680x128 .f32) (hG : outsAt0 m c t0_0 = G) : (dats m 0 c).arrAt 5 cfg0.N = G := by
  refine (dats m 0 c).arrAt_eq_of_after_last 5 t0_0 (by decide +kernel) _ fun j => ?_
  blk_simp
  rw [after0_5, hG]

/-- The first of the scales in each row, and the first word of the table. -/
def firstScale (x : Vec F S7680x128 .f32) : Vec F S7680x1 .f32 := fun j => x (ValueIdx.ix2 (j 0) 0)
def firstWord (x : Vec F S5 .i32) : Elt F .i32 := x (ValueIdx.ix1 0)

theorem outs (c : Dev nD) : outsAt0 m c t0_0
    = k0_pay1 (V m c main_arg1) (V m c main_arg6) (firstScale (V m c main_arg2)) (V m c main_arg7) (firstWord (F := F) (V m c main_arg9)) := by
  unfold outsAt0
  rw [iblk0, iblk1, iblk2, iblk3, iblk4]
  generalize V m c main_arg1 = x1
  generalize V m c main_arg2 = x2
  generalize V m c main_arg6 = x3
  generalize V m c main_arg7 = x4
  generalize V m c main_arg9 = x5
  frame_out
  have e2 : View.read (Elt F) (View.whole cc0_stg1_0) ((Memref.isWhole_whole cc0_stg1_0).unread x2) = x2 := (Memref.isWhole_whole cc0_stg1_0).read_unread x2
  have e5 : View.read (Elt F) (View.whole cc0_stg4_0) ((Memref.isWhole_whole cc0_stg4_0).unread x5) = x5 := (Memref.isWhole_whole cc0_stg4_0).read_unread x5
  have h1 : View.ld x2 (Rect.unit ![0, 0] ![7680, 1] inb_S7680x128_S7680x1_0_0) = firstScale (F := F) x2 := by
    funext j
    refine congrArg x2 (funext fun a => Fin.ext ?_)
    match a with
    | ⟨0, _⟩ => show 0 + 1 * (j 0).val = (j 0).val; omega
    | ⟨1, _⟩ => show 0 + 1 * (j 1).val = 0; have : (j 1).val < 1 := (j 1).isLt; omega
  have h2 : ∀ j, View.ld x5 (Rect.unit ![0] ![1] inb_S5_S1_0) j = firstWord (F := F) x5 := by
    intro j
    refine congrArg x5 (funext fun a => Fin.ext ?_)
    match a with
    | ⟨0, _⟩ => show 0 + 1 * (j 0).val = 0; have : (j 0).val < 1 := (j 0).isLt; omega
  refine congr (congr (congr (congr (congrArg k0_pay1 ?_) ?_) ?_) ?_) ?_
  · exact (Memref.isWhole_whole cc0_stg0_0).read_unread x1
  · exact (Memref.isWhole_whole cc0_stg2_0).read_unread x3
  · exact (congrArg (fun t => View.ld t (Rect.unit ![0, 0] ![7680, 1] inb_S7680x128_S7680x1_0_0)) e2).trans h1
  · exact (Memref.isWhole_whole cc0_stg3_0).read_unread x4
  · exact (congrArg (fun t => View.ld t (Rect.unit ![0] ![1] inb_S5_S1_0) _) e5).trans (h2 _)

end Cert.ReferenceIdeal.Hand
end
-- ==== Proof.KI.Algebraic.lean ====
module

public import proofs.«01_k».proof.Proof.KI.Claims
public import proofs.«01_k».proof.Proof.KI.Answer
public import proofs.«01_k».proof.Proof.RI.Student
public import proofs.«01_k».proof.Proof.RI.Run

/-! Over the extended reals the launch and the reference leave the same two results. -/

@[expose] public section

set_option maxRecDepth 16384
noncomputable section

namespace Cert.ReferenceIdeal.Hand

open Cert.ReferenceIdeal Cert.ReferenceIdeal.Gen Cert.Lse
open Idealize.ShloMosaic Idealize.ShloMosaic.TcCoe Idealize.SL.Sem
open Cert.KernelIdeal.Hand (answerT answerS)

/-- The reference's teacher array. -/
theorem teacher_eq (ht : Vec Ideal S7680x2560 .bf16) (pk : Vec Ideal S1280x151936 .i8) (sc zz : Vec Ideal S20x151936 .f32) (info : Vec Ideal S5 .i32) :
    result (F := Ideal) (logits (F := Ideal) ht pk sc zz info) = answerT (info (ValueIdx.ix1 0)).toInt ht pk sc zz := by
  funext j
  have hj : j = ValueIdx.ix2 (j 0) (j 1) := funext fun a => match a with | ⟨0, _⟩ => rfl | ⟨1, _⟩ => rfl
  exact (congrArg _ hj).trans (teacher_apply (j 0) ht pk sc zz info (j 1))

/-- The reference's student array. -/
theorem student_eq (cd : Vec Ideal S7680x1024 .fp8e4m3) (cs : Vec Ideal S7680x128 .f32) (ws : Vec Ideal S151936x1024 .fp8e4m3) (wr : Vec Ideal S1x151936 .f32)
    (info : Vec Ideal S5 .i32) :
    k0_pay1 (F := Ideal) cd ws (firstScale (F := Ideal) cs) wr (firstWord (F := Ideal) info) = answerS (info (ValueIdx.ix1 0)).toInt cd cs ws wr := by
  funext j
  have hj : j = ValueIdx.ix2 (j 0) (j 1) := funext fun a => match a with | ⟨0, _⟩ => rfl | ⟨1, _⟩ => rfl
  exact (congrArg _ hj).trans (body_apply (j 0) cd ws (firstScale (F := Ideal) cs) wr (firstWord (F := Ideal) info) (j 1))

variable (m : (ℓ : Loc nD τ sig) → Buf (Elt Ideal) ℓ) (ρ : Dev nD → PrngReg)

/-- The reference ends with the same two answers. -/
theorem answer_run :
    θ_run defs (onTc (τ := τ) (main (F := Ideal))) ⟨m, fun _ => 0, ρ⟩ (fun r => ∀ c : Dev nD,
      r.2.mem ((c : Thread nD τ).loc main_v42)
          = answerT ((m ((c : Thread nD τ).loc main_arg9) : Vec Ideal S5 .i32) (ValueIdx.ix1 0)).toInt (m ((c : Thread nD τ).loc main_arg0)) (m ((c : Thread nD τ).loc main_arg3))
              (m ((c : Thread nD τ).loc main_arg4)) (m ((c : Thread nD τ).loc main_arg5))
        ∧ r.2.mem ((c : Thread nD τ).loc main_v43)
          = answerS ((m ((c : Thread nD τ).loc main_arg9) : Vec Ideal S5 .i32) (ValueIdx.ix1 0)).toInt (m ((c : Thread nD τ).loc main_arg1)) (m ((c : Thread nD τ).loc main_arg2))
              (m ((c : Thread nD τ).loc main_arg6)) (m ((c : Thread nD τ).loc main_arg7))) := by
  refine (θ_run defs _ _).mono (fun r h c => ⟨?_, ?_⟩) (run_main (F := Ideal) m ρ)
  · refine ((h c).2 main_v42 (Pipeline.mem_restRefs_of main_v42 (by decide) (by decide))).trans ((V_main_v42 m c).trans ?_)
    exact teacher_eq _ _ _ _ _
  · refine ((h c).1 5).trans (final m c _ ((outs m c).trans ?_))
    rw [V_main_arg1, V_main_arg2, V_main_arg6, V_main_arg7, V_main_arg9]
    exact student_eq _ _ _ _ _

end Cert.ReferenceIdeal.Hand

namespace Cert.Proof.Claims

open Idealize.ShloMosaic Idealize.ShloMosaic.TcCoe Idealize.SL.Sem

variable [Cert.Pre_launched.Facts]

theorem algebraic : Cert.algebraic_KernelIdeal_ReferenceIdeal := by
  intro m ρ m' ρ' hpre hagree
  refine ⟨_, _, (θ_run Cert.KernelIdeal.defs _ _).mono (fun _ h c => ⟨(h.1 c).1, (h.1 c).2, h.2 c⟩)
    (Cert.KernelIdeal.Hand.answer_run m ρ (good_KernelIdeal hpre)), ?_⟩
  have hu := Cert.ReferenceIdeal.Gen.unchanged (F := Ideal) m' ρ'
  refine (θ_run Cert.ReferenceIdeal.defs _ _).mono (fun r h c => ?_) (θ_run_and (Cert.ReferenceIdeal.Hand.answer_run m' ρ') hu)
  obtain ⟨h0, h1, h2, h3, h4, h5, h6, h7, -, h9, -⟩ := hagree c
  refine ⟨(h.1 c).1.trans ?_, (h.1 c).2.trans ?_, h.2 c⟩
  · rw [h0, h3, h4, h5, h9]
  · rw [h1, h2, h6, h7, h9]

end Cert.Proof.Claims
end
-- ==== Proof.PI.RunA.lean ====
module

public import proofs.«01_k».proof.Proof.Gen.PrepIdeal.Frame.Runs
public import Idealize.ShloMosaic.Lib.Pipeline.ValueKit

/-! The body of one grid point, run on whole buffers: what it leaves in the three outputs' blocks. -/

@[expose] public section

set_option maxRecDepth 16384

noncomputable section

namespace Cert.PrepIdeal.Hand

open Cert.PrepIdeal Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rectangles the body loads and stores through: each block whole. -/
abbrev rT : Rect S16x2560 := Rect.unit (s := S16x2560) ![0, 0] S16x2560.size inb_S16x2560_S16x2560_0_0
abbrev rS : Rect S16x1024 := Rect.unit (s := S16x1024) ![0, 0] S16x1024.size inb_S16x1024_S16x1024_0_0
abbrev rGT : Rect S1x2560 := Rect.unit (s := S1x2560) ![0, 0] S1x2560.size inb_S1x2560_S1x2560_0_0
abbrev rGS : Rect S1x1024 := Rect.unit (s := S1x1024) ![0, 0] S1x1024.size inb_S1x1024_S1x1024_0_0
abbrev r34 : Rect S256x2560 := Rect.unit (s := S256x2560) ![0, 0] S256x2560.size inb_S256x2560_S256x2560_0_0
abbrev r35 : Rect S256x1024 := Rect.unit (s := S256x1024) ![0, 0] S256x1024.size inb_S256x1024_S256x1024_0_0
abbrev r36 : Rect S256x128 := Rect.unit (s := S256x128) ![0, 0] S256x128.size inb_S256x128_S256x128_0_0

/-- Sixteen groups of the second input's rows, one below another. -/
def stack (x16 x17 x18 x19 x20 x21 x22 x23 x24 x25 x26 x27 x28 x29 x30 x31 : Vec F S16x1024 .bf16) : FVec F S256x1024 .bf16 :=
  concatenate S256x1024 0 [⟨S16x1024, x16⟩, ⟨S16x1024, x17⟩, ⟨S16x1024, x18⟩, ⟨S16x1024, x19⟩, ⟨S16x1024, x20⟩, ⟨S16x1024, x21⟩, ⟨S16x1024, x22⟩, ⟨S16x1024, x23⟩, ⟨S16x1024, x24⟩, ⟨S16x1024, x25⟩, ⟨S16x1024, x26⟩, ⟨S16x1024, x27⟩, ⟨S16x1024, x28⟩, ⟨S16x1024, x29⟩, ⟨S16x1024, x30⟩, ⟨S16x1024, x31⟩]
    concatenates_S16x1024_S16x1024_S16x1024_S16x1024_S16x1024_S16x1024_S16x1024_S16x1024_S16x1024_S16x1024_S16x1024_S16x1024_S16x1024_S16x1024_S16x1024_S16x1024_S256x1024_d0

/-- The student's rows, before the codes are taken. -/
def rows (x16 x17 x18 x19 x20 x21 x22 x23 x24 x25 x26 x27 x28 x29 x30 x31 : Vec F S16x1024 .bf16) (x33 : Vec F S1x1024 .f32) : FVec F S256x1024 .f32 :=
  k0_pay5 (stack (View.ld x16 rS) (View.ld x17 rS) (View.ld x18 rS) (View.ld x19 rS) (View.ld x20 rS) (View.ld x21 rS) (View.ld x22 rS) (View.ld x23 rS) (View.ld x24 rS) (View.ld x25 rS) (View.ld x26 rS) (View.ld x27 rS) (View.ld x28 rS) (View.ld x29 rS) (View.ld x30 rS) (View.ld x31 rS)) (View.ld x33 rGS)

/-- What the body leaves in each output's buffer, from the inputs' blocks. -/
def out34 (x0 x1 x2 x3 x4 x5 x6 x7 x8 x9 x10 x11 x12 x13 x14 x15 : Vec F S16x2560 .bf16) (x32 : Vec F S1x2560 .f32) : Vec F S256x2560 .bf16 :=
  View.canon [⟨r34, k0_pay4 (k0_pay1 (View.ld x0 rT) (View.ld x1 rT) (View.ld x2 rT) (View.ld x3 rT) (View.ld x4 rT) (View.ld x5 rT) (View.ld x6 rT) (View.ld x7 rT) (View.ld x8 rT) (View.ld x9 rT) (View.ld x10 rT) (View.ld x11 rT) (View.ld x12 rT) (View.ld x13 rT) (View.ld x14 rT) (View.ld x15 rT)) (k0_pay2 (View.ld x0 rT) (View.ld x1 rT) (View.ld x2 rT) (View.ld x3 rT) (View.ld x4 rT) (View.ld x5 rT) (View.ld x6 rT) (View.ld x7 rT) (View.ld x8 rT) (View.ld x9 rT) (View.ld x10 rT) (View.ld x11 rT) (View.ld x12 rT) (View.ld x13 rT) (View.ld x14 rT) (View.ld x15 rT)) (k0_pay3 (F := F)) (View.ld x32 rGT)⟩]
def out35 (x16 x17 x18 x19 x20 x21 x22 x23 x24 x25 x26 x27 x28 x29 x30 x31 : Vec F S16x1024 .bf16) (x33 : Vec F S1x1024 .f32) : Vec F S256x1024 .fp8e4m3 :=
  View.canon [⟨r35, k0_pay7 (rows x16 x17 x18 x19 x20 x21 x22 x23 x24 x25 x26 x27 x28 x29 x30 x31 x33) (k0_pay6 (rows x16 x17 x18 x19 x20 x21 x22 x23 x24 x25 x26 x27 x28 x29 x30 x31 x33))⟩]
def out36 (x16 x17 x18 x19 x20 x21 x22 x23 x24 x25 x26 x27 x28 x29 x30 x31 : Vec F S16x1024 .bf16) (x33 : Vec F S1x1024 .f32) : Vec F S256x128 .f32 :=
  View.canon [⟨r36, k0_pay8 (k0_pay6 (rows x16 x17 x18 x19 x20 x21 x22 x23 x24 x25 x26 x27 x28 x29 x30 x31 x33))⟩]

/-- Each output's one store is of its whole block. -/
theorem cover34 (p : Vec F S256x2560 .bf16) (y : S256x2560.Idx) : ∃ pc ∈ ([⟨r34, p⟩] : List (View.Piece (Elt F) S256x2560 .bf16)), y ∈ pc.1.set :=
  View.cover_of_tiled [⟨r34, p⟩] S256x2560.size (by rfl) y
theorem cover35 (p : Vec F S256x1024 .fp8e4m3) (y : S256x1024.Idx) : ∃ pc ∈ ([⟨r35, p⟩] : List (View.Piece (Elt F) S256x1024 .fp8e4m3)), y ∈ pc.1.set :=
  View.cover_of_tiled [⟨r35, p⟩] S256x1024.size (by rfl) y
theorem cover36 (p : Vec F S256x128 .f32) (y : S256x128.Idx) : ∃ pc ∈ ([⟨r36, p⟩] : List (View.Piece (Elt F) S256x128 .f32)), y ∈ pc.1.set :=
  View.cover_of_tiled [⟨r36, p⟩] S256x128.size (by rfl) y

set_option maxHeartbeats 20000000 in
/-- The body on whole buffers, the inputs' at read contents and the outputs' at anything, runs to a continuation that holds
    the inputs' as they were and the outputs' at `out34`, `out35` and `out36`. -/
theorem body_run (c : Dev nD) (i : grid0.Coords) (E : Set ℕ) (arg2 : Memref sig .tc .vmem S16x2560 .bf16) (harg2 : arg2.IsWhole) (arg3 : Memref sig .tc .vmem S16x2560 .bf16) (harg3 : arg3.IsWhole) (arg4 : Memref sig .tc .vmem S16x2560 .bf16) (harg4 : arg4.IsWhole) (arg5 : Memref sig .tc .vmem S16x2560 .bf16) (harg5 : arg5.IsWhole) (arg6 : Memref sig .tc .vmem S16x2560 .bf16) (harg6 : arg6.IsWhole) (arg7 : Memref sig .tc .vmem S16x2560 .bf16) (harg7 : arg7.IsWhole) (arg8 : Memref sig .tc .vmem S16x2560 .bf16) (harg8 : arg8.IsWhole) (arg9 : Memref sig .tc .vmem S16x2560 .bf16) (harg9 : arg9.IsWhole) (arg10 : Memref sig .tc .vmem S16x2560 .bf16) (harg10 : arg10.IsWhole) (arg11 : Memref sig .tc .vmem S16x2560 .bf16) (harg11 : arg11.IsWhole) (arg12 : Memref sig .tc .vmem S16x2560 .bf16) (harg12 : arg12.IsWhole) (arg13 : Memref sig .tc .vmem S16x2560 .bf16) (harg13 : arg13.IsWhole) (arg14 : Memref sig .tc .vmem S16x2560 .bf16) (harg14 : arg14.IsWhole) (arg15 : Memref sig .tc .vmem S16x2560 .bf16) (harg15 : arg15.IsWhole) (arg16 : Memref sig .tc .vmem S16x2560 .bf16) (harg16 : arg16.IsWhole) (arg17 : Memref sig .tc .vmem S16x2560 .bf16) (harg17 : arg17.IsWhole) (arg18 : Memref sig .tc .vmem S16x1024 .bf16) (harg18 : arg18.IsWhole) (arg19 : Memref sig .tc .vmem S16x1024 .bf16) (harg19 : arg19.IsWhole) (arg20 : Memref sig .tc .vmem S16x1024 .bf16) (harg20 : arg20.IsWhole) (arg21 : Memref sig .tc .vmem S16x1024 .bf16) (harg21 : arg21.IsWhole) (arg22 : Memref sig .tc .vmem S16x1024 .bf16) (harg22 : arg22.IsWhole) (arg23 : Memref sig .tc .vmem S16x1024 .bf16) (harg23 : arg23.IsWhole) (arg24 : Memref sig .tc .vmem S16x1024 .bf16) (harg24 : arg24.IsWhole) (arg25 : Memref sig .tc .vmem S16x1024 .bf16) (harg25 : arg25.IsWhole) (arg26 : Memref sig .tc .vmem S16x1024 .bf16) (harg26 : arg26.IsWhole) (arg27 : Memref sig .tc .vmem S16x1024 .bf16) (harg27 : arg27.IsWhole) (arg28 : Memref sig .tc .vmem S16x1024 .bf16) (harg28 : arg28.IsWhole) (arg29 : Memref sig .tc .vmem S16x1024 .bf16) (harg29 : arg29.IsWhole) (arg30 : Memref sig .tc .vmem S16x1024 .bf16) (harg30 : arg30.IsWhole) (arg31 : Memref sig .tc .vmem S16x1024 .bf16) (harg31 : arg31.IsWhole) (arg32 : Memref sig .tc .vmem S16x1024 .bf16) (harg32 : arg32.IsWhole) (arg33 : Memref sig .tc .vmem S16x1024 .bf16) (harg33 : arg33.IsWhole) (arg34 : Memref sig .tc .vmem S1x2560 .f32) (harg34 : arg34.IsWhole) (arg35 : Memref sig .tc .vmem S1x1024 .f32) (harg35 : arg35.IsWhole) (arg36 : Memref sig .tc .vmem S256x2560 .bf16) (harg36 : arg36.IsWhole) (arg37 : Memref sig .tc .vmem S256x1024 .fp8e4m3) (harg37 : arg37.IsWhole) (arg38 : Memref sig .tc .vmem S256x128 .f32) (harg38 : arg38.IsWhole)
    (x0 x1 x2 x3 x4 x5 x6 x7 x8 x9 x10 x11 x12 x13 x14 x15 : Vec F S16x2560 .bf16) (x16 x17 x18 x19 x20 x21 x22 x23 x24 x25 x26 x27 x28 x29 x30 x31 : Vec F S16x1024 .bf16) (x32 : Vec F S1x2560 .f32) (x33 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ (∃ d, owns (c : Thread nD τ) arg36 fullShare d) ∗ (∃ d, owns (c : Thread nD τ) arg37 fullShare d) ∗ (∃ d, owns (c : Thread nD τ) arg38 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare (out34 x0 x1 x2 x3 x4 x5 x6 x7 x8 x9 x10 x11 x12 x13 x14 x15 x32) ∗ owns (c : Thread nD τ) arg37 fullShare (out35 x16 x17 x18 x19 x20 x21 x22 x23 x24 x25 x26 x27 x28 x29 x30 x31 x33) ∗ owns (c : Thread nD τ) arg38 fullShare (out36 x16 x17 x18 x19 x20 x21 x22 x23 x24 x25 x26 x27 x28 x29 x30 x31 x33)) -∗ K ⟨⟩))
      ⊢ wp frame (wpE (defs₀ (F := F)) Variants.none c none) E (cc0_prep i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K := by
  simp only [cc0_prep_eq_skeleton]; unfold cc0_prep_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%d34, %f34, -, H34⟩, ⟨%d35, %f35, -, H35⟩, ⟨%d36, %f36, -, H36⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists _; isplitr
    swap; · iexact H34
    ipureintro
    refine (View.read_writes_eq_canon _ _ _ (cover34 _)).trans ?_
    rfl
  isplitl [H35]
  · iexists _; isplitr
    swap; · iexact H35
    ipureintro
    refine (View.read_writes_eq_canon _ _ _ (cover35 _)).trans ?_
    rfl
  iexists _; isplitr
  swap; · iexact H36
  ipureintro
  refine (View.read_writes_eq_canon _ _ _ (cover36 _)).trans ?_
  rfl

/-- The three blocks without the loads and stores. -/
theorem out34_eq (x0 x1 x2 x3 x4 x5 x6 x7 x8 x9 x10 x11 x12 x13 x14 x15 : Vec F S16x2560 .bf16) (x32 : Vec F S1x2560 .f32) :
    out34 x0 x1 x2 x3 x4 x5 x6 x7 x8 x9 x10 x11 x12 x13 x14 x15 x32 = k0_pay4 (k0_pay1 x0 x1 x2 x3 x4 x5 x6 x7 x8 x9 x10 x11 x12 x13 x14 x15) (k0_pay2 x0 x1 x2 x3 x4 x5 x6 x7 x8 x9 x10 x11 x12 x13 x14 x15) (k0_pay3 (F := F)) x32 := by
  unfold out34
  frame_out
theorem rows_eq (x16 x17 x18 x19 x20 x21 x22 x23 x24 x25 x26 x27 x28 x29 x30 x31 : Vec F S16x1024 .bf16) (x33 : Vec F S1x1024 .f32) : rows x16 x17 x18 x19 x20 x21 x22 x23 x24 x25 x26 x27 x28 x29 x30 x31 x33 = k0_pay5 (stack x16 x17 x18 x19 x20 x21 x22 x23 x24 x25 x26 x27 x28 x29 x30 x31) x33 := by
  unfold rows
  frame_out
theorem out35_eq (x16 x17 x18 x19 x20 x21 x22 x23 x24 x25 x26 x27 x28 x29 x30 x31 : Vec F S16x1024 .bf16) (x33 : Vec F S1x1024 .f32) :
    out35 x16 x17 x18 x19 x20 x21 x22 x23 x24 x25 x26 x27 x28 x29 x30 x31 x33 = k0_pay7 (k0_pay5 (stack x16 x17 x18 x19 x20 x21 x22 x23 x24 x25 x26 x27 x28 x29 x30 x31) x33) (k0_pay6 (k0_pay5 (stack x16 x17 x18 x19 x20 x21 x22 x23 x24 x25 x26 x27 x28 x29 x30 x31) x33)) := by
  unfold out35
  rw [rows_eq]
  frame_out
theorem out36_eq (x16 x17 x18 x19 x20 x21 x22 x23 x24 x25 x26 x27 x28 x29 x30 x31 : Vec F S16x1024 .bf16) (x33 : Vec F S1x1024 .f32) :
    out36 x16 x17 x18 x19 x20 x21 x22 x23 x24 x25 x26 x27 x28 x29 x30 x31 x33 = k0_pay8 (k0_pay6 (k0_pay5 (stack x16 x17 x18 x19 x20 x21 x22 x23 x24 x25 x26 x27 x28 x29 x30 x31) x33)) := by
  unfold out36
  rw [rows_eq]
  frame_out

end Cert.PrepIdeal.Hand
end
-- ==== Proof.PI.Frame.lean ====
module

public import proofs.«01_k».proof.Proof.PI.RunA
public import Idealize.ShloMosaic.Lib.Claim

/-! The launch, from the run of one grid point: the pipeline's data, its run and the frame. -/

@[expose] public section

set_option maxRecDepth 16384

noncomputable section

namespace Cert.PrepIdeal.Hand

open Cert.PrepIdeal Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => out34 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 32 t)
    | ⟨35, _⟩ => out35 (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t)
    | ⟨36, _⟩ => out36 (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t)
    | ⟨_ + 37, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = out34 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 32 t) := by dsimp only [dats]; try rfl
theorem after0_35 (hO : Ok m) (c : Dev nD) (t : Fin (cfgM m hO).N) : (dats m hO 0 c).after 35 t = out35 (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t) := by dsimp only [dats]; try rfl
theorem after0_36 (hO : Ok m) (c : Dev nD) (t : Fin (cfgM m hO).N) : (dats m hO 0 c).after 36 t = out36 (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t))

set_option maxHeartbeats 3600000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply (body_run c (grid0.coords t) Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  isplitl [H35]; · iexists _; iexact H35
  isplitl [H36]; · iexists _; iexact H36
  iintro ⟨H0, H1, H2, H3, H4, H5, H6, H7, H8, H9, H10, H11, H12, H13, H14, H15, H16, H17, H18, H19, H20, H21, H22, H23, H24, H25, H26, H27, H28, H29, H30, H31, H32, H33, H34, H35, H36⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_PrepIdeal`'s statement (Defs.lean) at any `F` — Proof.lean cites it at `Bits`:
    `theorem Cert.Proof.claim : Cert.Claim := ⟨Cert.PrepIdeal.Gen.facts, fun m ρ _ => Cert.PrepIdeal.Gen.frame m ρ⟩`; here for every contents of the PREFETCHED TABLES, UNDER `Gen.Ok m` (the pipeline's side condition of
    them), which Proof.lean proves from the precondition: `⟨…, fun m ρ h => Cert.PrepIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.PrepIdeal.Hand

end
-- ==== Proof.PI.Ordered.lean ====
module

public import proofs.«01_k».proof.Proof.Gen.Pre_ordered
public import Idealize.ShloMosaic.Lib.Affine
public import Idealize.ShloMosaic.Lib.ReduceAll
public import Idealize.ShloMosaic.Lib.Pipeline.ValueKit
public import Idealize.ShloMosaic.Lib.StableHlo.Predicate

/-! What the precondition of the gathering launch says of its table, and that the table's groups lie inside the arrays. -/

@[expose] public section

set_option maxRecDepth 16384
noncomputable section

namespace Cert.Prep.Ordered

open Idealize.ShloMosaic Idealize.ShloMosaic.TcCoe

variable {F : FTy → Type} [FloatOps F]

/-- Under the precondition every word of the table names one of the 480 groups of rows. -/
theorem words [Cert.Pre_ordered.Facts] (x : FVec F ⟨2, ![7680, 1024]⟩ .bf16) (h : FVec F ⟨2, ![7680, 2560]⟩ .bf16) (gs : FVec F ⟨1, ![1024]⟩ .f32)
    (gt : FVec F ⟨1, ![2560]⟩ .f32) (p : IVec ⟨1, ![480]⟩ 32) (e : Cert.Pre_ordered.fn (F := F) x h gs gt p = fun _ => 1#1) (j : Shape.Idx ⟨1, ![480]⟩) :
    (p j).toNat < 480 := by
  haveI : Subsingleton Cert.Pre_ordered.S_.Idx := ⟨fun a b => funext fun k => k.elim0⟩
  have k := Host.reduce_andi_all _ _ _ _ _ (congrFun e fun a => a.elim0) j
  have k' : IntOp.andi (IntOp.cmpi .sge (p j) 0#32) (IntOp.cmpi .slt (p j) 480#32) = 1#1 := k
  rw [IntOp.andi_eq_one, IntOp.cmpi_sge, IntOp.cmpi_slt] at k'
  have e0 : (0#32 : BitVec 32).toInt = 0 := by decide
  have e1 : (480#32 : BitVec 32).toInt = 480 := by decide
  rw [e0, e1] at k'
  have := (p j).isLt
  rw [BitVec.toInt_eq_toNat_cond] at k'
  split at k' <;> omega

/-- A group of sixteen whole rows lies inside an array of 480 groups, on whole words. -/
theorem group {D : Nat} (ix : Fin 2 → Nat) (p : Nat) (hp : p < 480) (e : ix = ![p, 0]) :
    ∃ h : (∀ a : Fin 2, (ix a + 1) * (![16, D] : Fin 2 → Nat) a ≤ (![7680, D] : Fin 2 → Nat) a),
      EltTy.bits .bf16 = 32 ∨ (Rect.block (s := ⟨2, ![7680, D]⟩) ![16, D] ix h).WholeWords (EltTy.packing .bf16) := by
  subst e
  refine ⟨fun a => ?_, .inr (.inl (Affine.packed_dvd (Nat.le_refl 2) (Dvd.dvd.mul_left (by decide : 2 ∣ 16) _) (by decide : 2 ∣ 16)))⟩
  match a with
  | ⟨0, _⟩ => show (p + 1) * 16 ≤ 7680; omega
  | ⟨1, _⟩ => show (0 + 1) * D ≤ D; omega

end Cert.Prep.Ordered
end
-- ==== Proof.PI.Ok.lean ====
module

public import proofs.«01_k».proof.Proof.PI.Ordered
public import proofs.«01_k».proof.Proof.Gen.PrepIdeal.Frame.Runs

/-! Under the precondition every block the launch fetches lies inside its array. -/

@[expose] public section

set_option maxRecDepth 16384
noncomputable section

namespace Cert.PrepIdeal.Hand

open Cert.PrepIdeal Cert.PrepIdeal.Gen Cert.Prep.Ordered
open Idealize.ShloMosaic Idealize.ShloMosaic.TcCoe

variable {F : FTy → Type} [FloatOps F]

/-- The launch's side condition, of a table that names groups only. -/
theorem ok_of (pf : pre0.Contents (Elt F)) (h : ∀ j : S480.Idx, (pf 0 j : BitVec 32).toNat < 480) : ok0 pf := by
  unfold ok0
  refine ⟨fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl⟩

/-- The side condition, from the precondition on the launch's memory. -/
theorem ok_pre [Cert.Pre_ordered.Facts] (m : (ℓ : Loc nD τ sig) → Buf (Elt F) ℓ)
    (h : ∀ c : Dev nD, Cert.Pre_ordered.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) : Ok m := by
  refine ok_of _ fun j => ?_
  have e : tbl m 0 = m (((0 : Dev nD).tc : Thread nD τ).loc main_arg4) := V_main_arg4 m 0
  rw [e]
  exact words _ _ _ _ _ (h 0) j

end Cert.PrepIdeal.Hand
end
-- ==== Proof.PI.Row.lean ====
module

public import Idealize.ShloMosaic.Lib.Pipeline.Value
public import Idealize.ShloMosaic.Lib.ValueIdx
public import Idealize.ShloMosaic.Lib.ValueLayout
public import Idealize.ShloMosaic.PureOps.Ideal.Laws

/-! The arithmetic of one row, over the extended reals, for arrays of any number of rows: the teacher's norm, the student's
norm, and the student's quantiser. `Base` names the programs' constants as they are printed. -/

@[expose] public section

set_option maxRecDepth 16384
noncomputable section

namespace Cert.Prep.Row

open Idealize.ShloMosaic Idealize.ShloMosaic.ValueIdx

/-- Arrays of rows, columns of one value a row, and plain lists. -/
abbrev Mat (n D : Nat) : Shape := ⟨2, ![n, D]⟩
abbrev Lst (n : Nat) : Shape := ⟨1, ![n]⟩

variable {n D : Nat}

/-! ## What a row becomes -/

/-- The root of a row's mean square with the printed count and epsilon. -/
def root (count : BitVec 32) (f : Fin D → EReal) : EReal :=
  Ideal.sqrt (Ideal.div (∑ k : Fin D, f k * f k) (Ideal.ofBits .f32 count) + Ideal.ofBits .f32 0x358637BD#32)

/-- A teacher row: divided by its root, times the gain. -/
def teacher (f g : Fin D → EReal) (k : Fin D) : EReal := Ideal.div (f k) (root 0x45200000#32 f) * g k

/-- A student row: times the inverse of its root, times the gain. -/
def student (f g : Fin D → EReal) (k : Fin D) : EReal :=
  f k * Ideal.div (Ideal.ofBits .f32 0x3F800000#32) (root 0x44800000#32 f) * g k

/-- The largest magnitude of a row. -/
def top (v : Fin D → EReal) : EReal := (Finset.univ : Finset (Fin D)).sup fun k => max (v k) (-v k)

/-- The scale of a row: its largest magnitude over 448, and one for a row of zeros. -/
def scale (a : EReal) : EReal :=
  Scalar.select (FloatOps.cmpf (F := Ideal) (φ := .f32) .oeq a (Ideal.ofBits .f32 0x00000000#32)) (Ideal.ofBits .f32 0x3F800000#32)
    (Ideal.div a (Ideal.ofBits .f32 0x43E00000#32))

/-- A value over its scale, clipped to ±448. -/
def code (v s : EReal) : EReal := min (Ideal.ofBits .f32 0x43E00000#32) (max (Ideal.ofBits .f32 0xC3E00000#32) (Ideal.div v s))

/-! ## Reading the vector operations at an index -/

theorem lift (R : Fin n) (k : Fin D) (h : (Mat n D).Reduces [1] (Lst n)) : h.lift (ix1 R) k = ix2 R k :=
  funext fun a => Fin.ext (match a with | ⟨0, _⟩ => rfl | ⟨1, _⟩ => rfl)

theorem column {α : Type} (x : (Lst n).Idx → α) (h : (Lst n).ShapeCasts (Mat n 1)) (R : Fin n) (z : Fin 1) : shapeCast (Mat n 1) x h (ix2 R z) = x (ix1 R) :=
  shapeCast_apply x h (ix2 R z) (ix1 R) (by
    rw [Shape.rowMajor_val_one, Shape.rowMajor_val_two]
    show R.val = R.val * 1 + z.val
    omega)

/-- A column spread over the lanes. -/
theorem spread {α : Type} (x : (Mat n 1).Idx → α) (h : (Mat n 1).Broadcasts (Mat n D)) (R : Fin n) (k : Fin D) :
    broadcastTo (Mat n D) x h (ix2 R k) = x (ix2 R 0) :=
  broadcastTo_apply x h (ix2 R k) (ix2 R 0) fun a => match a with
    | ⟨0, _⟩ => (by
      show R.val = if n = 1 then 0 else R.val
      have := R.isLt
      split <;> omega)
    | ⟨1, _⟩ => rfl

variable (x : FVec Ideal (Mat n D) .f32) (R : Fin n)

theorem sum_row (hr : (Mat n D).Reduces [1] (Lst n)) (h1) (h2) :
    (multiReduction .add [1] (Lst n) x 0x00000000#32 hr h1 h2 (ix1 R) : EReal) = ∑ k : Fin D, (x (ix2 R k) : EReal) := by
  refine (Ideal.multiReduction_add_single x _ hr h1 h2 (ix1 R)).trans ?_
  exact Finset.sum_congr rfl fun v _ => congrArg x (lift R v hr)

theorem max_row (hr : (Mat n D).Reduces [1] (Lst n)) (h1) (h2) :
    (multiReduction .maximumf [1] (Lst n) x 0xFF800000#32 hr h1 h2 (ix1 R) : EReal) = (Finset.univ : Finset (Fin D)).sup fun k => (x (ix2 R k) : EReal) := by
  refine (Ideal.multiReduction_maximumf_single x _ hr h1 h2 (ix1 R)).trans ?_
  rw [show (FloatOps.ofBits (F := Ideal) .f32 0xFF800000#32 : EReal) = ⊥ by rw [Ideal.ofBits_def]; simp [Ideal.ofBits, Ideal.ieee]]
  refine Eq.trans ?_ (Finset.sup_congr rfl fun v _ => congrArg x (lift R v hr))
  rfl

/-- The column of roots of the rows' mean squares. -/
theorem root_apply (count : BitVec 32) (hr : (Mat n D).Reduces [1] (Lst n)) (h1) (h2) (hs : (Lst n).ShapeCasts (Mat n 1)) (z : Fin 1) :
    (sqrt (addf (divf (shapeCast (Mat n 1) (multiReduction .add [1] (Lst n) (mulf x x) 0x00000000#32 hr h1 h2) hs)
        (broadcast (Mat n 1) (Scalar.ofBits (F := Ideal) .f32 count))) (broadcast (Mat n 1) (Scalar.ofBits (F := Ideal) .f32 0x358637BD#32))) (ix2 R z) : EReal)
      = root count fun k : Fin D => (x (ix2 R k) : EReal) := by
  show Ideal.sqrt (Ideal.div (shapeCast (Mat n 1) (multiReduction .add [1] (Lst n) (mulf x x) 0x00000000#32 hr h1 h2) hs (ix2 R z)) _ + _) = _
  rw [column, sum_row]
  rfl

theorem teacher_apply (g : FVec Ideal (Mat 1 D) .f32) (q : FVec Ideal (Mat n 1) .f32) (hq : ∀ z, (q (ix2 R z) : EReal) = root 0x45200000#32 fun k : Fin D => (x (ix2 R k) : EReal))
    (hb : (Mat n 1).Broadcasts (Mat n D)) (hc : (Mat 1 D).ShapeCasts (Mat 1 D)) (hg : (Mat 1 D).Broadcasts (Mat n D)) (ht) (k : Fin D) :
    (truncf (F := Ideal) .bf16 (mulf (divf x (broadcastTo (Mat n D) q hb)) (broadcastTo (Mat n D) (shapeCast (Mat 1 D) g hc) hg)) ht (ix2 R k) : EReal)
      = teacher (fun k => (x (ix2 R k) : EReal)) (fun k => (g (ix2 0 k) : EReal)) k := by
  show Ideal.div (x (ix2 R k)) (broadcastTo (Mat n D) q hb (ix2 R k)) * broadcastTo (Mat n D) (shapeCast (Mat 1 D) g hc) hg (ix2 R k) = _
  rw [spread, broadcastTo_1b_ab_apply, shapeCast_self, hq]
  rfl

theorem student_apply (g : FVec Ideal (Mat 1 D) .f32) (q : FVec Ideal (Mat n 1) .f32) (hq : ∀ z, (q (ix2 R z) : EReal) = root 0x44800000#32 fun k : Fin D => (x (ix2 R k) : EReal))
    (hb : (Mat n 1).Broadcasts (Mat n D)) (hc : (Mat 1 D).ShapeCasts (Mat 1 D)) (hg : (Mat 1 D).Broadcasts (Mat n D)) (k : Fin D) :
    (mulf (mulf x (broadcastTo (Mat n D) (divf (broadcast (Mat n 1) (Scalar.ofBits (F := Ideal) .f32 0x3F800000#32)) q) hb))
        (broadcastTo (Mat n D) (shapeCast (Mat 1 D) g hc) hg) (ix2 R k) : EReal)
      = student (fun k => (x (ix2 R k) : EReal)) (fun k => (g (ix2 0 k) : EReal)) k := by
  show (x (ix2 R k) : EReal) * broadcastTo (Mat n D) (divf (broadcast (Mat n 1) (Scalar.ofBits (F := Ideal) .f32 0x3F800000#32)) q) hb (ix2 R k)
    * broadcastTo (Mat n D) (shapeCast (Mat 1 D) g hc) hg (ix2 R k) = _
  rw [spread, broadcastTo_1b_ab_apply, shapeCast_self]
  show (x (ix2 R k) : EReal) * Ideal.div _ (q (ix2 R 0)) * _ = _
  rw [hq]
  rfl

theorem top_apply (hr : (Mat n D).Reduces [1] (Lst n)) (h1) (h2) (hs : (Lst n).ShapeCasts (Mat n 1)) (z : Fin 1) :
    (shapeCast (Mat n 1) (multiReduction .maximumf [1] (Lst n) (absf x) 0xFF800000#32 hr h1 h2) hs (ix2 R z) : EReal)
      = top fun k : Fin D => (x (ix2 R k) : EReal) := by
  rw [column, max_row]
  rfl

theorem scale_apply (a : FVec Ideal (Mat n 1) .f32) (z : Fin 1) :
    (select (cmpf .oeq a (broadcast (Mat n 1) (Scalar.ofBits (F := Ideal) .f32 0x00000000#32))) (broadcast (Mat n 1) (Scalar.ofBits (F := Ideal) .f32 0x3F800000#32))
        (divf a (broadcast (Mat n 1) (Scalar.ofBits (F := Ideal) .f32 0x43E00000#32))) (ix2 R z) : EReal)
      = scale (a (ix2 R z)) := rfl

theorem code_apply (s : FVec Ideal (Mat n 1) .f32) (hb : (Mat n 1).Broadcasts (Mat n D)) (ht) (k : Fin D) :
    (truncf (F := Ideal) .fp8e4m3 (minimumf (broadcast (Mat n D) (Scalar.ofBits (F := Ideal) .f32 0x43E00000#32))
        (maximumf (broadcast (Mat n D) (Scalar.ofBits (F := Ideal) .f32 0xC3E00000#32)) (divf x (broadcastTo (Mat n D) s hb)))) ht (ix2 R k) : EReal)
      = code (x (ix2 R k)) (s (ix2 R 0)) := by
  show min _ (max _ (Ideal.div (x (ix2 R k)) (broadcastTo (Mat n D) s hb (ix2 R k)))) = _
  rw [spread]
  rfl

/-! ## The three results -/

/-- The three arrays, from the rows of the two inputs and the two gains. -/
def outT (h : Fin n → Fin D → EReal) (g : Fin D → EReal) : (Mat n D).Idx → EReal := fun j => teacher (h (j 0)) g (j 1)
def outC (x : Fin n → Fin D → EReal) (g : Fin D → EReal) : (Mat n D).Idx → EReal :=
  fun j => code (student (x (j 0)) g (j 1)) (scale (top (student (x (j 0)) g)))
def outS (x : Fin n → Fin D → EReal) (g : Fin D → EReal) : (Mat n 128).Idx → EReal := fun j => scale (top (student (x (j 0)) g))

end Cert.Prep.Row
end
-- ==== Proof.PR.Order.lean ====
module

public import Idealize.ShloMosaic.Lib.StableHlo.Predicate
public import Idealize.ShloMosaic.Lib.Pointwise

/-! Groups of sixteen rows in the order of a list: where a row comes from, and the host's gather of whole groups. -/

@[expose] public section

noncomputable section

namespace Cert.Prep.Row

open Idealize.ShloMosaic

/-- The row that the ordered row `R` is: the same row of the group named for `R`'s group. -/
def source (p : IVec ⟨1, ![480]⟩ 32) (R : Fin 7680) : Fin 7680 :=
  ⟨(p (ValueIdx.ix1 ⟨R.val / 16, by omega⟩)).toNat % 480 * 16 + R.val % 16, by omega⟩

theorem gather_group {α : Type} {D : Nat} (d : GatherDims ⟨3, ![480, 16, D]⟩ ⟨2, ![480, 1]⟩ ⟨3, ![480, 16, D]⟩)
    (hoff : d.offsetDims = [1, 2]) (hcoll : d.collapsedSliceDims = [0]) (hob : d.operandBatchingDims = [])
    (hsim : d.startIndexMap = [0]) (hivd : d.indexVectorDim = 1)
    (x : (⟨3, ![480, 16, D]⟩ : Shape).Idx → α) (idx : IVec ⟨2, ![480, 1]⟩ 32) (a : Fin 480) (b : Fin 16) (k : Fin D)
    (q : Fin 480) (hq : (idx (ValueIdx.ix2 a 0)).toNat = q.val) :
    Host.gather d x idx (ValueIdx.ix3 a b k) = x (ValueIdx.ix3 q b k) := by
  have hs0 : (0 : Fin 3) ∉ d.sKept := by rw [GatherDims.mem_sKept, hcoll]; simp
  have hm0 : (0 : Fin 3) ∈ d.startIndexMap := by rw [hsim]; exact List.mem_singleton.mpr rfl
  have hsl : d.sliceSizes 0 = 1 := d.slice_collapsed 0 (by rw [hcoll]; exact List.mem_singleton.mpr rfl)
  have hb : ∀ i : Fin 3, i ∉ d.operandBatchingDims := fun i => by rw [hob]; exact List.not_mem_nil
  have hkept : d.sKept = [1, 2] := by
    show Shape.kept _ (d.collapsedSliceDims ++ d.operandBatchingDims) = _
    rw [hcoll, hob]; rfl
  have hbd : d.batchDims = [0] := by
    show Shape.kept _ d.offsetDims = _
    rw [hoff]; rfl
  have hint : (idx (ValueIdx.ix2 a 0)).toInt.toNat = q.val := by
    have := q.isLt
    rw [BitVec.toInt_eq_toNat_of_lt (by omega)]; omega
  unfold Host.gather
  refine congrArg x (funext fun i => Fin.ext ?_)
  show d.start _ idx i + d.batchCoord _ i + d.offCoord _ i = _
  rw [GatherDims.batchCoord_eq_zero _ _ _ (hb i), Nat.add_zero]
  match i with
  | ⟨0, _⟩ =>
    show d.start _ idx (0 : Fin 3) + d.offCoord _ (0 : Fin 3) = q.val
    rw [GatherDims.offCoord_eq_zero _ _ _ hs0, Nat.add_zero]
    unfold GatherDims.start
    rw [dif_pos hm0]
    have e : d.siIdx (ValueIdx.ix3 a b k) ⟨d.startIndexMap.idxOf (0 : Fin 3), List.idxOf_lt_length_iff.2 hm0⟩ = ValueIdx.ix2 a 0 := by
      funext s
      match s with
      | ⟨0, _⟩ =>
        unfold GatherDims.siIdx
        rw [dif_neg (by rw [hivd]; simp)]
        unfold GatherDims.siCoord
        apply Fin.ext
        simp only [Fin.val_cast]
        have e0 : ∀ y : Fin 3, y ∈ d.batchDims → ((ValueIdx.ix3 a b k : (⟨3, ![480, 16, D]⟩ : Shape).Idx) y).val = a.val := fun y hy => by
          rw [hbd] at hy
          obtain rfl := List.mem_singleton.mp hy
          rfl
        exact e0 _ (List.getElem_mem _)
      | ⟨1, _⟩ =>
        unfold GatherDims.siIdx
        rw [dif_pos (by rw [hivd])]
        apply Fin.ext
        show List.idxOf (0 : Fin 3) d.startIndexMap = 0
        rw [hsim]; simp
    rw [e, hint, hsl]
    have := q.isLt
    show min q.val (480 - 1) = q.val
    omega
  | ⟨1, _⟩ =>
    have h₁ : (1 : Fin 3) ∉ d.startIndexMap := by rw [hsim]; exact (by decide : (1 : Fin 3) ∉ [(0 : Fin 3)])
    have h₂ : (1 : Fin 3) ∈ d.sKept := by rw [hkept]; exact (by decide : (1 : Fin 3) ∈ [(1 : Fin 3), 2])
    show d.start _ idx (1 : Fin 3) + d.offCoord _ (1 : Fin 3) = b.val
    unfold GatherDims.start GatherDims.offCoord
    rw [dif_neg h₁, dif_pos h₂, Nat.zero_add]
    have e : ∀ y : Fin 3, y = 1 → ((ValueIdx.ix3 a b k : (⟨3, ![480, 16, D]⟩ : Shape).Idx) y).val = b.val := fun y hy => by subst hy; rfl
    refine e _ ?_
    simp only [hoff, hkept]
    rfl
  | ⟨2, _⟩ =>
    have h₁ : (2 : Fin 3) ∉ d.startIndexMap := by rw [hsim]; exact (by decide : (2 : Fin 3) ∉ [(0 : Fin 3)])
    have h₂ : (2 : Fin 3) ∈ d.sKept := by rw [hkept]; exact (by decide : (2 : Fin 3) ∈ [(1 : Fin 3), 2])
    show d.start _ idx (2 : Fin 3) + d.offCoord _ (2 : Fin 3) = k.val
    unfold GatherDims.start GatherDims.offCoord
    rw [dif_neg h₁, dif_pos h₂, Nat.zero_add]
    have e : ∀ y : Fin 3, y = 2 → ((ValueIdx.ix3 a b k : (⟨3, ![480, 16, D]⟩ : Shape).Idx) y).val = k.val := fun y hy => by subst hy; rfl
    refine e _ ?_
    simp only [hoff, hkept]
    rfl

/-- A list stood up as a column. -/
theorem column_apply {α : Type} (hb : Shape.BroadcastsInDim ⟨1, ![480]⟩ ⟨2, ![480, 1]⟩ ![0]) (p : (⟨1, ![480]⟩ : Shape).Idx → α) (a : Fin 480) :
    broadcastInDim ⟨2, ![480, 1]⟩ ![0] hb p (ValueIdx.ix2 a 0) = p (ValueIdx.ix1 a) :=
  congrArg p (funext fun i => match i with | ⟨0, _⟩ => Fin.ext rfl)

/-- Rows split into groups of sixteen, the groups taken in the list's order, and joined again. -/
theorem ordered_row {α : Type} {D : Nat} (d : GatherDims ⟨3, ![480, 16, D]⟩ ⟨2, ![480, 1]⟩ ⟨3, ![480, 16, D]⟩)
    (hoff : d.offsetDims = [1, 2]) (hcoll : d.collapsedSliceDims = [0]) (hob : d.operandBatchingDims = [])
    (hsim : d.startIndexMap = [0]) (hivd : d.indexVectorDim = 1)
    (x : (⟨2, ![7680, D]⟩ : Shape).Idx → α) (p : IVec ⟨1, ![480]⟩ 32) (hp : ∀ j, (p j).toNat < 480)
    (c₁ : Shape.ShapeCasts ⟨2, ![7680, D]⟩ ⟨3, ![480, 16, D]⟩) (c₂ : Shape.ShapeCasts ⟨3, ![480, 16, D]⟩ ⟨2, ![7680, D]⟩)
    (hb : Shape.BroadcastsInDim ⟨1, ![480]⟩ ⟨2, ![480, 1]⟩ ![0]) (R : Fin 7680) (k : Fin D) :
    shapeCast ⟨2, ![7680, D]⟩ (Host.gather d (shapeCast ⟨3, ![480, 16, D]⟩ x c₁) (broadcastInDim ⟨2, ![480, 1]⟩ ![0] hb p)) c₂ (ValueIdx.ix2 R k)
      = x (ValueIdx.ix2 (source p R) k) := by
  refine (shapeCast_apply _ c₂ (ValueIdx.ix2 R k) (ValueIdx.ix3 (⟨R.val / 16, by omega⟩ : Fin 480) (⟨R.val % 16, by omega⟩ : Fin 16) k) (by
    rw [Shape.rowMajor_val_two, Shape.rowMajor_val_three]
    show (R.val / 16 * 16 + R.val % 16) * D + k.val = R.val * D + k.val
    rw [Nat.div_add_mod' R.val 16])).trans ?_
  have hlt := hp (ValueIdx.ix1 ⟨R.val / 16, by omega⟩)
  refine (gather_group d hoff hcoll hob hsim hivd _ _ _ _ k ⟨_, hlt⟩ (congrArg BitVec.toNat (column_apply hb p _))).trans ?_
  refine shapeCast_apply x c₁ _ (ValueIdx.ix2 (source p R) k) ?_
  rw [Shape.rowMajor_val_two, Shape.rowMajor_val_three]
  show ((p (ValueIdx.ix1 ⟨R.val / 16, _⟩)).toNat % 480 * 16 + R.val % 16) * D + k.val = ((p (ValueIdx.ix1 ⟨R.val / 16, _⟩)).toNat * 16 + R.val % 16) * D + k.val
  rw [Nat.mod_eq_of_lt hlt]

end Cert.Prep.Row
end
-- ==== Proof.PI.Answer.lean ====
module

public import proofs.«01_k».proof.Proof.PI.Row
public import proofs.«01_k».proof.Proof.PR.Order

/-! The three arrays of the ordered rows: what both programs leave. -/

@[expose] public section

noncomputable section

namespace Cert.Prep.Row

open Idealize.ShloMosaic

variable (p : IVec ⟨1, ![480]⟩ 32)

def answerT (h : FVec Ideal ⟨2, ![7680, 2560]⟩ .bf16) (g : FVec Ideal ⟨1, ![2560]⟩ .f32) : (Mat 7680 2560).Idx → EReal :=
  outT (fun R k => (h (ValueIdx.ix2 (source p R) k) : EReal)) fun k => (g (ValueIdx.ix1 k) : EReal)

def answerC (x : FVec Ideal ⟨2, ![7680, 1024]⟩ .bf16) (g : FVec Ideal ⟨1, ![1024]⟩ .f32) : (Mat 7680 1024).Idx → EReal :=
  outC (fun R k => (x (ValueIdx.ix2 (source p R) k) : EReal)) fun k => (g (ValueIdx.ix1 k) : EReal)

def answerS (x : FVec Ideal ⟨2, ![7680, 1024]⟩ .bf16) (g : FVec Ideal ⟨1, ![1024]⟩ .f32) : (Mat 7680 128).Idx → EReal :=
  outS (fun R k => (x (ValueIdx.ix2 (source p R) k) : EReal)) fun k => (g (ValueIdx.ix1 k) : EReal)

end Cert.Prep.Row
end
-- ==== Proof.PI.Fetch.lean ====
module

public import proofs.«01_k».proof.Proof.PI.Ok
public import proofs.«01_k».proof.Proof.PI.Answer
public import Idealize.ShloMosaic.Lib.Pipeline.ValueKit

/-! What the launch's windows fetch at a grid point: sixteen named groups of each input's rows. -/

@[expose] public section

set_option maxRecDepth 16384
noncomputable section

namespace Cert.PrepIdeal.Hand

open Cert.PrepIdeal Cert.PrepIdeal.Gen
open Idealize.ShloMosaic Idealize.ShloMosaic.TcCoe
open Cert.Prep.Row (source)

variable {F : FTy → Type} [FloatOps F]

/-- The place in the list of a point's `J`th group. -/
abbrev spot (i : grid0.Coords) (J : Fin 16) : Fin 480 := ⟨16 * (i 0).val + J.val, by have : (i 0).val < 30 := (i 0).isLt; omega⟩

/-- The word an index map loads from the table. -/
theorem word (pf : pre0.Contents (Elt F)) (i : grid0.Coords) (J : Fin 16) (h) :
    (pf.at 0 (Rect.unit (s := S480) (k0_off1 i (BitVec.ofNat 32 J.val)) S1.size h) numel1_S1 : BitVec 32) = (pf 0 : Vec F S480 .i32) (ValueIdx.ix1 (spot i J)) := by
  refine congrArg (pf 0) (funext fun a => Fin.ext ?_)
  match a with
  | ⟨0, _⟩ =>
    have h0 : (i 0).val < 30 := (i 0).isLt
    have hJ := J.isLt
    show (BitVec.ofNat 32 (i 0).val * 16#32 + BitVec.ofNat 32 J.val).toNat + 1 * 0 = 16 * (i 0).val + J.val
    simp only [BitVec.toNat_add, BitVec.toNat_mul, BitVec.toNat_ofNat]
    omega

/-- A block of sixteen whole rows, read off its array. -/
theorem rows_of {α : Type} {D : Nat} (x : (⟨2, ![7680, D]⟩ : Shape).Idx → α) (e : (⟨2, ![16, D]⟩ : Shape).Idx → (⟨2, ![7680, D]⟩ : Shape).Idx)
    (T : Fin 2 → Nat) (h0 : ∀ j, (e j 0).val = T 0 * 16 + 1 * (j 0).val) (h1 : ∀ j, (e j 1).val = T 1 * D + 1 * (j 1).val)
    (w : BitVec 32) (hT : T = ![w.toNat, 0]) (hw : w.toNat < 480) (r : Fin 16) (k : Fin D) (R : Fin 7680) (hR : R.val = w.toNat % 480 * 16 + r.val) :
    x (e (ValueIdx.ix2 r k)) = x (ValueIdx.ix2 R k) := by
  refine congrArg x (funext fun a => Fin.ext ?_)
  match a with
  | ⟨0, _⟩ =>
    refine (h0 _).trans ?_
    rw [hT]
    show w.toNat * 16 + 1 * r.val = R.val
    rw [hR, Nat.mod_eq_of_lt hw]; omega
  | ⟨1, _⟩ =>
    refine (h1 _).trans ?_
    rw [hT]
    show 0 * D + 1 * k.val = k.val
    omega

variable (m : (ℓ : Loc nD τ sig) → Buf (Elt F) ℓ) (hO : Ok m) (c : Dev nD) (t : Fin (cfgM m hO).N)

/-- The blocks of the first input and of the second, group by group. -/
def blocksT (J : Fin 16) : Vec F S16x2560 .bf16 :=
  match J with
  | ⟨0, _⟩ => iblk m hO c 0 t | ⟨1, _⟩ => iblk m hO c 1 t | ⟨2, _⟩ => iblk m hO c 2 t | ⟨3, _⟩ => iblk m hO c 3 t
  | ⟨4, _⟩ => iblk m hO c 4 t | ⟨5, _⟩ => iblk m hO c 5 t | ⟨6, _⟩ => iblk m hO c 6 t | ⟨7, _⟩ => iblk m hO c 7 t
  | ⟨8, _⟩ => iblk m hO c 8 t | ⟨9, _⟩ => iblk m hO c 9 t | ⟨10, _⟩ => iblk m hO c 10 t | ⟨11, _⟩ => iblk m hO c 11 t
  | ⟨12, _⟩ => iblk m hO c 12 t | ⟨13, _⟩ => iblk m hO c 13 t | ⟨14, _⟩ => iblk m hO c 14 t | ⟨15, _⟩ => iblk m hO c 15 t
  | ⟨n + 16, h⟩ => absurd h (Nat.not_lt.2 (Nat.le_add_left _ _))

def blocksS (J : Fin 16) : Vec F S16x1024 .bf16 :=
  match J with
  | ⟨0, _⟩ => iblk m hO c 16 t | ⟨1, _⟩ => iblk m hO c 17 t | ⟨2, _⟩ => iblk m hO c 18 t | ⟨3, _⟩ => iblk m hO c 19 t
  | ⟨4, _⟩ => iblk m hO c 20 t | ⟨5, _⟩ => iblk m hO c 21 t | ⟨6, _⟩ => iblk m hO c 22 t | ⟨7, _⟩ => iblk m hO c 23 t
  | ⟨8, _⟩ => iblk m hO c 24 t | ⟨9, _⟩ => iblk m hO c 25 t | ⟨10, _⟩ => iblk m hO c 26 t | ⟨11, _⟩ => iblk m hO c 27 t
  | ⟨12, _⟩ => iblk m hO c 28 t | ⟨13, _⟩ => iblk m hO c 29 t | ⟨14, _⟩ => iblk m hO c 30 t | ⟨15, _⟩ => iblk m hO c 31 t
  | ⟨n + 16, h⟩ => absurd h (Nat.not_lt.2 (Nat.le_add_left _ _))

/-- An index map's block: the group its word names. -/
theorem map_of (pf : pre0.Contents (Elt F)) (i : grid0.Coords) (J : Fin 16) (h) :
    ![(pf.at 0 (Rect.unit (s := S480) (k0_off1 i (BitVec.ofNat 32 J.val)) S1.size h) numel1_S1 : BitVec 32).toNat, 0]
      = ![((pf 0 : Vec F S480 .i32) (ValueIdx.ix1 (spot i J))).toNat, 0] :=
  congrArg (fun w : BitVec 32 => ![w.toNat, 0]) (word pf i J h)

set_option maxHeartbeats 4000000 in
/-- A block's rows, of the first input. -/
theorem blocksT_apply (hp : ∀ j : S480.Idx, (tbl m 0 j : BitVec 32).toNat < 480) (J : Fin 16) (r : Fin 16) (k : Fin 2560) (R : Fin 7680)
    (hR : R.val = ((tbl m 0 : Vec F S480 .i32) (ValueIdx.ix1 (spot (grid0.coords t) J))).toNat % 480 * 16 + r.val) :
    blocksT m hO c t J (ValueIdx.ix2 r k) = (V m c main_arg1 : Vec F S7680x2560 .bf16) (ValueIdx.ix2 R k) := by
  have rows := fun e (T : Fin 2 → Nat) h0 h1 w hT hw => rows_of (V m c main_arg1 : Vec F S7680x2560 .bf16) e T h0 h1 w hT hw r k R
  have word := fun J h => map_of (tbl m) (grid0.coords t) J h
  revert hR
  match J with
  | ⟨0, _⟩ => show ∀ _, iblk m hO c 0 t _ = _; intro hR; unfold iblk; exact rows _ (cc0_transform_0 k0_off1_inb numel1_S1 (tbl m) (grid0.coords t)) (fun _ => rfl) (fun _ => rfl) _ (word 0 _) (hp _) hR
  | ⟨1, _⟩ => show ∀ _, iblk m hO c 1 t _ = _; intro hR; unfold iblk; exact rows _ (cc0_transform_1 k0_off1_inb numel1_S1 (tbl m) (grid0.coords t)) (fun _ => rfl) (fun _ => rfl) _ (word 1 _) (hp _) hR
  | ⟨2, _⟩ => show ∀ _, iblk m hO c 2 t _ = _; intro hR; unfold iblk; exact rows _ (cc0_transform_2 k0_off1_inb numel1_S1 (tbl m) (grid0.coords t)) (fun _ => rfl) (fun _ => rfl) _ (word 2 _) (hp _) hR
  | ⟨3, _⟩ => show ∀ _, iblk m hO c 3 t _ = _; intro hR; unfold iblk; exact rows _ (cc0_transform_3 k0_off1_inb numel1_S1 (tbl m) (grid0.coords t)) (fun _ => rfl) (fun _ => rfl) _ (word 3 _) (hp _) hR
  | ⟨4, _⟩ => show ∀ _, iblk m hO c 4 t _ = _; intro hR; unfold iblk; exact rows _ (cc0_transform_4 k0_off1_inb numel1_S1 (tbl m) (grid0.coords t)) (fun _ => rfl) (fun _ => rfl) _ (word 4 _) (hp _) hR
  | ⟨5, _⟩ => show ∀ _, iblk m hO c 5 t _ = _; intro hR; unfold iblk; exact rows _ (cc0_transform_5 k0_off1_inb numel1_S1 (tbl m) (grid0.coords t)) (fun _ => rfl) (fun _ => rfl) _ (word 5 _) (hp _) hR
  | ⟨6, _⟩ => show ∀ _, iblk m hO c 6 t _ = _; intro hR; unfold iblk; exact rows _ (cc0_transform_6 k0_off1_inb numel1_S1 (tbl m) (grid0.coords t)) (fun _ => rfl) (fun _ => rfl) _ (word 6 _) (hp _) hR
  | ⟨7, _⟩ => show ∀ _, iblk m hO c 7 t _ = _; intro hR; unfold iblk; exact rows _ (cc0_transform_7 k0_off1_inb numel1_S1 (tbl m) (grid0.coords t)) (fun _ => rfl) (fun _ => rfl) _ (word 7 _) (hp _) hR
  | ⟨8, _⟩ => show ∀ _, iblk m hO c 8 t _ = _; intro hR; unfold iblk; exact rows _ (cc0_transform_8 k0_off1_inb numel1_S1 (tbl m) (grid0.coords t)) (fun _ => rfl) (fun _ => rfl) _ (word 8 _) (hp _) hR
  | ⟨9, _⟩ => show ∀ _, iblk m hO c 9 t _ = _; intro hR; unfold iblk; exact rows _ (cc0_transform_9 k0_off1_inb numel1_S1 (tbl m) (grid0.coords t)) (fun _ => rfl) (fun _ => rfl) _ (word 9 _) (hp _) hR
  | ⟨10, _⟩ => show ∀ _, iblk m hO c 10 t _ = _; intro hR; unfold iblk; exact rows _ (cc0_transform_10 k0_off1_inb numel1_S1 (tbl m) (grid0.coords t)) (fun _ => rfl) (fun _ => rfl) _ (word 10 _) (hp _) hR
  | ⟨11, _⟩ => show ∀ _, iblk m hO c 11 t _ = _; intro hR; unfold iblk; exact rows _ (cc0_transform_11 k0_off1_inb numel1_S1 (tbl m) (grid0.coords t)) (fun _ => rfl) (fun _ => rfl) _ (word 11 _) (hp _) hR
  | ⟨12, _⟩ => show ∀ _, iblk m hO c 12 t _ = _; intro hR; unfold iblk; exact rows _ (cc0_transform_12 k0_off1_inb numel1_S1 (tbl m) (grid0.coords t)) (fun _ => rfl) (fun _ => rfl) _ (word 12 _) (hp _) hR
  | ⟨13, _⟩ => show ∀ _, iblk m hO c 13 t _ = _; intro hR; unfold iblk; exact rows _ (cc0_transform_13 k0_off1_inb numel1_S1 (tbl m) (grid0.coords t)) (fun _ => rfl) (fun _ => rfl) _ (word 13 _) (hp _) hR
  | ⟨14, _⟩ => show ∀ _, iblk m hO c 14 t _ = _; intro hR; unfold iblk; exact rows _ (cc0_transform_14 k0_off1_inb numel1_S1 (tbl m) (grid0.coords t)) (fun _ => rfl) (fun _ => rfl) _ (word 14 _) (hp _) hR
  | ⟨15, _⟩ => show ∀ _, iblk m hO c 15 t _ = _; intro hR; unfold iblk; exact rows _ (cc0_transform_15 k0_off1_inb numel1_S1 (tbl m) (grid0.coords t)) (fun _ => rfl) (fun _ => rfl) _ (word 15 _) (hp _) hR
  | ⟨n + 16, h⟩ => exact absurd h (Nat.not_lt.2 (Nat.le_add_left _ _))

set_option maxHeartbeats 4000000 in
/-- A block's rows, of the second. -/
theorem blocksS_apply (hp : ∀ j : S480.Idx, (tbl m 0 j : BitVec 32).toNat < 480) (J : Fin 16) (r : Fin 16) (k : Fin 1024) (R : Fin 7680)
    (hR : R.val = ((tbl m 0 : Vec F S480 .i32) (ValueIdx.ix1 (spot (grid0.coords t) J))).toNat % 480 * 16 + r.val) :
    blocksS m hO c t J (ValueIdx.ix2 r k) = (V m c main_arg0 : Vec F S7680x1024 .bf16) (ValueIdx.ix2 R k) := by
  have rows := fun e (T : Fin 2 → Nat) h0 h1 w hT hw => rows_of (V m c main_arg0 : Vec F S7680x1024 .bf16) e T h0 h1 w hT hw r k R
  have word := fun J h => map_of (tbl m) (grid0.coords t) J h
  revert hR
  match J with
  | ⟨0, _⟩ => show ∀ _, iblk m hO c 16 t _ = _; intro hR; unfold iblk; exact rows _ (cc0_transform_16 k0_off1_inb numel1_S1 (tbl m) (grid0.coords t)) (fun _ => rfl) (fun _ => rfl) _ (word 0 _) (hp _) hR
  | ⟨1, _⟩ => show ∀ _, iblk m hO c 17 t _ = _; intro hR; unfold iblk; exact rows _ (cc0_transform_17 k0_off1_inb numel1_S1 (tbl m) (grid0.coords t)) (fun _ => rfl) (fun _ => rfl) _ (word 1 _) (hp _) hR
  | ⟨2, _⟩ => show ∀ _, iblk m hO c 18 t _ = _; intro hR; unfold iblk; exact rows _ (cc0_transform_18 k0_off1_inb numel1_S1 (tbl m) (grid0.coords t)) (fun _ => rfl) (fun _ => rfl) _ (word 2 _) (hp _) hR
  | ⟨3, _⟩ => show ∀ _, iblk m hO c 19 t _ = _; intro hR; unfold iblk; exact rows _ (cc0_transform_19 k0_off1_inb numel1_S1 (tbl m) (grid0.coords t)) (fun _ => rfl) (fun _ => rfl) _ (word 3 _) (hp _) hR
  | ⟨4, _⟩ => show ∀ _, iblk m hO c 20 t _ = _; intro hR; unfold iblk; exact rows _ (cc0_transform_20 k0_off1_inb numel1_S1 (tbl m) (grid0.coords t)) (fun _ => rfl) (fun _ => rfl) _ (word 4 _) (hp _) hR
  | ⟨5, _⟩ => show ∀ _, iblk m hO c 21 t _ = _; intro hR; unfold iblk; exact rows _ (cc0_transform_21 k0_off1_inb numel1_S1 (tbl m) (grid0.coords t)) (fun _ => rfl) (fun _ => rfl) _ (word 5 _) (hp _) hR
  | ⟨6, _⟩ => show ∀ _, iblk m hO c 22 t _ = _; intro hR; unfold iblk; exact rows _ (cc0_transform_22 k0_off1_inb numel1_S1 (tbl m) (grid0.coords t)) (fun _ => rfl) (fun _ => rfl) _ (word 6 _) (hp _) hR
  | ⟨7, _⟩ => show ∀ _, iblk m hO c 23 t _ = _; intro hR; unfold iblk; exact rows _ (cc0_transform_23 k0_off1_inb numel1_S1 (tbl m) (grid0.coords t)) (fun _ => rfl) (fun _ => rfl) _ (word 7 _) (hp _) hR
  | ⟨8, _⟩ => show ∀ _, iblk m hO c 24 t _ = _; intro hR; unfold iblk; exact rows _ (cc0_transform_24 k0_off1_inb numel1_S1 (tbl m) (grid0.coords t)) (fun _ => rfl) (fun _ => rfl) _ (word 8 _) (hp _) hR
  | ⟨9, _⟩ => show ∀ _, iblk m hO c 25 t _ = _; intro hR; unfold iblk; exact rows _ (cc0_transform_25 k0_off1_inb numel1_S1 (tbl m) (grid0.coords t)) (fun _ => rfl) (fun _ => rfl) _ (word 9 _) (hp _) hR
  | ⟨10, _⟩ => show ∀ _, iblk m hO c 26 t _ = _; intro hR; unfold iblk; exact rows _ (cc0_transform_26 k0_off1_inb numel1_S1 (tbl m) (grid0.coords t)) (fun _ => rfl) (fun _ => rfl) _ (word 10 _) (hp _) hR
  | ⟨11, _⟩ => show ∀ _, iblk m hO c 27 t _ = _; intro hR; unfold iblk; exact rows _ (cc0_transform_27 k0_off1_inb numel1_S1 (tbl m) (grid0.coords t)) (fun _ => rfl) (fun _ => rfl) _ (word 11 _) (hp _) hR
  | ⟨12, _⟩ => show ∀ _, iblk m hO c 28 t _ = _; intro hR; unfold iblk; exact rows _ (cc0_transform_28 k0_off1_inb numel1_S1 (tbl m) (grid0.coords t)) (fun _ => rfl) (fun _ => rfl) _ (word 12 _) (hp _) hR
  | ⟨13, _⟩ => show ∀ _, iblk m hO c 29 t _ = _; intro hR; unfold iblk; exact rows _ (cc0_transform_29 k0_off1_inb numel1_S1 (tbl m) (grid0.coords t)) (fun _ => rfl) (fun _ => rfl) _ (word 13 _) (hp _) hR
  | ⟨14, _⟩ => show ∀ _, iblk m hO c 30 t _ = _; intro hR; unfold iblk; exact rows _ (cc0_transform_30 k0_off1_inb numel1_S1 (tbl m) (grid0.coords t)) (fun _ => rfl) (fun _ => rfl) _ (word 14 _) (hp _) hR
  | ⟨15, _⟩ => show ∀ _, iblk m hO c 31 t _ = _; intro hR; unfold iblk; exact rows _ (cc0_transform_31 k0_off1_inb numel1_S1 (tbl m) (grid0.coords t)) (fun _ => rfl) (fun _ => rfl) _ (word 15 _) (hp _) hR
  | ⟨n + 16, h⟩ => exact absurd h (Nat.not_lt.2 (Nat.le_add_left _ _))

end Cert.PrepIdeal.Hand
end
-- ==== Proof.PI.Block.lean ====
module

public import proofs.«01_k».proof.Proof.Gen.PrepIdeal.Skeleton
public import proofs.«01_k».proof.Proof.PI.Row

/-! What one grid point's body computes of its sixteen groups of rows. -/

@[expose] public section

set_option maxRecDepth 16384
noncomputable section

namespace Cert.PrepIdeal.Hand

open Cert.PrepIdeal Cert.PrepIdeal.Gen Cert.PrepIdeal.Facts Cert.Prep.Row
open Idealize.ShloMosaic Idealize.ShloMosaic.TcCoe Idealize.ShloMosaic.ValueIdx

/-- Row r of sixteen groups of sixteen rows. -/
def piece {α : Type} {D : Nat} (f : Fin 16 → (Mat 16 D).Idx → α) (r : Fin 256) (k : Fin D) : α :=
  f ⟨r.val / 16, by omega⟩ (ix2 ⟨r.val % 16, by omega⟩ k)

/-- Sixteen groups laid one after another, read at an index. -/
theorem stacked {α : Type} {D : Nat} (f : Fin 16 → (Mat 16 D).Idx → α)
    (h : Shape.Concatenates ((List.ofFn fun n : Fin 16 => (⟨Mat 16 D, f n⟩ : (s : Shape) × (s.Idx → α))).map (·.1)) (Mat 256 D) 0) (r : Fin 256) (k : Fin D) :
    concatenate (Mat 256 D) 0 (List.ofFn fun n : Fin 16 => (⟨Mat 16 D, f n⟩ : (s : Shape) × (s.Idx → α))) h (ix2 r k) = piece f r k :=
  concatenate_ofFn_apply (t := Mat 256 D) (s₁ := Mat 16 D) 0 f h rfl 16 rfl (ix2 r k) ⟨r.val / 16, by omega⟩ rfl (ix2 ⟨r.val % 16, by omega⟩ k) rfl
    fun b hb => match b, hb with
      | ⟨0, _⟩, hb => absurd rfl hb
      | ⟨1, _⟩, _ => rfl

variable (r : Fin 256)

theorem teacher_rows (f : Fin 16 → Vec Ideal S16x2560 .bf16) (k : Fin 2560) :
    (k0_pay1 (F := Ideal) (f 0) (f 1) (f 2) (f 3) (f 4) (f 5) (f 6) (f 7) (f 8) (f 9) (f 10) (f 11) (f 12) (f 13) (f 14) (f 15) (ix2 r k) : EReal) = piece f r k :=
  stacked (α := EReal) f concatenates_S16x2560_S16x2560_S16x2560_S16x2560_S16x2560_S16x2560_S16x2560_S16x2560_S16x2560_S16x2560_S16x2560_S16x2560_S16x2560_S16x2560_S16x2560_S16x2560_S256x2560_d0 r k

/-- The teacher rows of the block. -/
theorem teacher_block (f : Fin 16 → Vec Ideal S16x2560 .bf16) (g : Vec Ideal S1x2560 .f32) (k : Fin 2560) :
    (k0_pay4 (F := Ideal) (k0_pay1 (f 0) (f 1) (f 2) (f 3) (f 4) (f 5) (f 6) (f 7) (f 8) (f 9) (f 10) (f 11) (f 12) (f 13) (f 14) (f 15)) (k0_pay2 (f 0) (f 1) (f 2) (f 3) (f 4) (f 5) (f 6) (f 7) (f 8) (f 9) (f 10) (f 11) (f 12) (f 13) (f 14) (f 15)) k0_pay3 g (ix2 r k) : EReal)
      = teacher (fun k => (piece f r k : EReal)) (fun k => (g (ix2 0 k) : EReal)) k := by
  have e := teacher_rows r f
  have q := root_apply (k0_pay1 (F := Ideal) (f 0) (f 1) (f 2) (f 3) (f 4) (f 5) (f 6) (f 7) (f 8) (f 9) (f 10) (f 11) (f 12) (f 13) (f 14) (f 15)) r 0x45200000#32 reduces_S256x2560_S256 (.inl rfl) rfl shapeCasts_S256_S256x1
  refine (teacher_apply (k0_pay1 (F := Ideal) (f 0) (f 1) (f 2) (f 3) (f 4) (f 5) (f 6) (f 7) (f 8) (f 9) (f 10) (f 11) (f 12) (f 13) (f 14) (f 15)) r g _ q broadcasts_S256x1_S256x2560 shapeCasts_S1x2560_S1x2560 broadcasts_S1x2560_S256x2560 bitsLt_bf16_f32 k).trans ?_
  exact congrArg (fun y => teacher y (fun k => (g (ix2 0 k) : EReal)) k) (funext e)

/-- The student rows of the block, normed. -/
theorem student_block (x : Vec Ideal S256x1024 .bf16) (f : Fin 1024 → EReal) (hf : ∀ k, (x (ix2 r k) : EReal) = f k) (g : Vec Ideal S1x1024 .f32) (k : Fin 1024) :
    (k0_pay5 (F := Ideal) x g (ix2 r k) : EReal) = student f (fun k => (g (ix2 0 k) : EReal)) k := by
  have q := root_apply (extf (F := Ideal) .f32 x bitsLt_bf16_f32) r 0x44800000#32 reduces_S256x1024_S256 (.inl rfl) rfl shapeCasts_S256_S256x1
  refine (student_apply (extf (F := Ideal) .f32 x bitsLt_bf16_f32) r g _ q broadcasts_S256x1_S256x1024 shapeCasts_S1x1024_S1x1024 broadcasts_S1x1024_S256x1024 k).trans ?_
  exact congrArg (fun y => student y (fun k => (g (ix2 0 k) : EReal)) k) (funext hf)

/-- The scale of a row. -/
theorem scale_block (v : FVec Ideal S256x1024 .f32) (y : Fin 1024 → EReal) (hy : ∀ k, (v (ix2 r k) : EReal) = y k) (z : Fin 1) :
    (k0_pay6 (F := Ideal) v (ix2 r z) : EReal) = scale (top y) := by
  refine (scale_apply r (shapeCast S256x1 (multiReduction .maximumf [1] S256 (absf v) 0xFF800000#32 reduces_S256x1024_S256 (.inl rfl) rfl) shapeCasts_S256_S256x1) z).trans ?_
  refine congrArg scale ((top_apply v r reduces_S256x1024_S256 (.inl rfl) rfl shapeCasts_S256_S256x1 z).trans ?_)
  exact congrArg top (funext hy)

/-- The codes of a row. -/
theorem code_block (v : FVec Ideal S256x1024 .f32) (s : FVec Ideal S256x1 .f32) (k : Fin 1024) :
    (k0_pay7 (F := Ideal) v s (ix2 r k) : EReal) = code (v (ix2 r k)) (s (ix2 r 0)) :=
  code_apply v r s broadcasts_S256x1_S256x1024 bitsLt_fp8e4m3_f32 k

/-- The scale in every lane. -/
theorem lanes_block (s : FVec Ideal S256x1 .f32) (l : Fin 128) : (k0_pay8 (F := Ideal) s (ix2 r l) : EReal) = s (ix2 r 0) := by
  refine (spread (shapeCast S256x1 s shapeCasts_S256x1_S256x1) broadcasts_S256x1_S256x128 r l).trans ?_
  rw [shapeCast_self]

end Cert.PrepIdeal.Hand
end
-- ==== Proof.PI.Blocks.lean ====
module

public import proofs.«01_k».proof.Proof.PI.RunA
public import proofs.«01_k».proof.Proof.PI.Fetch
public import proofs.«01_k».proof.Proof.PI.Block
public import Idealize.ShloMosaic.Lib.StableHlo.RunRead

/-! What a grid point leaves in its three blocks: the answers' rows at the point's place. -/

@[expose] public section

set_option maxRecDepth 16384
noncomputable section

namespace Cert.PrepIdeal.Hand

open Cert.PrepIdeal Cert.PrepIdeal.Gen
open Idealize.ShloMosaic Idealize.ShloMosaic.TcCoe
open Cert.Prep.Row (source teacher student top scale code answerT answerC answerS)

section Any

variable {F : FTy → Type} [FloatOps F]
variable (m : (ℓ : Loc nD τ sig) → Buf (Elt F) ℓ) (hO : Ok m) (c : Dev nD) (t : Fin (cfgM m hO).N)

theorem V_main_v0 : V m c main_v0 = broadcastInDim S1x2560 ![1] bcast_S2560_S1x2560_1 (m ((c : Thread nD τ).loc main_arg3)) := by
  unfold V
  simp only [hostOps0]
  after_reads_simp

theorem V_main_v1 : V m c main_v1 = broadcastInDim S1x1024 ![1] bcast_S1024_S1x1024_1 (m ((c : Thread nD τ).loc main_arg2)) := by
  unfold V
  simp only [hostOps0]
  after_reads_simp

/-- A block that is its one-row array. -/
theorem row_of {α : Type} {D : Nat} (x : (⟨2, ![1, D]⟩ : Shape).Idx → α) (e : (⟨2, ![1, D]⟩ : Shape).Idx → (⟨2, ![1, D]⟩ : Shape).Idx)
    (h0 : ∀ j, (e j 0).val = 0 * 1 + 1 * (j 0).val) (h1 : ∀ j, (e j 1).val = 0 * D + 1 * (j 1).val) (k : Fin D) :
    x (e (ValueIdx.ix2 0 k)) = x (ValueIdx.ix2 0 k) := by
  refine congrArg x (funext fun a => Fin.ext ?_)
  match a with
  | ⟨0, _⟩ => exact h0 _
  | ⟨1, _⟩ =>
    refine (h1 _).trans ?_
    show 0 * D + 1 * k.val = k.val
    omega

/-- The two gains, as the body finds them. -/
theorem gainT (k : Fin 2560) : (iblk m hO c 32 t : Vec F S1x2560 .f32) (ValueIdx.ix2 0 k) = (m ((c : Thread nD τ).loc main_arg3) : Vec F S2560 .f32) (ValueIdx.ix1 k) := by
  unfold iblk
  refine (row_of (D := 2560) (V m c main_v0 : Vec F S1x2560 .f32) _ (fun _ => rfl) (fun _ => rfl) k).trans ?_
  rw [V_main_v0]
  exact broadcastInDim_apply _ bcast_S2560_S1x2560_1 _ (ValueIdx.ix2 (0 : Fin 1) k) (ValueIdx.ix1 k) (fun a => match a with | ⟨0, _⟩ => rfl)

theorem gainS (k : Fin 1024) : (iblk m hO c 33 t : Vec F S1x1024 .f32) (ValueIdx.ix2 0 k) = (m ((c : Thread nD τ).loc main_arg2) : Vec F S1024 .f32) (ValueIdx.ix1 k) := by
  unfold iblk
  refine (row_of (D := 1024) (V m c main_v1 : Vec F S1x1024 .f32) _ (fun _ => rfl) (fun _ => rfl) k).trans ?_
  rw [V_main_v1]
  exact broadcastInDim_apply _ bcast_S1024_S1x1024_1 _ (ValueIdx.ix2 (0 : Fin 1) k) (ValueIdx.ix1 k) (fun a => match a with | ⟨0, _⟩ => rfl)

/-- The place of a point's row in the list. -/
theorem source_at (r : Fin 256) (R : Fin 7680) (hR : R.val = 256 * (grid0.coords t 0).val + r.val) :
    (source (tbl m 0 : Vec F S480 .i32) R).val
      = ((tbl m 0 : Vec F S480 .i32) (ValueIdx.ix1 (spot (grid0.coords t) ⟨r.val / 16, by omega⟩))).toNat % 480 * 16 + (⟨r.val % 16, by omega⟩ : Fin 16).val := by
  have e : (⟨R.val / 16, by omega⟩ : Fin 480) = spot (grid0.coords t) ⟨r.val / 16, by omega⟩ := Fin.ext (by
    show R.val / 16 = 16 * (grid0.coords t 0).val + r.val / 16
    omega)
  have f : R.val % 16 = r.val % 16 := by omega
  show ((tbl m 0 : Vec F S480 .i32) (ValueIdx.ix1 (⟨R.val / 16, _⟩ : Fin 480))).toNat % 480 * 16 + R.val % 16 = _
  rw [f]
  exact congrArg (fun j : Fin 480 => ((tbl m 0 : Vec F S480 .i32) (ValueIdx.ix1 j)).toNat % 480 * 16 + r.val % 16) e

end Any

variable (m : (ℓ : Loc nD τ sig) → Buf (Elt Ideal) ℓ) (hO : Ok m) (c : Dev nD) (t : Fin (cfgM m hO).N)
variable (hp : ∀ j : S480.Idx, (tbl m 0 j : BitVec 32).toNat < 480) (r : Fin 256) (R : Fin 7680) (hR : R.val = 256 * (grid0.coords t 0).val + r.val)
include hp hR

theorem pieceT (k : Fin 2560) : (piece (blocksT m hO c t) r k : EReal) = (V m c main_arg1 : Vec Ideal S7680x2560 .bf16) (ValueIdx.ix2 (source (tbl m 0) R) k) :=
  blocksT_apply m hO c t hp _ _ k _ (source_at m hO t r R hR)

theorem pieceS (k : Fin 1024) : (piece (blocksS m hO c t) r k : EReal) = (V m c main_arg0 : Vec Ideal S7680x1024 .bf16) (ValueIdx.ix2 (source (tbl m 0) R) k) :=
  blocksS_apply m hO c t hp _ _ k _ (source_at m hO t r R hR)

/-- The teacher's block. -/
theorem leftT (k : Fin 2560) :
    (out34 (F := Ideal) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 32 t) (ValueIdx.ix2 r k) : EReal)
      = answerT (tbl m 0) (V m c main_arg1) (m ((c : Thread nD τ).loc main_arg3)) (ValueIdx.ix2 R k) := by
  refine (congrFun (out34_eq (F := Ideal) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 32 t)) (ValueIdx.ix2 r k)).trans ?_
  refine (teacher_block r (blocksT m hO c t) (iblk m hO c 32 t) k).trans ?_
  exact congrArg₂ (fun f g => teacher f g k) (funext (pieceT m hO c t hp r R hR)) (funext (gainT m hO c t))

/-- The student's rows before they are quantised. -/
theorem rows_at (k : Fin 1024) :
    (k0_pay5 (F := Ideal) (stack (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t)) (iblk m hO c 33 t) (ValueIdx.ix2 r k) : EReal)
      = student (fun k => ((V m c main_arg0 : Vec Ideal S7680x1024 .bf16) (ValueIdx.ix2 (source (tbl m 0) R) k) : EReal))
          (fun k => ((m ((c : Thread nD τ).loc main_arg2) : Vec Ideal S1024 .f32) (ValueIdx.ix1 k) : EReal)) k := by
  refine (student_block r _ (piece (blocksS m hO c t) r) (fun k => ?_) (iblk m hO c 33 t) k).trans ?_
  · exact stacked (α := EReal) (blocksS m hO c t) (concatenates_S16x1024_S16x1024_S16x1024_S16x1024_S16x1024_S16x1024_S16x1024_S16x1024_S16x1024_S16x1024_S16x1024_S16x1024_S16x1024_S16x1024_S16x1024_S16x1024_S256x1024_d0) r k
  · exact congrArg₂ (fun f g => student f g k) (funext (pieceS m hO c t hp r R hR)) (funext (gainS m hO c t))

theorem scale_at (z : Fin 1) :
    (k0_pay6 (F := Ideal) (k0_pay5 (stack (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t)) (iblk m hO c 33 t)) (ValueIdx.ix2 r z) : EReal)
      = scale (top (student (fun k => ((V m c main_arg0 : Vec Ideal S7680x1024 .bf16) (ValueIdx.ix2 (source (tbl m 0) R) k) : EReal))
          (fun k => ((m ((c : Thread nD τ).loc main_arg2) : Vec Ideal S1024 .f32) (ValueIdx.ix1 k) : EReal)))) :=
  scale_block r _ _ (rows_at m hO c t hp r R hR) z

/-- The student's block of codes. -/
theorem leftC (k : Fin 1024) :
    (out35 (F := Ideal) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t) (ValueIdx.ix2 r k) : EReal)
      = answerC (tbl m 0) (V m c main_arg0) (m ((c : Thread nD τ).loc main_arg2)) (ValueIdx.ix2 R k) := by
  refine (congrFun (out35_eq (F := Ideal) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t)) (ValueIdx.ix2 r k)).trans ?_
  refine (code_block r _ _ k).trans ?_
  exact congrArg₂ code (rows_at m hO c t hp r R hR k) (scale_at m hO c t hp r R hR 0)

/-- The student's block of scales. -/
theorem leftS (l : Fin 128) :
    (out36 (F := Ideal) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t) (ValueIdx.ix2 r l) : EReal)
      = answerS (tbl m 0) (V m c main_arg0) (m ((c : Thread nD τ).loc main_arg2)) (ValueIdx.ix2 R l) := by
  refine (congrFun (out36_eq (F := Ideal) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t)) (ValueIdx.ix2 r l)).trans ?_
  exact (lanes_block r _ l).trans (scale_at m hO c t hp r R hR 0)

end Cert.PrepIdeal.Hand
end
-- ==== Proof.PI.Final.lean ====
module

public import proofs.«01_k».proof.Proof.PI.Frame
public import proofs.«01_k».proof.Proof.PI.Blocks
public import Idealize.ShloMosaic.Lib.Pipeline.Covers

/-! The three arrays after the launch. -/

@[expose] public section

set_option maxRecDepth 16384
noncomputable section

namespace Cert.PrepIdeal.Hand

open Cert.PrepIdeal Cert.PrepIdeal.Gen
open Idealize.ShloMosaic Idealize.ShloMosaic.TcCoe Idealize.SL.Sem
open Idealize.ShloMosaic.Pipeline (Dat)
open Cert.Prep.Row (answerT answerC answerS)

section Any

variable {F : FTy → Type} [FloatOps F]

theorem point (n : Nat) (h : n < 30) : (BitVec.ofNat 32 n).toNat = n := by
  rw [BitVec.toNat_ofNat]
  omega

/-! Every row lies in some point's block. -/

theorem cov34 (a : (pcfg0 (F := F)).Adm) : ((cfg0 a).win 34).Covers :=
  ((cfg0 a).win 34).covers_of_indexMap_surj rfl (fun a => match a with | ⟨0, _⟩ => (by decide : 0 < 256) | ⟨1, _⟩ => (by decide : 0 < 2560))
    fun β =>
      have h0 : (β (0 : Fin 2)).val < 30 := (β (0 : Fin 2)).isLt.trans_eq (rfl : (7680 + 256 - 1) / 256 = 30)
      have h1 : (β (1 : Fin 2)).val < 1 := (β (1 : Fin 2)).isLt.trans_eq (rfl : (2560 + 2560 - 1) / 2560 = 1)
      ⟨fun a => match a with | ⟨0, _⟩ => ⟨(β (0 : Fin 2)).val, h0⟩, fun a => match a with
        | ⟨0, _⟩ => point _ h0
        | ⟨1, _⟩ => (Nat.lt_one_iff.mp h1).symm⟩

theorem cov35 (a : (pcfg0 (F := F)).Adm) : ((cfg0 a).win 35).Covers :=
  ((cfg0 a).win 35).covers_of_indexMap_surj rfl (fun a => match a with | ⟨0, _⟩ => (by decide : 0 < 256) | ⟨1, _⟩ => (by decide : 0 < 1024))
    fun β =>
      have h0 : (β (0 : Fin 2)).val < 30 := (β (0 : Fin 2)).isLt.trans_eq (rfl : (7680 + 256 - 1) / 256 = 30)
      have h1 : (β (1 : Fin 2)).val < 1 := (β (1 : Fin 2)).isLt.trans_eq (rfl : (1024 + 1024 - 1) / 1024 = 1)
      ⟨fun a => match a with | ⟨0, _⟩ => ⟨(β (0 : Fin 2)).val, h0⟩, fun a => match a with
        | ⟨0, _⟩ => point _ h0
        | ⟨1, _⟩ => (Nat.lt_one_iff.mp h1).symm⟩

theorem cov36 (a : (pcfg0 (F := F)).Adm) : ((cfg0 a).win 36).Covers :=
  ((cfg0 a).win 36).covers_of_indexMap_surj rfl (fun a => match a with | ⟨0, _⟩ => (by decide : 0 < 256) | ⟨1, _⟩ => (by decide : 0 < 128))
    fun β =>
      have h0 : (β (0 : Fin 2)).val < 30 := (β (0 : Fin 2)).isLt.trans_eq (rfl : (7680 + 256 - 1) / 256 = 30)
      have h1 : (β (1 : Fin 2)).val < 1 := (β (1 : Fin 2)).isLt.trans_eq (rfl : (128 + 128 - 1) / 128 = 1)
      ⟨fun a => match a with | ⟨0, _⟩ => ⟨(β (0 : Fin 2)).val, h0⟩, fun a => match a with
        | ⟨0, _⟩ => point _ h0
        | ⟨1, _⟩ => (Nat.lt_one_iff.mp h1).symm⟩

theorem pair {a b : Nat} (y : (⟨2, ![a, b]⟩ : Shape).Idx) : y = ValueIdx.ix2 (y 0) (y 1) :=
  funext fun i => match i with | ⟨0, _⟩ => rfl | ⟨1, _⟩ => rfl

/-- The place of a point's row in the whole array. -/
abbrev at_row (t : Fin grid0.N) (r : Fin 256) : Fin 7680 :=
  ⟨256 * (grid0.coords t 0).val + r.val, by have : (grid0.coords t 0).val < 30 := (grid0.coords t 0).isLt; omega⟩

/-- Where a point's block lies. -/
theorem placed {D : Nat} (i : Fin 30) (e : (⟨2, ![256, D]⟩ : Shape).Idx → (⟨2, ![7680, D]⟩ : Shape).Idx)
    (h0 : ∀ j, (e j 0).val = (BitVec.ofNat 32 i.val).toNat * 256 + 1 * (j 0).val) (h1 : ∀ j, (e j 1).val = 0 * D + 1 * (j 1).val)
    (y : (⟨2, ![256, D]⟩ : Shape).Idx) (R : Fin 7680) (hR : R.val = 256 * i.val + (y 0).val) : e y = ValueIdx.ix2 R (y 1) :=
  funext fun a => Fin.ext (match a with
    | ⟨0, _⟩ => by
      refine (h0 y).trans ?_
      rw [point _ i.isLt]
      show i.val * 256 + 1 * (y 0).val = R.val
      omega
    | ⟨1, _⟩ => by
      refine (h1 y).trans ?_
      show 0 * D + 1 * (y 1).val = (y 1).val
      omega)

end Any

section Arrays

variable (m : (ℓ : Loc nD τ sig) → Buf (Elt Ideal) ℓ) (hO : Ok m) (c : Dev nD) (hp : ∀ j : S480.Idx, (tbl m 0 j : BitVec 32).toNat < 480)
include hp

theorem final34 : (dats m hO 0 c).arrAt 34 (cfgM m hO).N = answerT (tbl m 0) (V m c main_arg1) (m ((c : Thread nD τ).loc main_arg3)) := by
  refine (dats m hO 0 c).arrAt_eq_of_covers 34 _ (cov34 (adm m hO)) fun t hf y => ?_
  refine (congrFun (after0_34 m hO c t) y).trans ?_
  refine (congrArg _ (pair (a := 256) (b := 2560) y)).trans ?_
  refine (leftT m hO c t hp (y (0 : Fin 2)) (at_row t (y (0 : Fin 2))) rfl (y (1 : Fin 2))).trans ?_
  exact congrArg (answerT (tbl m 0) (V m c main_arg1) (m ((c : Thread nD τ).loc main_arg3))) (placed (D := 2560) (grid0.coords t 0) (((cfgM m hO).win 34).blk t).view.emb (fun _ => rfl) (fun _ => rfl) y _ rfl).symm

theorem final35 : (dats m hO 0 c).arrAt 35 (cfgM m hO).N = answerC (tbl m 0) (V m c main_arg0) (m ((c : Thread nD τ).loc main_arg2)) := by
  refine (dats m hO 0 c).arrAt_eq_of_covers 35 _ (cov35 (adm m hO)) fun t hf y => ?_
  refine (congrFun (after0_35 m hO c t) y).trans ?_
  refine (congrArg _ (pair (a := 256) (b := 1024) y)).trans ?_
  refine (leftC m hO c t hp (y (0 : Fin 2)) (at_row t (y (0 : Fin 2))) rfl (y (1 : Fin 2))).trans ?_
  exact congrArg (answerC (tbl m 0) (V m c main_arg0) (m ((c : Thread nD τ).loc main_arg2))) (placed (D := 1024) (grid0.coords t 0) (((cfgM m hO).win 35).blk t).view.emb (fun _ => rfl) (fun _ => rfl) y _ rfl).symm

theorem final36 : (dats m hO 0 c).arrAt 36 (cfgM m hO).N = answerS (tbl m 0) (V m c main_arg0) (m ((c : Thread nD τ).loc main_arg2)) := by
  refine (dats m hO 0 c).arrAt_eq_of_covers 36 _ (cov36 (adm m hO)) fun t hf y => ?_
  refine (congrFun (after0_36 m hO c t) y).trans ?_
  refine (congrArg _ (pair (a := 256) (b := 128) y)).trans ?_
  refine (leftS m hO c t hp (y (0 : Fin 2)) (at_row t (y (0 : Fin 2))) rfl (y (1 : Fin 2))).trans ?_
  exact congrArg (answerS (tbl m 0) (V m c main_arg0) (m ((c : Thread nD τ).loc main_arg2))) (placed (D := 128) (grid0.coords t 0) (((cfgM m hO).win 36).blk t).view.emb (fun _ => rfl) (fun _ => rfl) y _ rfl).symm

end Arrays

variable (m : (ℓ : Loc nD τ sig) → Buf (Elt Ideal) ℓ) (ρ : Dev nD → PrngReg)

/-- The launch ends with the three arrays of the rows in the list's order. -/
theorem rows_run (hp : ∀ j : S480.Idx, (tbl m 0 j : BitVec 32).toNat < 480) :
    θ_run defs (onTc (τ := τ) (main (F := Ideal))) ⟨m, fun _ => 0, ρ⟩ (fun r => ∀ c : Dev nD,
      r.2.mem ((c : Thread nD τ).loc main_v2_0)
          = answerT (m ((c : Thread nD τ).loc main_arg4)) (m ((c : Thread nD τ).loc main_arg1)) (m ((c : Thread nD τ).loc main_arg3))
        ∧ r.2.mem ((c : Thread nD τ).loc main_v2_1)
          = answerC (m ((c : Thread nD τ).loc main_arg4)) (m ((c : Thread nD τ).loc main_arg0)) (m ((c : Thread nD τ).loc main_arg2))
        ∧ r.2.mem ((c : Thread nD τ).loc main_v2_2)
          = answerS (m ((c : Thread nD τ).loc main_arg4)) (m ((c : Thread nD τ).loc main_arg0)) (m ((c : Thread nD τ).loc main_arg2))) := by
  have hO : Ok m := ok_of _ hp
  refine (θ_run defs _ _).mono (fun r h c => ?_) (run_main (F := Ideal) m ρ hO)
  have e4 : tbl m 0 = m ((c : Thread nD τ).loc main_arg4) := (V_pre m c 0).symm.trans (V_main_arg4 m c)
  have e0 := V_main_arg0 m c
  have e1 := V_main_arg1 m c
  refine ⟨((h c).1 34).trans ((final34 m hO c hp).trans ?_), ((h c).1 35).trans ((final35 m hO c hp).trans ?_), ((h c).1 36).trans ((final36 m hO c hp).trans ?_)⟩
  · rw [e4, e1]
  · rw [e4, e0]
  · rw [e4, e0]

end Cert.PrepIdeal.Hand
end
-- ==== Proof.PK.Ok.lean ====
module

public import proofs.«01_k».proof.Proof.PI.Ordered
public import proofs.«01_k».proof.Proof.Gen.Prep.Frame.Runs

/-! Under the precondition every block the launch fetches lies inside its array. -/

@[expose] public section

set_option maxRecDepth 16384
noncomputable section

namespace Cert.Prep.Hand

open Cert.Prep Cert.Prep.Gen Cert.Prep.Ordered
open Idealize.ShloMosaic Idealize.ShloMosaic.TcCoe

variable {F : FTy → Type} [FloatOps F]

/-- The launch's side condition, of a table that names groups only. -/
theorem ok_of (pf : pre0.Contents (Elt F)) (h : ∀ j : S480.Idx, (pf 0 j : BitVec 32).toNat < 480) : ok0 pf := by
  unfold ok0
  refine ⟨fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl, fun _ => group _ _ (h _) rfl⟩

/-- The side condition, from the precondition on the launch's memory. -/
theorem ok_pre [Cert.Pre_ordered.Facts] (m : (ℓ : Loc nD τ sig) → Buf (Elt F) ℓ)
    (h : ∀ c : Dev nD, Cert.Pre_ordered.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) : Ok m := by
  refine ok_of _ fun j => ?_
  have e : tbl m 0 = m (((0 : Dev nD).tc : Thread nD τ).loc main_arg4) := V_main_arg4 m 0
  rw [e]
  exact words _ _ _ _ _ (h 0) j

end Cert.Prep.Hand
end
-- ==== Proof.PK.RunA.lean ====
module

public import proofs.«01_k».proof.Proof.Gen.Prep.Frame.Runs
public import Idealize.ShloMosaic.Lib.Pipeline.ValueKit

/-! The body of one grid point, run on whole buffers: what it leaves in the three outputs' blocks. -/

@[expose] public section

set_option maxRecDepth 16384

noncomputable section

namespace Cert.Prep.Hand

open Cert.Prep Cert.Prep.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rectangles the body loads and stores through: each block whole. -/
abbrev rT : Rect S16x2560 := Rect.unit (s := S16x2560) ![0, 0] S16x2560.size inb_S16x2560_S16x2560_0_0
abbrev rS : Rect S16x1024 := Rect.unit (s := S16x1024) ![0, 0] S16x1024.size inb_S16x1024_S16x1024_0_0
abbrev rGT : Rect S1x2560 := Rect.unit (s := S1x2560) ![0, 0] S1x2560.size inb_S1x2560_S1x2560_0_0
abbrev rGS : Rect S1x1024 := Rect.unit (s := S1x1024) ![0, 0] S1x1024.size inb_S1x1024_S1x1024_0_0
abbrev r34 : Rect S256x2560 := Rect.unit (s := S256x2560) ![0, 0] S256x2560.size inb_S256x2560_S256x2560_0_0
abbrev r35 : Rect S256x1024 := Rect.unit (s := S256x1024) ![0, 0] S256x1024.size inb_S256x1024_S256x1024_0_0
abbrev r36 : Rect S256x128 := Rect.unit (s := S256x128) ![0, 0] S256x128.size inb_S256x128_S256x128_0_0

/-- Sixteen groups of the second input's rows, one below another. -/
def stack (x16 x17 x18 x19 x20 x21 x22 x23 x24 x25 x26 x27 x28 x29 x30 x31 : Vec F S16x1024 .bf16) : FVec F S256x1024 .bf16 :=
  concatenate S256x1024 0 [⟨S16x1024, x16⟩, ⟨S16x1024, x17⟩, ⟨S16x1024, x18⟩, ⟨S16x1024, x19⟩, ⟨S16x1024, x20⟩, ⟨S16x1024, x21⟩, ⟨S16x1024, x22⟩, ⟨S16x1024, x23⟩, ⟨S16x1024, x24⟩, ⟨S16x1024, x25⟩, ⟨S16x1024, x26⟩, ⟨S16x1024, x27⟩, ⟨S16x1024, x28⟩, ⟨S16x1024, x29⟩, ⟨S16x1024, x30⟩, ⟨S16x1024, x31⟩]
    concatenates_S16x1024_S16x1024_S16x1024_S16x1024_S16x1024_S16x1024_S16x1024_S16x1024_S16x1024_S16x1024_S16x1024_S16x1024_S16x1024_S16x1024_S16x1024_S16x1024_S256x1024_d0

/-- The student's rows, before the codes are taken. -/
def rows (x16 x17 x18 x19 x20 x21 x22 x23 x24 x25 x26 x27 x28 x29 x30 x31 : Vec F S16x1024 .bf16) (x33 : Vec F S1x1024 .f32) : FVec F S256x1024 .f32 :=
  k0_pay5 (stack (View.ld x16 rS) (View.ld x17 rS) (View.ld x18 rS) (View.ld x19 rS) (View.ld x20 rS) (View.ld x21 rS) (View.ld x22 rS) (View.ld x23 rS) (View.ld x24 rS) (View.ld x25 rS) (View.ld x26 rS) (View.ld x27 rS) (View.ld x28 rS) (View.ld x29 rS) (View.ld x30 rS) (View.ld x31 rS)) (View.ld x33 rGS)

/-- What the body leaves in each output's buffer, from the inputs' blocks. -/
def out34 (x0 x1 x2 x3 x4 x5 x6 x7 x8 x9 x10 x11 x12 x13 x14 x15 : Vec F S16x2560 .bf16) (x32 : Vec F S1x2560 .f32) : Vec F S256x2560 .bf16 :=
  View.canon [⟨r34, k0_pay4 (k0_pay1 (View.ld x0 rT) (View.ld x1 rT) (View.ld x2 rT) (View.ld x3 rT) (View.ld x4 rT) (View.ld x5 rT) (View.ld x6 rT) (View.ld x7 rT) (View.ld x8 rT) (View.ld x9 rT) (View.ld x10 rT) (View.ld x11 rT) (View.ld x12 rT) (View.ld x13 rT) (View.ld x14 rT) (View.ld x15 rT)) (k0_pay2 (View.ld x0 rT) (View.ld x1 rT) (View.ld x2 rT) (View.ld x3 rT) (View.ld x4 rT) (View.ld x5 rT) (View.ld x6 rT) (View.ld x7 rT) (View.ld x8 rT) (View.ld x9 rT) (View.ld x10 rT) (View.ld x11 rT) (View.ld x12 rT) (View.ld x13 rT) (View.ld x14 rT) (View.ld x15 rT)) (k0_pay3 (F := F)) (View.ld x32 rGT)⟩]
def out35 (x16 x17 x18 x19 x20 x21 x22 x23 x24 x25 x26 x27 x28 x29 x30 x31 : Vec F S16x1024 .bf16) (x33 : Vec F S1x1024 .f32) : Vec F S256x1024 .fp8e4m3 :=
  View.canon [⟨r35, k0_pay7 (rows x16 x17 x18 x19 x20 x21 x22 x23 x24 x25 x26 x27 x28 x29 x30 x31 x33) (k0_pay6 (rows x16 x17 x18 x19 x20 x21 x22 x23 x24 x25 x26 x27 x28 x29 x30 x31 x33))⟩]
def out36 (x16 x17 x18 x19 x20 x21 x22 x23 x24 x25 x26 x27 x28 x29 x30 x31 : Vec F S16x1024 .bf16) (x33 : Vec F S1x1024 .f32) : Vec F S256x128 .f32 :=
  View.canon [⟨r36, k0_pay8 (k0_pay6 (rows x16 x17 x18 x19 x20 x21 x22 x23 x24 x25 x26 x27 x28 x29 x30 x31 x33))⟩]

/-- Each output's one store is of its whole block. -/
theorem cover34 (p : Vec F S256x2560 .bf16) (y : S256x2560.Idx) : ∃ pc ∈ ([⟨r34, p⟩] : List (View.Piece (Elt F) S256x2560 .bf16)), y ∈ pc.1.set :=
  View.cover_of_tiled [⟨r34, p⟩] S256x2560.size (by rfl) y
theorem cover35 (p : Vec F S256x1024 .fp8e4m3) (y : S256x1024.Idx) : ∃ pc ∈ ([⟨r35, p⟩] : List (View.Piece (Elt F) S256x1024 .fp8e4m3)), y ∈ pc.1.set :=
  View.cover_of_tiled [⟨r35, p⟩] S256x1024.size (by rfl) y
theorem cover36 (p : Vec F S256x128 .f32) (y : S256x128.Idx) : ∃ pc ∈ ([⟨r36, p⟩] : List (View.Piece (Elt F) S256x128 .f32)), y ∈ pc.1.set :=
  View.cover_of_tiled [⟨r36, p⟩] S256x128.size (by rfl) y

set_option maxHeartbeats 20000000 in
/-- The body on whole buffers, the inputs' at read contents and the outputs' at anything, runs to a continuation that holds
    the inputs' as they were and the outputs' at `out34`, `out35` and `out36`. -/
theorem body_run (c : Dev nD) (i : grid0.Coords) (E : Set ℕ) (arg2 : Memref sig .tc .vmem S16x2560 .bf16) (harg2 : arg2.IsWhole) (arg3 : Memref sig .tc .vmem S16x2560 .bf16) (harg3 : arg3.IsWhole) (arg4 : Memref sig .tc .vmem S16x2560 .bf16) (harg4 : arg4.IsWhole) (arg5 : Memref sig .tc .vmem S16x2560 .bf16) (harg5 : arg5.IsWhole) (arg6 : Memref sig .tc .vmem S16x2560 .bf16) (harg6 : arg6.IsWhole) (arg7 : Memref sig .tc .vmem S16x2560 .bf16) (harg7 : arg7.IsWhole) (arg8 : Memref sig .tc .vmem S16x2560 .bf16) (harg8 : arg8.IsWhole) (arg9 : Memref sig .tc .vmem S16x2560 .bf16) (harg9 : arg9.IsWhole) (arg10 : Memref sig .tc .vmem S16x2560 .bf16) (harg10 : arg10.IsWhole) (arg11 : Memref sig .tc .vmem S16x2560 .bf16) (harg11 : arg11.IsWhole) (arg12 : Memref sig .tc .vmem S16x2560 .bf16) (harg12 : arg12.IsWhole) (arg13 : Memref sig .tc .vmem S16x2560 .bf16) (harg13 : arg13.IsWhole) (arg14 : Memref sig .tc .vmem S16x2560 .bf16) (harg14 : arg14.IsWhole) (arg15 : Memref sig .tc .vmem S16x2560 .bf16) (harg15 : arg15.IsWhole) (arg16 : Memref sig .tc .vmem S16x2560 .bf16) (harg16 : arg16.IsWhole) (arg17 : Memref sig .tc .vmem S16x2560 .bf16) (harg17 : arg17.IsWhole) (arg18 : Memref sig .tc .vmem S16x1024 .bf16) (harg18 : arg18.IsWhole) (arg19 : Memref sig .tc .vmem S16x1024 .bf16) (harg19 : arg19.IsWhole) (arg20 : Memref sig .tc .vmem S16x1024 .bf16) (harg20 : arg20.IsWhole) (arg21 : Memref sig .tc .vmem S16x1024 .bf16) (harg21 : arg21.IsWhole) (arg22 : Memref sig .tc .vmem S16x1024 .bf16) (harg22 : arg22.IsWhole) (arg23 : Memref sig .tc .vmem S16x1024 .bf16) (harg23 : arg23.IsWhole) (arg24 : Memref sig .tc .vmem S16x1024 .bf16) (harg24 : arg24.IsWhole) (arg25 : Memref sig .tc .vmem S16x1024 .bf16) (harg25 : arg25.IsWhole) (arg26 : Memref sig .tc .vmem S16x1024 .bf16) (harg26 : arg26.IsWhole) (arg27 : Memref sig .tc .vmem S16x1024 .bf16) (harg27 : arg27.IsWhole) (arg28 : Memref sig .tc .vmem S16x1024 .bf16) (harg28 : arg28.IsWhole) (arg29 : Memref sig .tc .vmem S16x1024 .bf16) (harg29 : arg29.IsWhole) (arg30 : Memref sig .tc .vmem S16x1024 .bf16) (harg30 : arg30.IsWhole) (arg31 : Memref sig .tc .vmem S16x1024 .bf16) (harg31 : arg31.IsWhole) (arg32 : Memref sig .tc .vmem S16x1024 .bf16) (harg32 : arg32.IsWhole) (arg33 : Memref sig .tc .vmem S16x1024 .bf16) (harg33 : arg33.IsWhole) (arg34 : Memref sig .tc .vmem S1x2560 .f32) (harg34 : arg34.IsWhole) (arg35 : Memref sig .tc .vmem S1x1024 .f32) (harg35 : arg35.IsWhole) (arg36 : Memref sig .tc .vmem S256x2560 .bf16) (harg36 : arg36.IsWhole) (arg37 : Memref sig .tc .vmem S256x1024 .fp8e4m3) (harg37 : arg37.IsWhole) (arg38 : Memref sig .tc .vmem S256x128 .f32) (harg38 : arg38.IsWhole)
    (x0 x1 x2 x3 x4 x5 x6 x7 x8 x9 x10 x11 x12 x13 x14 x15 : Vec F S16x2560 .bf16) (x16 x17 x18 x19 x20 x21 x22 x23 x24 x25 x26 x27 x28 x29 x30 x31 : Vec F S16x1024 .bf16) (x32 : Vec F S1x2560 .f32) (x33 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ (∃ d, owns (c : Thread nD τ) arg36 fullShare d) ∗ (∃ d, owns (c : Thread nD τ) arg37 fullShare d) ∗ (∃ d, owns (c : Thread nD τ) arg38 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare (out34 x0 x1 x2 x3 x4 x5 x6 x7 x8 x9 x10 x11 x12 x13 x14 x15 x32) ∗ owns (c : Thread nD τ) arg37 fullShare (out35 x16 x17 x18 x19 x20 x21 x22 x23 x24 x25 x26 x27 x28 x29 x30 x31 x33) ∗ owns (c : Thread nD τ) arg38 fullShare (out36 x16 x17 x18 x19 x20 x21 x22 x23 x24 x25 x26 x27 x28 x29 x30 x31 x33)) -∗ K ⟨⟩))
      ⊢ wp frame (wpE (defs₀ (F := F)) Variants.none c none) E (cc0_prep i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K := by
  simp only [cc0_prep_eq_skeleton]; unfold cc0_prep_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%d34, %f34, -, H34⟩, ⟨%d35, %f35, -, H35⟩, ⟨%d36, %f36, -, H36⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists _; isplitr
    swap; · iexact H34
    ipureintro
    refine (View.read_writes_eq_canon _ _ _ (cover34 _)).trans ?_
    rfl
  isplitl [H35]
  · iexists _; isplitr
    swap; · iexact H35
    ipureintro
    refine (View.read_writes_eq_canon _ _ _ (cover35 _)).trans ?_
    rfl
  iexists _; isplitr
  swap; · iexact H36
  ipureintro
  refine (View.read_writes_eq_canon _ _ _ (cover36 _)).trans ?_
  rfl

/-- The three blocks without the loads and stores. -/
theorem out34_eq (x0 x1 x2 x3 x4 x5 x6 x7 x8 x9 x10 x11 x12 x13 x14 x15 : Vec F S16x2560 .bf16) (x32 : Vec F S1x2560 .f32) :
    out34 x0 x1 x2 x3 x4 x5 x6 x7 x8 x9 x10 x11 x12 x13 x14 x15 x32 = k0_pay4 (k0_pay1 x0 x1 x2 x3 x4 x5 x6 x7 x8 x9 x10 x11 x12 x13 x14 x15) (k0_pay2 x0 x1 x2 x3 x4 x5 x6 x7 x8 x9 x10 x11 x12 x13 x14 x15) (k0_pay3 (F := F)) x32 := by
  unfold out34
  frame_out
theorem rows_eq (x16 x17 x18 x19 x20 x21 x22 x23 x24 x25 x26 x27 x28 x29 x30 x31 : Vec F S16x1024 .bf16) (x33 : Vec F S1x1024 .f32) : rows x16 x17 x18 x19 x20 x21 x22 x23 x24 x25 x26 x27 x28 x29 x30 x31 x33 = k0_pay5 (stack x16 x17 x18 x19 x20 x21 x22 x23 x24 x25 x26 x27 x28 x29 x30 x31) x33 := by
  unfold rows
  frame_out
theorem out35_eq (x16 x17 x18 x19 x20 x21 x22 x23 x24 x25 x26 x27 x28 x29 x30 x31 : Vec F S16x1024 .bf16) (x33 : Vec F S1x1024 .f32) :
    out35 x16 x17 x18 x19 x20 x21 x22 x23 x24 x25 x26 x27 x28 x29 x30 x31 x33 = k0_pay7 (k0_pay5 (stack x16 x17 x18 x19 x20 x21 x22 x23 x24 x25 x26 x27 x28 x29 x30 x31) x33) (k0_pay6 (k0_pay5 (stack x16 x17 x18 x19 x20 x21 x22 x23 x24 x25 x26 x27 x28 x29 x30 x31) x33)) := by
  unfold out35
  rw [rows_eq]
  frame_out
theorem out36_eq (x16 x17 x18 x19 x20 x21 x22 x23 x24 x25 x26 x27 x28 x29 x30 x31 : Vec F S16x1024 .bf16) (x33 : Vec F S1x1024 .f32) :
    out36 x16 x17 x18 x19 x20 x21 x22 x23 x24 x25 x26 x27 x28 x29 x30 x31 x33 = k0_pay8 (k0_pay6 (k0_pay5 (stack x16 x17 x18 x19 x20 x21 x22 x23 x24 x25 x26 x27 x28 x29 x30 x31) x33)) := by
  unfold out36
  rw [rows_eq]
  frame_out

end Cert.Prep.Hand
end
-- ==== Proof.PK.Frame.lean ====
module

public import proofs.«01_k».proof.Proof.PK.RunA
public import Idealize.ShloMosaic.Lib.Claim

/-! The launch, from the run of one grid point: the pipeline's data, its run and the frame. -/

@[expose] public section

set_option maxRecDepth 16384

noncomputable section

namespace Cert.Prep.Hand

open Cert.Prep Cert.Prep.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => out34 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 32 t)
    | ⟨35, _⟩ => out35 (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t)
    | ⟨36, _⟩ => out36 (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t)
    | ⟨_ + 37, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = out34 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 32 t) := by dsimp only [dats]; try rfl
theorem after0_35 (hO : Ok m) (c : Dev nD) (t : Fin (cfgM m hO).N) : (dats m hO 0 c).after 35 t = out35 (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t) := by dsimp only [dats]; try rfl
theorem after0_36 (hO : Ok m) (c : Dev nD) (t : Fin (cfgM m hO).N) : (dats m hO 0 c).after 36 t = out36 (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 33 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t))

set_option maxHeartbeats 3600000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply (body_run c (grid0.coords t) Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  isplitl [H35]; · iexists _; iexact H35
  isplitl [H36]; · iexists _; iexact H36
  iintro ⟨H0, H1, H2, H3, H4, H5, H6, H7, H8, H9, H10, H11, H12, H13, H14, H15, H16, H17, H18, H19, H20, H21, H22, H23, H24, H25, H26, H27, H28, H29, H30, H31, H32, H33, H34, H35, H36⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_Prep`'s statement (Defs.lean) at any `F` — Proof.lean cites it at `Bits`:
    `theorem Cert.Proof.claim : Cert.Claim := ⟨Cert.Prep.Gen.facts, fun m ρ _ => Cert.Prep.Gen.frame m ρ⟩`; here for every contents of the PREFETCHED TABLES, UNDER `Gen.Ok m` (the pipeline's side condition of
    them), which Proof.lean proves from the precondition: `⟨…, fun m ρ h => Cert.Prep.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Prep.Hand

end
-- ==== Proof.PR.Rows.lean ====
module

public import proofs.«01_k».proof.Proof.Gen.RowsIdeal.Skeleton
public import proofs.«01_k».proof.Proof.PI.Row

/-! What the reference's body computes of the ordered rows. -/

@[expose] public section

set_option maxRecDepth 16384
noncomputable section

namespace Cert.RowsIdeal.Hand

open Cert.RowsIdeal Cert.RowsIdeal.Gen Cert.RowsIdeal.Facts Cert.Prep.Row
open Idealize.ShloMosaic Idealize.ShloMosaic.TcCoe Idealize.ShloMosaic.ValueIdx

variable (R : Fin 7680)

theorem teacher_rows (h : Vec Ideal S7680x2560 .bf16) (g : Vec Ideal S1x2560 .f32) (k : Fin 2560) :
    (k0_pay4 (F := Ideal) h g (ix2 R k) : EReal) = teacher (fun k => (h (ix2 R k) : EReal)) (fun k => (g (ix2 0 k) : EReal)) k := by
  unfold k0_pay4
  rw [shapeCast_self]
  exact teacher_apply (extf (F := Ideal) .f32 h bitsLt_bf16_f32) R g _
    (root_apply (extf (F := Ideal) .f32 h bitsLt_bf16_f32) R 0x45200000#32 reduces_S7680x2560_S7680 (.inl rfl) rfl shapeCasts_S7680_S7680x1)
    broadcasts_S7680x1_S7680x2560 shapeCasts_S1x2560_S1x2560 broadcasts_S1x2560_S7680x2560 bitsLt_bf16_f32 k

theorem student_rows (x : Vec Ideal S7680x1024 .bf16) (g : Vec Ideal S1x1024 .f32) (k : Fin 1024) :
    (k0_pay5 (F := Ideal) x g (ix2 R k) : EReal) = student (fun k => (x (ix2 R k) : EReal)) (fun k => (g (ix2 0 k) : EReal)) k := by
  unfold k0_pay5
  rw [shapeCast_self]
  exact student_apply (extf (F := Ideal) .f32 x bitsLt_bf16_f32) R g _
    (root_apply (extf (F := Ideal) .f32 x bitsLt_bf16_f32) R 0x44800000#32 reduces_S7680x1024_S7680 (.inl rfl) rfl shapeCasts_S7680_S7680x1)
    broadcasts_S7680x1_S7680x1024 shapeCasts_S1x1024_S1x1024 broadcasts_S1x1024_S7680x1024 k

theorem top_rows (x : Vec Ideal S7680x1024 .bf16) (g : Vec Ideal S1x1024 .f32) (z : Fin 1) :
    (k0_pay6 (F := Ideal) x g (ix2 R z) : EReal) = top (student (fun k => (x (ix2 R k) : EReal)) fun k => (g (ix2 0 k) : EReal)) := by
  refine (top_apply (k0_pay5 (F := Ideal) x g) R reduces_S7680x1024_S7680 (.inl rfl) rfl shapeCasts_S7680_S7680x1 z).trans ?_
  exact congrArg top (funext (student_rows R x g))

theorem code_rows (v : FVec Ideal S7680x1024 .f32) (a : FVec Ideal S7680x1 .f32) (k : Fin 1024) :
    (k0_pay2 (F := Ideal) v a (ix2 R k) : EReal) = code (v (ix2 R k)) (scale (a (ix2 R 0))) :=
  (code_apply v R (k0_pay1 (F := Ideal) a) broadcasts_S7680x1_S7680x1024 bitsLt_fp8e4m3_f32 k).trans (congrArg (code (v (ix2 R k))) (scale_apply R a 0))

theorem lanes_rows (a : FVec Ideal S7680x1 .f32) (l : Fin 128) : (k0_pay3 (F := Ideal) a (ix2 R l) : EReal) = scale (a (ix2 R 0)) := by
  refine (spread (shapeCast S7680x1 (k0_pay1 (F := Ideal) a) shapeCasts_S7680x1_S7680x1) broadcasts_S7680x1_S7680x128 R l).trans ?_
  rw [shapeCast_self]
  exact scale_apply R a 0

/-! ## The three whole arrays -/

theorem whole_teacher (h : Vec Ideal S7680x2560 .bf16) (g : Vec Ideal S1x2560 .f32) :
    k0_pay4 (F := Ideal) h g = outT (fun R k => (h (ix2 R k) : EReal)) fun k => (g (ix2 0 k) : EReal) := by
  funext j
  have hj : j = ix2 (j 0) (j 1) := funext fun a => match a with | ⟨0, _⟩ => rfl | ⟨1, _⟩ => rfl
  exact (congrArg _ hj).trans (teacher_rows (j 0) h g (j 1))

theorem whole_codes (x : Vec Ideal S7680x1024 .bf16) (g : Vec Ideal S1x1024 .f32) :
    k0_pay2 (F := Ideal) (k0_pay5 x g) (k0_pay6 x g) = outC (fun R k => (x (ix2 R k) : EReal)) fun k => (g (ix2 0 k) : EReal) := by
  funext j
  have hj : j = ix2 (j 0) (j 1) := funext fun a => match a with | ⟨0, _⟩ => rfl | ⟨1, _⟩ => rfl
  refine (congrArg _ hj).trans ((code_rows (j 0) _ _ (j 1)).trans ?_)
  exact congrArg₂ (fun a b => code a (scale b)) (student_rows (j 0) x g (j 1)) (top_rows (j 0) x g 0)

theorem whole_scales (x : Vec Ideal S7680x1024 .bf16) (g : Vec Ideal S1x1024 .f32) :
    k0_pay3 (F := Ideal) (k0_pay6 x g) = outS (fun R k => (x (ix2 R k) : EReal)) fun k => (g (ix2 0 k) : EReal) := by
  funext j
  have hj : j = ix2 (j 0) (j 1) := funext fun a => match a with | ⟨0, _⟩ => rfl | ⟨1, _⟩ => rfl
  refine (congrArg _ hj).trans ((lanes_rows (j 0) _ (j 1)).trans ?_)
  exact congrArg scale (top_rows (j 0) x g 0)

end Cert.RowsIdeal.Hand
end
-- ==== Proof.PR.Run.lean ====
module

public import proofs.«01_k».proof.Proof.Gen.RowsIdeal.Frame
public import proofs.«01_k».proof.Proof.PR.Rows
public import proofs.«01_k».proof.Proof.PI.Answer
public import Idealize.ShloMosaic.Lib.StableHlo.RunRead
public import Idealize.ShloMosaic.Lib.Pipeline.ValueKit

/-! What the rows' reference leaves: the three arrays over the rows in the list's order. -/

@[expose] public section

set_option maxRecDepth 16384
noncomputable section

namespace Cert.RowsIdeal.Hand

open Cert.RowsIdeal Cert.RowsIdeal.Gen
open Idealize.ShloMosaic Idealize.ShloMosaic.TcCoe Idealize.SL.Sem
open Idealize.ShloMosaic.Pipeline (Dat)
open Cert.Prep.Row (source outT outC outS answerT answerC answerS)

section Any

variable {F : FTy → Type} [FloatOps F]
variable (m : (ℓ : Loc nD τ sig) → Buf (Elt F) ℓ)

/-- Every window's block index at the one point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem iblk0 (c : Dev nD) : iblk m c 0 t0_0 = V m c main_v3 := by blk_ext! [iblk, idx t0_0]
theorem iblk1 (c : Dev nD) : iblk m c 1 t0_0 = V m c main_v7 := by blk_ext! [iblk, idx t0_0]
theorem iblk2 (c : Dev nD) : iblk m c 2 t0_0 = V m c main_v8 := by blk_ext! [iblk, idx t0_0]
theorem iblk3 (c : Dev nD) : iblk m c 3 t0_0 = V m c main_v9 := by blk_ext! [iblk, idx t0_0]

theorem final4 (c : Dev nD) (G : Vec F S7680x2560 .bf16) (hG : (dats m 0 c).after 4 t0_0 = G) : (dats m 0 c).arrAt 4 cfg0.N = G := by
  refine (dats m 0 c).arrAt_eq_of_after_last 4 t0_0 (by decide +kernel) _ fun j => ?_
  blk_simp
  rw [hG]

theorem final5 (c : Dev nD) (G : Vec F S7680x1024 .fp8e4m3) (hG : (dats m 0 c).after 5 t0_0 = G) : (dats m 0 c).arrAt 5 cfg0.N = G := by
  refine (dats m 0 c).arrAt_eq_of_after_last 5 t0_0 (by decide +kernel) _ fun j => ?_
  blk_simp
  rw [hG]

theorem final6 (c : Dev nD) (G : Vec F S7680x128 .f32) (hG : (dats m 0 c).after 6 t0_0 = G) : (dats m 0 c).arrAt 6 cfg0.N = G := by
  refine (dats m 0 c).arrAt_eq_of_after_last 6 t0_0 (by decide +kernel) _ fun j => ?_
  blk_simp
  rw [hG]

theorem left4 (c : Dev nD) : (dats m 0 c).after 4 t0_0 = k0_pay4 (V m c main_v7) (V m c main_v9) := by
  rw [after0_4, iblk0, iblk1, iblk2, iblk3]
  frame_out

theorem left5 (c : Dev nD) : (dats m 0 c).after 5 t0_0
    = k0_pay2 (k0_pay5 (V m c main_v3) (V m c main_v8)) (k0_pay6 (V m c main_v3) (V m c main_v8)) := by
  rw [after0_5, iblk0, iblk1, iblk2, iblk3]
  frame_out
  unfold k0_pay7
  rw [View.ld_unit_lit _ _ (by decide), View.ld_unit_lit _ _ (by decide)]

theorem left6 (c : Dev nD) : (dats m 0 c).after 6 t0_0 = k0_pay3 (k0_pay6 (V m c main_v3) (V m c main_v8)) := by
  rw [after0_6, iblk0, iblk1, iblk2, iblk3]
  frame_out
  unfold k0_pay7
  rw [View.ld_unit_lit _ _ (by decide), View.ld_unit_lit _ _ (by decide)]

/-! ## The host's operations -/

theorem V_main_v3 (c : Dev nD) : V m c main_v3
    = shapeCast S7680x1024 (Host.gather gather_S480x16x1024_S480x1_S480x16x1024_12_0_n_n_0_1_1161024
        (shapeCast S480x16x1024 (m ((c : Thread nD τ).loc main_arg0)) shapeCasts_S7680x1024_S480x16x1024)
        (broadcastInDim S480x1 ![0] bcast_S480_S480x1_0 (m ((c : Thread nD τ).loc main_arg4)))) shapeCasts_S480x16x1024_S7680x1024 := by
  unfold V
  simp only [hostOps0]
  after_reads_simp
  rfl

theorem V_main_v7 (c : Dev nD) : V m c main_v7
    = shapeCast S7680x2560 (Host.gather gather_S480x16x2560_S480x1_S480x16x2560_12_0_n_n_0_1_1162560
        (shapeCast S480x16x2560 (m ((c : Thread nD τ).loc main_arg1)) shapeCasts_S7680x2560_S480x16x2560)
        (broadcastInDim S480x1 ![0] bcast_S480_S480x1_0 (m ((c : Thread nD τ).loc main_arg4)))) shapeCasts_S480x16x2560_S7680x2560 := by
  unfold V
  simp only [hostOps0]
  after_reads_simp
  rfl

theorem V_main_v8 (c : Dev nD) : V m c main_v8 = broadcastInDim S1x1024 ![1] bcast_S1024_S1x1024_1 (m ((c : Thread nD τ).loc main_arg2)) := by
  unfold V
  simp only [hostOps0]
  after_reads_simp

theorem V_main_v9 (c : Dev nD) : V m c main_v9 = broadcastInDim S1x2560 ![1] bcast_S2560_S1x2560_1 (m ((c : Thread nD τ).loc main_arg3)) := by
  unfold V
  simp only [hostOps0]
  after_reads_simp

end Any

variable (m : (ℓ : Loc nD τ sig) → Buf (Elt Ideal) ℓ) (ρ : Dev nD → PrngReg)

/-- The list is of group numbers. -/
abbrev Groups (c : Dev nD) : Prop := ∀ j, ((m ((c : Thread nD τ).loc main_arg4) : Vec Ideal S480 .i32) j).toNat < 480

theorem rows3 (c : Dev nD) (hp : Groups m c) (R : Fin 7680) (k : Fin 1024) :
    (V m c main_v3 : Vec Ideal S7680x1024 .bf16) (ValueIdx.ix2 R k)
      = (m ((c : Thread nD τ).loc main_arg0) : Vec Ideal S7680x1024 .bf16) (ValueIdx.ix2 (source (m ((c : Thread nD τ).loc main_arg4)) R) k) := by
  rw [V_main_v3]
  exact Cert.Prep.Row.ordered_row _ rfl rfl rfl rfl rfl _ _ hp _ _ _ R k

theorem rows7 (c : Dev nD) (hp : Groups m c) (R : Fin 7680) (k : Fin 2560) :
    (V m c main_v7 : Vec Ideal S7680x2560 .bf16) (ValueIdx.ix2 R k)
      = (m ((c : Thread nD τ).loc main_arg1) : Vec Ideal S7680x2560 .bf16) (ValueIdx.ix2 (source (m ((c : Thread nD τ).loc main_arg4)) R) k) := by
  rw [V_main_v7]
  exact Cert.Prep.Row.ordered_row _ rfl rfl rfl rfl rfl _ _ hp _ _ _ R k

theorem gain8 (c : Dev nD) (k : Fin 1024) : (V m c main_v8 : Vec Ideal S1x1024 .f32) (ValueIdx.ix2 0 k)
    = (m ((c : Thread nD τ).loc main_arg2) : Vec Ideal S1024 .f32) (ValueIdx.ix1 k) := by
  rw [V_main_v8]
  exact broadcastInDim_apply _ bcast_S1024_S1x1024_1 _ (ValueIdx.ix2 (0 : Fin 1) k) (ValueIdx.ix1 k) (fun a => match a with | ⟨0, _⟩ => rfl)

theorem gain9 (c : Dev nD) (k : Fin 2560) : (V m c main_v9 : Vec Ideal S1x2560 .f32) (ValueIdx.ix2 0 k)
    = (m ((c : Thread nD τ).loc main_arg3) : Vec Ideal S2560 .f32) (ValueIdx.ix1 k) := by
  rw [V_main_v9]
  exact broadcastInDim_apply _ bcast_S2560_S1x2560_1 _ (ValueIdx.ix2 (0 : Fin 1) k) (ValueIdx.ix1 k) (fun a => match a with | ⟨0, _⟩ => rfl)

/-- The reference ends with the three arrays of the rows in the list's order. -/
theorem rows_run (hp : ∀ c, Groups m c) :
    θ_run defs (onTc (τ := τ) (main (F := Ideal))) ⟨m, fun _ => 0, ρ⟩ (fun r => ∀ c : Dev nD,
      r.2.mem ((c : Thread nD τ).loc main_v10_0)
          = answerT (m ((c : Thread nD τ).loc main_arg4)) (m ((c : Thread nD τ).loc main_arg1)) (m ((c : Thread nD τ).loc main_arg3))
        ∧ r.2.mem ((c : Thread nD τ).loc main_v10_1)
          = answerC (m ((c : Thread nD τ).loc main_arg4)) (m ((c : Thread nD τ).loc main_arg0)) (m ((c : Thread nD τ).loc main_arg2))
        ∧ r.2.mem ((c : Thread nD τ).loc main_v10_2)
          = answerS (m ((c : Thread nD τ).loc main_arg4)) (m ((c : Thread nD τ).loc main_arg0)) (m ((c : Thread nD τ).loc main_arg2))) := by
  refine (θ_run defs _ _).mono (fun r h c => ⟨?_, ?_, ?_⟩) (run_main (F := Ideal) m ρ)
  · refine ((h c).1 4).trans (final4 m c _ ((left4 m c).trans ((whole_teacher _ _).trans ?_)))
    exact congrArg₂ outT (funext fun R => funext (rows7 m c (hp c) R)) (funext (gain9 m c))
  · refine ((h c).1 5).trans (final5 m c _ ((left5 m c).trans ((whole_codes _ _).trans ?_)))
    exact congrArg₂ outC (funext fun R => funext (rows3 m c (hp c) R)) (funext (gain8 m c))
  · refine ((h c).1 6).trans (final6 m c _ ((left6 m c).trans ((whole_scales _ _).trans ?_)))
    exact congrArg₂ outS (funext fun R => funext (rows3 m c (hp c) R)) (funext (gain8 m c))

end Cert.RowsIdeal.Hand
end
-- ==== Proof.PI.Claims.lean ====
module

public import proofs.«01_k».proof.Defs
public import proofs.«01_k».proof.Proof.PI.Final
public import proofs.«01_k».proof.Proof.PK.Ok
public import proofs.«01_k».proof.Proof.PK.Frame
public import proofs.«01_k».proof.Proof.PR.Run

/-! The gathering launch and the rows' reference: their frames, and their three equal results over the extended reals. -/

@[expose] public section

set_option maxRecDepth 16384
noncomputable section

namespace Cert.Proof.Rows

open Idealize.ShloMosaic Idealize.ShloMosaic.TcCoe Idealize.SL.Sem

variable [Cert.Pre_ordered.Facts]

theorem frame_Prep : Cert.quiescent_Prep := fun m ρ h => Cert.Prep.Hand.frame m ρ (Cert.Prep.Hand.ok_pre m h)

theorem frame_PrepIdeal : Cert.quiescent_PrepIdeal := fun m ρ h => Cert.PrepIdeal.Hand.frame m ρ (Cert.PrepIdeal.Hand.ok_pre m h)

theorem frame_RowsIdeal : Cert.quiescent_RowsIdeal := fun m ρ _ => Cert.RowsIdeal.Gen.frame m ρ

theorem algebraic : Cert.algebraic_PrepIdeal_RowsIdeal := by
  intro m ρ m' ρ' hpre hagree
  have hp : ∀ c : Dev Cert.PrepIdeal.nD, ∀ j, ((m ((c.tc : Thread Cert.PrepIdeal.nD Cert.PrepIdeal.τ).loc Cert.PrepIdeal.main_arg4) : IVec ⟨1, ![480]⟩ 32) j).toNat < 480 :=
    fun c => Cert.Prep.Ordered.words _ _ _ _ _ (hpre c)
  have ht : ∀ j : Cert.PrepIdeal.S480.Idx, (Cert.PrepIdeal.Gen.tbl m 0 j : BitVec 32).toNat < 480 := by
    rw [show Cert.PrepIdeal.Gen.tbl m 0 = m (((0 : Dev Cert.PrepIdeal.nD).tc : Thread Cert.PrepIdeal.nD Cert.PrepIdeal.τ).loc Cert.PrepIdeal.main_arg4) from Cert.PrepIdeal.Gen.V_main_arg4 m 0]
    exact hp 0
  have hg : ∀ c, Cert.RowsIdeal.Hand.Groups m' c := fun c j => by
    rw [(hagree c).2.2.2.2]
    exact hp c j
  refine ⟨_, _, _, (θ_run Cert.PrepIdeal.defs _ _).mono (fun _ h c => ⟨(h.1 c).1, (h.1 c).2.1, (h.1 c).2.2, h.2 c⟩)
    (θ_run_and (Cert.PrepIdeal.Hand.rows_run m ρ ht) (Cert.PrepIdeal.Hand.unchanged m ρ (Cert.PrepIdeal.Hand.ok_of _ ht))), ?_⟩
  refine (θ_run Cert.RowsIdeal.defs _ _).mono (fun r h c => ?_) (θ_run_and (Cert.RowsIdeal.Hand.rows_run m' ρ' hg) (Cert.RowsIdeal.Gen.unchanged (F := Ideal) m' ρ'))
  obtain ⟨e0, e1, e2, e3, e4⟩ := hagree c
  refine ⟨(h.1 c).1.trans ?_, (h.1 c).2.1.trans ?_, (h.1 c).2.2.trans ?_, h.2 c⟩
  · rw [e1, e3, e4]
  · rw [e0, e2, e4]
  · rw [e0, e2, e4]

end Cert.Proof.Rows
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_launched
public import proofs.«01_k».proof.Proof.Gen.Pre_ordered
public import proofs.«01_k».proof.Proof.Gen.Prep.Frame.Runs
public import proofs.«01_k».proof.Proof.Gen.RowsIdeal.Frame
public import proofs.«01_k».proof.Proof.Gen.PrepIdeal.Frame.Runs

public import proofs.«01_k».proof.Proof.KI.Claims
public import proofs.«01_k».proof.Proof.KI.Algebraic
public import proofs.«01_k».proof.Proof.PI.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Prep.Gen.facts, Cert.PrepIdeal.Gen.facts, Cert.RowsIdeal.Gen.facts,
    Cert.Pre_launched.Gen.facts, Cert.Pre_ordered.Gen.facts,
    Claims.frame_Kernel, Claims.frame_KernelIdeal, Claims.frame_ReferenceIdeal, Rows.frame_Prep, Rows.frame_PrepIdeal, Rows.frame_RowsIdeal,
    Claims.preserves, Claims.algebraic, trivial, Rows.algebraic⟩

end Cert.Proof

end
